-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)) (v5 : (c : Dev Cert.Kernel5Ideal.nD) → Buf (Elt Ideal) ((c.tc : Thread Cert.Kernel5Ideal.nD Cert.Kernel5Ideal.τ).loc Cert.Kernel5Ideal.main_v13_5)) (v6 : (c : Dev Cert.Kernel5Ideal.nD) → Buf (Elt Ideal) ((c.tc : Thread Cert.Kernel5Ideal.nD Cert.Kernel5Ideal.τ).loc Cert.Kernel5Ideal.main_v13_6)) (v7 : (c : Dev Cert.Kernel5Ideal.nD) → Buf (Elt Ideal) ((c.tc : Thread Cert.Kernel5Ideal.nD Cert.Kernel5Ideal.τ).loc Cert.Kernel5Ideal.main_v13_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_v13_5) = v5 c
          ∧ r.2.mem ((c.tc : Thread Cert.Kernel5Ideal.nD Cert.Kernel5Ideal.τ).loc Cert.Kernel5Ideal.main_v13_6) = v6 c
          ∧ r.2.mem ((c.tc : Thread Cert.Kernel5Ideal.nD Cert.Kernel5Ideal.τ).loc Cert.Kernel5Ideal.main_v13_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v29) = v5 c
          ∧ r.2.mem ((c.tc : Thread Cert.Reference5Ideal.nD Cert.Reference5Ideal.τ).loc Cert.Reference5Ideal.main_v31) = v6 c
          ∧ r.2.mem ((c.tc : Thread Cert.Reference5Ideal.nD Cert.Reference5Ideal.τ).loc Cert.Reference5Ideal.main_v21) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8x2048x128 : Shape := ⟨4, ![4, 8, 2048, 128]⟩
abbrev S1024 : Shape := ⟨1, ![1024]⟩
abbrev S_ : Shape := ⟨0, ![]⟩

class Facts : Prop where
  bcast_S_S4x8x2048x128 : S_.BroadcastsInDim S4x8x2048x128 (![] : Fin 0 → Fin S4x8x2048x128.rank)
  reducesTo_S4x8x2048x128_S_d0_1_2_3 : S4x8x2048x128.ReducesTo [0, 1, 2, 3] S_
  h_S_ : 0 < S_.numel
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4x8x2048x128 .f32) (main_arg8 : FVec F S1024 .f32) (main_arg9 : FVec F S1024 .f32) (main_v33 : IVec S_ 1) : IVec S_ 1 :=
  let main_v34 : FVec F S4x8x2048x128 .f32 := Host.absf main_arg7
  let main_cst_12 : FVec F S_ .f32 := constant S_ .f32 0x7F800000#32
  let main_v35 : FVec F S4x8x2048x128 .f32 := broadcastInDim S4x8x2048x128 ![] bcast_S_S4x8x2048x128 main_cst_12
  let main_v36 : IVec S4x8x2048x128 1 := cmpf .olt main_v34 main_v35
  let main_c_13 : IVec S_ 1 := constantI S_ 1 1#1
  let main_v37 : IVec S_ 1 := (fun x v => Host.reduce IntOp.andi x v reducesTo_S4x8x2048x128_S_d0_1_2_3 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4x8x2048x128 .f32) (main_arg5 : FVec F S4x8x2048x128 .f32) (main_arg6 : FVec F S4x8x2048x128 .f32) (main_arg7 : FVec F S4x8x2048x128 .f32) (main_arg8 : FVec F S1024 .f32) (main_arg9 : FVec F S1024 .f32) (main_v13 : IVec S_ 1) (main_v16 : IVec S4x8x2048x128 1) : IVec S_ 1 :=
  let main_c_5 : IVec S_ 1 := constantI S_ 1 1#1
  let main_v17 : IVec S_ 1 := (fun x v => Host.reduce IntOp.andi x v reducesTo_S4x8x2048x128_S_d0_1_2_3 h_S_) main_v16 main_c_5
  let main_v18 : IVec S_ 1 := andi main_v13 main_v17
  let main_v19 : FVec F S4x8x2048x128 .f32 := Host.absf main_arg4
  let main_cst_6 : FVec F S_ .f32 := constant S_ .f32 0x7F800000#32
  let main_v20 : FVec F S4x8x2048x128 .f32 := broadcastInDim S4x8x2048x128 ![] bcast_S_S4x8x2048x128 main_cst_6
  let main_v21 : IVec S4x8x2048x128 1 := cmpf .olt main_v19 main_v20
  let main_c_7 : IVec S_ 1 := constantI S_ 1 1#1
  let main_v22 : IVec S_ 1 := (fun x v => Host.reduce IntOp.andi x v reducesTo_S4x8x2048x128_S_d0_1_2_3 h_S_) main_v21 main_c_7
  let main_v23 : IVec S_ 1 := andi main_v18 main_v22
  let main_v24 : FVec F S4x8x2048x128 .f32 := Host.absf main_arg5
  let main_cst_8 : FVec F S_ .f32 := constant S_ .f32 0x7F800000#32
  let main_v25 : FVec F S4x8x2048x128 .f32 := broadcastInDim S4x8x2048x128 ![] bcast_S_S4x8x2048x128 main_cst_8
  let main_v26 : IVec S4x8x2048x128 1 := cmpf .olt main_v24 main_v25
  let main_c_9 : IVec S_ 1 := constantI S_ 1 1#1
  let main_v27 : IVec S_ 1 := (fun x v => Host.reduce IntOp.andi x v reducesTo_S4x8x2048x128_S_d0_1_2_3 h_S_) main_v26 main_c_9
  let main_v28 : IVec S_ 1 := andi main_v23 main_v27
  let main_v29 : FVec F S4x8x2048x128 .f32 := Host.absf main_arg6
  let main_cst_10 : FVec F S_ .f32 := constant S_ .f32 0x7F800000#32
  let main_v30 : FVec F S4x8x2048x128 .f32 := broadcastInDim S4x8x2048x128 ![] bcast_S_S4x8x2048x128 main_cst_10
  let main_v31 : IVec S4x8x2048x128 1 := cmpf .olt main_v29 main_v30
  let main_c_11 : IVec S_ 1 := constantI S_ 1 1#1
  let main_v32 : IVec S_ 1 := (fun x v => Host.reduce IntOp.andi x v reducesTo_S4x8x2048x128_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S4x8x2048x128 .f32) (main_arg1 : FVec F S4x8x2048x128 .f32) (main_arg2 : FVec F S4x8x2048x128 .f32) (main_arg3 : FVec F S4x8x2048x128 .f32) (main_arg4 : FVec F S4x8x2048x128 .f32) (main_arg5 : FVec F S4x8x2048x128 .f32) (main_arg6 : FVec F S4x8x2048x128 .f32) (main_arg7 : FVec F S4x8x2048x128 .f32) (main_arg8 : FVec F S1024 .f32) (main_arg9 : FVec F S1024 .f32) : IVec S_ 1 :=
  let main_v0 : FVec F S4x8x2048x128 .f32 := Host.absf main_arg0
  let main_cst : FVec F S_ .f32 := constant S_ .f32 0x7F800000#32
  let main_v1 : FVec F S4x8x2048x128 .f32 := broadcastInDim S4x8x2048x128 ![] bcast_S_S4x8x2048x128 main_cst
  let main_v2 : IVec S4x8x2048x128 1 := cmpf .olt main_v0 main_v1
  let main_c : IVec S_ 1 := constantI S_ 1 1#1
  let main_v3 : IVec S_ 1 := (fun x v => Host.reduce IntOp.andi x v reducesTo_S4x8x2048x128_S_d0_1_2_3 h_S_) main_v2 main_c
  let main_v4 : FVec F S4x8x2048x128 .f32 := Host.absf main_arg1
  let main_cst_0 : FVec F S_ .f32 := constant S_ .f32 0x7F800000#32
  let main_v5 : FVec F S4x8x2048x128 .f32 := broadcastInDim S4x8x2048x128 ![] bcast_S_S4x8x2048x128 main_cst_0
  let main_v6 : IVec S4x8x2048x128 1 := cmpf .olt main_v4 main_v5
  let main_c_1 : IVec S_ 1 := constantI S_ 1 1#1
  let main_v7 : IVec S_ 1 := (fun x v => Host.reduce IntOp.andi x v reducesTo_S4x8x2048x128_S_d0_1_2_3 h_S_) main_v6 main_c_1
  let main_v8 : IVec S_ 1 := andi main_v3 main_v7
  let main_v9 : FVec F S4x8x2048x128 .f32 := Host.absf main_arg2
  let main_cst_2 : FVec F S_ .f32 := constant S_ .f32 0x7F800000#32
  let main_v10 : FVec F S4x8x2048x128 .f32 := broadcastInDim S4x8x2048x128 ![] bcast_S_S4x8x2048x128 main_cst_2
  let main_v11 : IVec S4x8x2048x128 1 := cmpf .olt main_v9 main_v10
  let main_c_3 : IVec S_ 1 := constantI S_ 1 1#1
  let main_v12 : IVec S_ 1 := (fun x v => Host.reduce IntOp.andi x v reducesTo_S4x8x2048x128_S_d0_1_2_3 h_S_) main_v11 main_c_3
  let main_v13 : IVec S_ 1 := andi main_v8 main_v12
  let main_v14 : FVec F S4x8x2048x128 .f32 := Host.absf main_arg3
  let main_cst_4 : FVec F S_ .f32 := constant S_ .f32 0x7F800000#32
  let main_v15 : FVec F S4x8x2048x128 .f32 := broadcastInDim S4x8x2048x128 ![] bcast_S_S4x8x2048x128 main_cst_4
  let main_v16 : IVec S4x8x2048x128 1 := cmpf .olt main_v14 main_v15
  fn_part1 (F := F) main_arg4 main_arg5 main_arg6 main_arg7 main_arg8 main_arg9 main_v13 main_v16
-- ==== Kernel.lean ====
abbrev S4x8x2048x128 : Shape := ⟨4, ![4, 8, 2048, 128]⟩
abbrev S1024 : Shape := ⟨1, ![1024]⟩
abbrev S_ : Shape := ⟨0, ![]⟩
abbrev S4x8x128x128 : Shape := ⟨4, ![4, 8, 128, 128]⟩
abbrev S8x1x128 : Shape := ⟨3, ![8, 1, 128]⟩
abbrev S1x8x64x128 : Shape := ⟨4, ![1, 8, 64, 128]⟩
abbrev S1x8x128x128 : Shape := ⟨4, ![1, 8, 128, 128]⟩
abbrev S8x128x128 : Shape := ⟨3, ![8, 128, 128]⟩
abbrev S128x128 : Shape := ⟨2, ![128, 128]⟩
abbrev S256x256 : Shape := ⟨2, ![256, 256]⟩
abbrev S64x64 : Shape := ⟨2, ![64, 64]⟩
abbrev S64x128 : Shape := ⟨2, ![64, 128]⟩
abbrev S1x1x64x128 : Shape := ⟨4, ![1, 1, 64, 128]⟩
abbrev S256x128 : Shape := ⟨2, ![256, 128]⟩
abbrev S128x256 : Shape := ⟨2, ![128, 256]⟩
abbrev S1x128x128 : Shape := ⟨3, ![1, 128, 128]⟩
abbrev S1x128 : Shape := ⟨2, ![1, 128]⟩
abbrev S1x1x128 : Shape := ⟨3, ![1, 1, 128]⟩

abbrev nBuf : Space → Nat
  | .hbm => 16
  | .vmem => 25
  | .smem => 0
  | _ => 0

abbrev bufTy : (tb : Table) → Fin (tcTables nBuf tb) → BufTy
  | .hbm, ⟨0, _⟩ => ⟨S4x8x2048x128, .f32⟩
  | .hbm, ⟨1, _⟩ => ⟨S4x8x2048x128, .f32⟩
  | .hbm, ⟨2, _⟩ => ⟨S4x8x2048x128, .f32⟩
  | .hbm, ⟨3, _⟩ => ⟨S4x8x2048x128, .f32⟩
  | .hbm, ⟨4, _⟩ => ⟨S4x8x2048x128, .f32⟩
  | .hbm, ⟨5, _⟩ => ⟨S4x8x2048x128, .f32⟩
  | .hbm, ⟨6, _⟩ => ⟨S4x8x2048x128, .f32⟩
  | .hbm, ⟨7, _⟩ => ⟨S4x8x2048x128, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S4x8x128x128, .f32⟩
  | .hbm, ⟨12, _⟩ => ⟨S8x1x128, .f32⟩
  | .hbm, ⟨13, _⟩ => ⟨S8x1x128, .f32⟩
  | .hbm, ⟨14, _⟩ => ⟨S4x8x2048x128, .f32⟩
  | .hbm, ⟨15, _⟩ => ⟨S4x8x128x128, .f32⟩
  | .local _ .vmem, ⟨0, _⟩ => ⟨S1x8x64x128, .f32⟩
  | .local _ .vmem, ⟨1, _⟩ => ⟨S1x8x64x128, .f32⟩
  | .local _ .vmem, ⟨2, _⟩ => ⟨S1x8x64x128, .f32⟩
  | .local _ .vmem, ⟨3, _⟩ => ⟨S1x8x64x128, .f32⟩
  | .local _ .vmem, ⟨4, _⟩ => ⟨S1x8x64x128, .f32⟩
  | .local _ .vmem, ⟨5, _⟩ => ⟨S1x8x64x128, .f32⟩
  | .local _ .vmem, ⟨6, _⟩ => ⟨S1x8x64x128, .f32⟩
  | .local _ .vmem, ⟨7, _⟩ => ⟨S1x8x64x128, .f32⟩
  | .local _ .vmem, ⟨8, _⟩ => ⟨S1x8x64x128, .f32⟩
  | .local _ .vmem, ⟨9, _⟩ => ⟨S1x8x64x128, .f32⟩
  | .local _ .vmem, ⟨10, _⟩ => ⟨S1x8x64x128, .f32⟩
  | .local _ .vmem, ⟨11, _⟩ => ⟨S1x8x64x128, .f32⟩
  | .local _ .vmem, ⟨12, _⟩ => ⟨S1x8x64x128, .f32⟩
  | .local _ .vmem, ⟨13, _⟩ => ⟨S1x8x64x128, .f32⟩
  | .local _ .vmem, ⟨14, _⟩ => ⟨S1x8x64x128, .f32⟩
  | .local _ .vmem, ⟨15, _⟩ => ⟨S1x8x64x128, .f32⟩
  | .local _ .vmem, ⟨16, _⟩ => ⟨S1x8x128x128, .f32⟩
  | .local _ .vmem, ⟨17, _⟩ => ⟨S1x8x128x128, .f32⟩
  | .local _ .vmem, ⟨18, _⟩ => ⟨S8x1x128, .f32⟩
  | .local _ .vmem, ⟨19, _⟩ => ⟨S8x1x128, .f32⟩
  | .local _ .vmem, ⟨20, _⟩ => ⟨S1x8x64x128, .f32⟩
  | .local _ .vmem, ⟨21, _⟩ => ⟨S1x8x64x128, .f32⟩
  | .local _ .vmem, ⟨22, _⟩ => ⟨S1x8x128x128, .f32⟩
  | .local _ .vmem, ⟨23, _⟩ => ⟨S1x8x128x128, .f32⟩
  | .local _ .vmem, ⟨24, _⟩ => ⟨S8x128x128, .f32⟩
  | _, _ => ⟨S4x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 32], ![false, false]⟩

def k0_off1 (c0_i32_41 : BitVec 32) : Fin 4 → Nat :=
  let c0 : Index := 0#32
  let c0_i32_40 : BitVec 32 := 0#32
  let c8_i32 : BitVec 32 := 8#32
  let v161 : BitVec 32 := Scalar.muli c0_i32_40 c8_i32
  let v162 : BitVec 32 := Scalar.addi v161 c0_i32_41
  let v177 : Index := Scalar.indexCast v162
  let c0_50 : Index := 0#32
  let c0_51 : Index := 0#32
  ![0, v177.toNat, 0, 0]
def k0_off2 (c0_i32_41 : BitVec 32) : Fin 3 → Nat :=
  let c0_i32_40 : BitVec 32 := 0#32
  let c8_i32 : BitVec 32 := 8#32
  let v161 : BitVec 32 := Scalar.muli c0_i32_40 c8_i32
  let v162 : BitVec 32 := Scalar.addi v161 c0_i32_41
  let v1081 : Index := Scalar.indexCast v162
  let c0_376 : Index := 0#32
  let c0_377 : Index := 0#32
  ![v1081.toNat, 0, 0]
def k0_off3 (c0_i32_41 : BitVec 32) : Fin 3 → Nat :=
  let c0_i32_40 : BitVec 32 := 0#32
  let c8_i32 : BitVec 32 := 8#32
  let v161 : BitVec 32 := Scalar.muli c0_i32_40 c8_i32
  let v162 : BitVec 32 := Scalar.addi v161 c0_i32_41
  let v1661 : Index := Scalar.indexCast v162
  let c0_521 : Index := 0#32
  let c0_522 : Index := 0#32
  ![v1661.toNat, 0, 0]
def k0_cond2 (i : grid0.Coords) : BitVec 1 :=
  let arg1 : BitVec 32 := BitVec.ofNat 32 (i 1).val
  let c31_i32 : BitVec 32 := 31#32
  let v1865 : BitVec 1 := Scalar.cmpi .eq arg1 c31_i32
  let v1866 : BitVec 32 := Scalar.extui v1865
  let c0_i32_633 : BitVec 32 := 0#32
  let v1867 : BitVec 1 := Scalar.cmpi .ne v1866 c0_i32_633
  v1867

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4x8x2048x128 : Shape := ⟨4, ![4, 8, 2048, 128]⟩
abbrev S1024 : Shape := ⟨1, ![1024]⟩
abbrev S4x8x2048x2x64 : Shape := ⟨5, ![4, 8, 2048, 2, 64]⟩
abbrev S2048x4x8x2x64 : Shape := ⟨5, ![2048, 4, 8, 2, 64]⟩
abbrev S_ : Shape := ⟨0, ![]⟩
abbrev S4x8x2x64x64 : Shape := ⟨5, ![4, 8, 2, 64, 64]⟩
abbrev S1x4x8x2x64 : Shape := ⟨5, ![1, 4, 8, 2, 64]⟩
abbrev S4x8x2x64 : Shape := ⟨4, ![4, 8, 2, 64]⟩
abbrev S4x8x2x1x64 : Shape := ⟨5, ![4, 8, 2, 1, 64]⟩
abbrev S4x8x2x64x1 : Shape := ⟨5, ![4, 8, 2, 64, 1]⟩
abbrev S2048x4x8x2 : Shape := ⟨4, ![2048, 4, 8, 2]⟩
abbrev S2048x4x8x2x1 : Shape := ⟨5, ![2048, 4, 8, 2, 1]⟩
abbrev S8x2x64 : Shape := ⟨3, ![8, 2, 64]⟩
abbrev S1x1x8x2x64 : Shape := ⟨5, ![1, 1, 8, 2, 64]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x1x2x1x2x1 : Shape := ⟨6, ![1, 1, 2, 1, 2, 1]⟩
abbrev S4x8x2x64x1x64 : Shape := ⟨6, ![4, 8, 2, 64, 1, 64]⟩
abbrev S4x8x2x64x2x64 : Shape := ⟨6, ![4, 8, 2, 64, 2, 64]⟩
abbrev S4x8x128x128 : Shape := ⟨4, ![4, 8, 128, 128]⟩

abbrev nBuf : Space → Nat
  | .hbm => 156
  | .vmem => 0
  | .smem => 0
  | _ => 0

abbrev hbmTy0_0 (i : Nat) : BufTy := match i % 128 with
  | 0 => ⟨S4x8x2048x128, .f32⟩
  | 1 => ⟨S4x8x2048x128, .f32⟩
  | 2 => ⟨S4x8x2048x128, .f32⟩
  | 3 => ⟨S4x8x2048x128, .f32⟩
  | 4 => ⟨S4x8x2048x128, .f32⟩
  | 5 => ⟨S4x8x2048x128, .f32⟩
  | 6 => ⟨S4x8x2048x128, .f32⟩
  | 7 => ⟨S4x8x2048x128, .f32⟩
  | 8 => ⟨S1024, .f32⟩
  | 9 => ⟨S1024, .f32⟩
  | 10 => ⟨S4x8x2048x2x64, .f32⟩
  | 11 => ⟨S2048x4x8x2x64, .f32⟩
  | 12 => ⟨S4x8x2048x2x64, .f32⟩
  | 13 => ⟨S2048x4x8x2x64, .f32⟩
  | 14 => ⟨S4x8x2048x2x64, .f32⟩
  | 15 => ⟨S2048x4x8x2x64, .f32⟩
  | 16 => ⟨S4x8x2048x2x64, .f32⟩
  | 17 => ⟨S2048x4x8x2x64, .f32⟩
  | 18 => ⟨S4x8x2048x2x64, .f32⟩
  | 19 => ⟨S2048x4x8x2x64, .f32⟩
  | 20 => ⟨S4x8x2048x128, .f32⟩
  | 21 => ⟨S4x8x2048x2x64, .f32⟩
  | 22 => ⟨S2048x4x8x2x64, .f32⟩
  | 23 => ⟨S_, .f32⟩
  | 24 => ⟨S4x8x2x64x64, .f32⟩
  | 25 => ⟨S_, .f32⟩
  | 26 => ⟨S2048x4x8x2x64, .f32⟩
  | 27 => ⟨S_, .i32⟩
  | 28 => ⟨S2048x4x8x2x64, .f32⟩
  | 29 => ⟨S2048x4x8x2x64, .f32⟩
  | 30 => ⟨S2048x4x8x2x64, .f32⟩
  | 31 => ⟨S2048x4x8x2x64, .f32⟩
  | 32 => ⟨S2048x4x8x2x64, .f32⟩
  | 33 => ⟨S2048x4x8x2x64, .f32⟩
  | 34 => ⟨S_, .i32⟩
  | 35 => ⟨S4x8x2x64x64, .f32⟩
  | 36 => ⟨S2048x4x8x2x64, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1x4x8x2x64, .f32⟩
  | 44 => ⟨S4x8x2x64, .f32⟩
  | 45 => ⟨S_, .i32⟩
  | 46 => ⟨S_, .i32⟩
  | 47 => ⟨S_, .i32⟩
  | 48 => ⟨S_, .i32⟩
  | 49 => ⟨S1x4x8x2x64, .f32⟩
  | 50 => ⟨S4x8x2x64, .f32⟩
  | 51 => ⟨S_, .i32⟩
  | 52 => ⟨S_, .i32⟩
  | 53 => ⟨S_, .i32⟩
  | 54 => ⟨S_, .i32⟩
  | 55 => ⟨S1x4x8x2x64, .f32⟩
  | 56 => ⟨S4x8x2x64, .f32⟩
  | 57 => ⟨S_, .i32⟩
  | 58 => ⟨S_, .i32⟩
  | 59 => ⟨S_, .i32⟩
  | 60 => ⟨S_, .i32⟩
  | 61 => ⟨S1x4x8x2x64, .f32⟩
  | 62 => ⟨S4x8x2x64, .f32⟩
  | 63 => ⟨S_, .i32⟩
  | 64 => ⟨S_, .i32⟩
  | 65 => ⟨S_, .i32⟩
  | 66 => ⟨S_, .i32⟩
  | 67 => ⟨S1x4x8x2x64, .f32⟩
  | 68 => ⟨S4x8x2x64, .f32⟩
  | 69 => ⟨S_, .i32⟩
  | 70 => ⟨S_, .i32⟩
  | 71 => ⟨S_, .i32⟩
  | 72 => ⟨S_, .i32⟩
  | 73 => ⟨S1x4x8x2x64, .f32⟩
  | 74 => ⟨S4x8x2x64, .f32⟩
  | 75 => ⟨S4x8x2x64, .f32⟩
  | 76 => ⟨S4x8x2x64, .f32⟩
  | 77 => ⟨S4x8x2x1x64, .f32⟩
  | 78 => ⟨S4x8x2x64x64, .f32⟩
  | 79 => ⟨S4x8x2x64x64, .f32⟩
  | 80 => ⟨S4x8x2x64x1, .f32⟩
  | 81 => ⟨S4x8x2x1x64, .f32⟩
  | 82 => ⟨S4x8x2x64x64, .f32⟩
  | 83 => ⟨S4x8x2x64x64, .f32⟩
  | 84 => ⟨S4x8x2x64x64, .f32⟩
  | 85 => ⟨S4x8x2x64x64, .f32⟩
  | 86 => ⟨S4x8x2x64x1, .f32⟩
  | 87 => ⟨S4x8x2x1x64, .f32⟩
  | 88 => ⟨S4x8x2x64x64, .f32⟩
  | 89 => ⟨S4x8x2x64x64, .f32⟩
  | 90 => ⟨S4x8x2x64x64, .f32⟩
  | 91 => ⟨S4x8x2x64x64, .f32⟩
  | 92 => ⟨S4x8x2x64, .f32⟩
  | 93 => ⟨S1x4x8x2x64, .f32⟩
  | 94 => ⟨S_, .i32⟩
  | 95 => ⟨S_, .i32⟩
  | 96 => ⟨S_, .i32⟩
  | 97 => ⟨S_, .i32⟩
  | 98 => ⟨S2048x4x8x2x64, .f32⟩
  | 99 => ⟨S_, .i32⟩
  | 100 => ⟨S_, .i32⟩
  | 101 => ⟨S_, .f32⟩
  | 102 => ⟨S2048x4x8x2, .f32⟩
  | 103 => ⟨S2048x4x8x2x1, .f32⟩
  | 104 => ⟨S_, .f32⟩
  | 105 => ⟨S2048x4x8x2x1, .f32⟩
  | 106 => ⟨S2048x4x8x2x1, .f32⟩
  | 107 => ⟨S2048x4x8x2x64, .f32⟩
  | 108 => ⟨S2048x4x8x2x64, .f32⟩
  | 109 => ⟨S2048x4x8x2x64, .f32⟩
  | 110 => ⟨S_, .f32⟩
  | 111 => ⟨S2048x4x8x2, .f32⟩
  | 112 => ⟨S2048x4x8x2x1, .f32⟩
  | 113 => ⟨S_, .f32⟩
  | 114 => ⟨S2048x4x8x2x1, .f32⟩
  | 115 => ⟨S2048x4x8x2x1, .f32⟩
  | 116 => ⟨S2048x4x8x2x64, .f32⟩
  | 117 => ⟨S2048x4x8x2x64, .f32⟩
  | 118 => ⟨S_, .f32⟩
  | 119 => ⟨S2048x4x8x2x1, .f32⟩
  | 120 => ⟨S2048x4x8x2x1, .f32⟩
  | 121 => ⟨S2048x4x8x2x1, .f32⟩
  | 122 => ⟨S2048x4x8x2x64, .f32⟩
  | 123 => ⟨S2048x4x8x2x64, .f32⟩
  | 124 => ⟨S8x2x64, .f32⟩
  | 125 => ⟨S1x1x8x2x64, .f32⟩
  | 126 => ⟨S2048x4x8x2x64, .f32⟩
  | 127 => ⟨S2048x4x8x2x64, .f32⟩
  | _ => ⟨S4x8x2048x128, .f32⟩

abbrev hbmTy0_1 (i : Nat) : BufTy := match i % 128 with
  | 0 => ⟨S8x2x64, .f32⟩
  | 1 => ⟨S1x1x8x2x64, .f32⟩
  | 2 => ⟨S2048x4x8x2x64, .f32⟩
  | 3 => ⟨S2048x4x8x2x64, .f32⟩
  | 4 => ⟨S4x8x2048x2x64, .f32⟩
  | 5 => ⟨S2048x4x8x2x64, .f32⟩
  | 6 => ⟨S2048x4x8x2x64, .f32⟩
  | 7 => ⟨S4x8x2048x2x64, .f32⟩
  | 8 => ⟨S2048x4x8x2x64, .f32⟩
  | 9 => ⟨S2048x4x8x2x64, .f32⟩
  | 10 => ⟨S4x8x2048x2x64, .f32⟩
  | 11 => ⟨S4x8x2048x128, .f32⟩
  | 12 => ⟨S2, .i32⟩
  | 13 => ⟨S2x1, .i32⟩
  | 14 => ⟨S2, .i32⟩
  | 15 => ⟨S1x2, .i32⟩
  | 16 => ⟨S2x2, .i32⟩
  | 17 => ⟨S2x2, .i32⟩
  | 18 => ⟨S2x2, .i1⟩
  | 19 => ⟨S1x1x2x1x2x1, .i1⟩
  | 20 => ⟨S4x8x2x64x1x64, .f32⟩
  | 21 => ⟨S_, .f32⟩
  | 22 => ⟨S_, .f32⟩
  | 23 => ⟨S4x8x2x64x2x64, .i1⟩
  | 24 => ⟨S4x8x2x64x2x64, .f32⟩
  | 25 => ⟨S4x8x2x64x2x64, .f32⟩
  | 26 => ⟨S4x8x2x64x2x64, .f32⟩
  | 27 => ⟨S4x8x128x128, .f32⟩
  | _ => ⟨S4x8x2048x128, .f32⟩

abbrev hbmTy (i : Nat) : BufTy := match i / 128 with
  | 0 => hbmTy0_0 i
  | 1 => hbmTy0_1 i
  | _ => ⟨S4x8x2048x128, .f32⟩

abbrev bufTy : (tb : Table) → Fin (tcTables nBuf tb) → BufTy
  | .hbm, ⟨i, _⟩ => hbmTy i
  | _, _ => ⟨S4x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_c : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev main_v15_8 : Ref sig .tc := ⟨.hbm, 36, rfl⟩
abbrev main_while0c_c_15 : Ref sig .tc := ⟨.hbm, 37, rfl⟩
abbrev main_while0c_v61 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v0 : Ref sig .tc := ⟨.hbm, 43, rfl⟩
abbrev main_while0b_v61 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v62 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v63 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_v0 : Ref sig .tc := ⟨.hbm, 61, rfl⟩
abbrev main_while0b_v64 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_c_2 : Ref sig .tc := ⟨.hbm, 66, rfl⟩
abbrev main_while0b_call4_v0 : Ref sig .tc := ⟨.hbm, 67, rfl⟩
abbrev main_while0b_v65 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_c_2 : Ref sig .tc := ⟨.hbm, 72, rfl⟩
abbrev main_while0b_call5_v0 : Ref sig .tc := ⟨.hbm, 73, rfl⟩
abbrev main_while0b_v66 : Ref sig .tc := ⟨.hbm, 74, rfl⟩
abbrev main_while0b_v67 : Ref sig .tc := ⟨.hbm, 75, rfl⟩
abbrev main_while0b_v68 : Ref sig .tc := ⟨.hbm, 76, rfl⟩
abbrev main_while0b_v69 : Ref sig .tc := ⟨.hbm, 77, rfl⟩
abbrev main_while0b_v70 : Ref sig .tc := ⟨.hbm, 78, rfl⟩
abbrev main_while0b_v71 : Ref sig .tc := ⟨.hbm, 79, rfl⟩
abbrev main_while0b_v72 : Ref sig .tc := ⟨.hbm, 80, rfl⟩
abbrev main_while0b_v73 : Ref sig .tc := ⟨.hbm, 81, rfl⟩
abbrev main_while0b_v74 : Ref sig .tc := ⟨.hbm, 82, rfl⟩
abbrev main_while0b_v75 : Ref sig .tc := ⟨.hbm, 83, rfl⟩
abbrev main_while0b_v76 : Ref sig .tc := ⟨.hbm, 84, rfl⟩
abbrev main_while0b_v77 : Ref sig .tc := ⟨.hbm, 85, rfl⟩
abbrev main_while0b_v78 : Ref sig .tc := ⟨.hbm, 86, rfl⟩
abbrev main_while0b_v79 : Ref sig .tc := ⟨.hbm, 87, rfl⟩
abbrev main_while0b_v80 : Ref sig .tc := ⟨.hbm, 88, rfl⟩
abbrev main_while0b_v81 : Ref sig .tc := ⟨.hbm, 89, rfl⟩
abbrev main_while0b_v82 : Ref sig .tc := ⟨.hbm, 90, rfl⟩
abbrev main_while0b_v83 : Ref sig .tc := ⟨.hbm, 91, rfl⟩
abbrev main_while0b_v84 : Ref sig .tc := ⟨.hbm, 92, rfl⟩
abbrev main_while0b_call6_v0 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_call6_c_2 : Ref sig .tc := ⟨.hbm, 97, rfl⟩
abbrev main_while0b_v85 : Ref sig .tc := ⟨.hbm, 98, rfl⟩
abbrev main_while0b_c_15 : Ref sig .tc := ⟨.hbm, 99, rfl⟩
abbrev main_while0b_v86 : Ref sig .tc := ⟨.hbm, 100, rfl⟩
abbrev main_cst_1 : Ref sig .tc := ⟨.hbm, 101, rfl⟩
abbrev main_v16 : Ref sig .tc := ⟨.hbm, 102, rfl⟩
abbrev main_v17 : Ref sig .tc := ⟨.hbm, 103, rfl⟩
abbrev main_cst_2 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_cst_3 : Ref sig .tc := ⟨.hbm, 110, rfl⟩
abbrev main_v23 : Ref sig .tc := ⟨.hbm, 111, rfl⟩
abbrev main_v24 : Ref sig .tc := ⟨.hbm, 112, rfl⟩
abbrev main_cst_4 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_cst_5 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_6 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_call7_v3 : Ref sig .tc := ⟨.hbm, 153, rfl⟩
abbrev main_v59 : Ref sig .tc := ⟨.hbm, 154, rfl⟩
abbrev main_v60 : Ref sig .tc := ⟨.hbm, 155, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S4x256x2048 : Shape := ⟨3, ![4, 256, 2048]⟩
abbrev S2048 : Shape := ⟨1, ![2048]⟩
abbrev S2048x512 : Shape := ⟨2, ![2048, 512]⟩
abbrev S2048x1024 : Shape := ⟨2, ![2048, 1024]⟩
abbrev S1024x2048 : Shape := ⟨2, ![1024, 2048]⟩
abbrev S1x2048 : Shape := ⟨2, ![1, 2048]⟩
abbrev S1024x1024 : Shape := ⟨2, ![1024, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x1024, .f32⟩
  | .hbm, ⟨5, _⟩ => ⟨S2048x1024, .bf16⟩
  | .hbm, ⟨6, _⟩ => ⟨S1024x2048, .f32⟩
  | .hbm, ⟨7, _⟩ => ⟨S1x2048, .f32⟩
  | .hbm, ⟨8, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S256x512, .f32⟩
  | .local _ .vmem, ⟨6, _⟩ => ⟨S256x512, .f32⟩
  | .local _ .vmem, ⟨7, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x256x2048 : Shape := ⟨3, ![4, 256, 2048]⟩
abbrev S2048 : Shape := ⟨1, ![2048]⟩
abbrev S2048x512 : Shape := ⟨2, ![2048, 512]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x512 : Shape := ⟨3, ![4, 256, 512]⟩
abbrev S4x256x1024 : Shape := ⟨3, ![4, 256, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S4x256x512, .f32⟩
  | .hbm, ⟨21, _⟩ => ⟨S4x256x512, .f32⟩
  | .hbm, ⟨22, _⟩ => ⟨S4x256x1024, .f32⟩
  | .hbm, ⟨23, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x2048, .f32⟩
  | .hbm, ⟨4, _⟩ => ⟨S8192x1024, .bf16⟩
  | .hbm, ⟨5, _⟩ => ⟨S8192x1024, .bf16⟩
  | .hbm, ⟨6, _⟩ => ⟨S2048x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S8192x1024 : Shape := ⟨2, ![8192, 1024]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x512 : Shape := ⟨2, ![2048, 512]⟩
abbrev S4x256x512 : Shape := ⟨3, ![4, 256, 512]⟩
abbrev S512x2048 : Shape := ⟨2, ![512, 2048]⟩
abbrev S1x2048 : Shape := ⟨2, ![1, 2048]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x512, .f32⟩
  | .hbm, ⟨3, _⟩ => ⟨S4x256x512, .f32⟩
  | .hbm, ⟨4, _⟩ => ⟨S4x256x512, .f32⟩
  | .hbm, ⟨5, _⟩ => ⟨S512x2048, .f32⟩
  | .hbm, ⟨6, _⟩ => ⟨S2048x512, .bf16⟩
  | .hbm, ⟨7, _⟩ => ⟨S512x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x2048 : Shape := ⟨2, ![8192, 2048]⟩
abbrev S2048 : Shape := ⟨1, ![2048]⟩
abbrev S2048x512 : Shape := ⟨2, ![2048, 512]⟩
abbrev S4x256x512 : Shape := ⟨3, ![4, 256, 512]⟩
abbrev S512x2048 : Shape := ⟨2, ![512, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x512 : Shape := ⟨3, ![4, 2048, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x512, .f32⟩
  | .hbm, ⟨3, _⟩ => ⟨S4x256x512, .f32⟩
  | .hbm, ⟨4, _⟩ => ⟨S4x256x512, .f32⟩
  | .hbm, ⟨5, _⟩ => ⟨S512x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x512, .f32⟩
  | .hbm, ⟨24, _⟩ => ⟨S4x2048x4x128, .f32⟩
  | .hbm, ⟨25, _⟩ => ⟨S4x256x4x128, .f32⟩
  | .hbm, ⟨26, _⟩ => ⟨S4x256x4x128, .f32⟩
  | .hbm, ⟨27, _⟩ => ⟨S4x4x2048x256, .f32⟩
  | .hbm, ⟨28, _⟩ => ⟨S_, .f32⟩
  | .hbm, ⟨29, _⟩ => ⟨S4x4x2048x256, .f32⟩
  | .hbm, ⟨30, _⟩ => ⟨S4x4x2048x256, .f32⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S4x4x2048, .f32⟩
  | .hbm, ⟨36, _⟩ => ⟨S4x4x2048x1, .f32⟩
  | .hbm, ⟨37, _⟩ => ⟨S4x4x2048x256, .f32⟩
  | .hbm, ⟨38, _⟩ => ⟨S4x4x2048x256, .f32⟩
  | .hbm, ⟨39, _⟩ => ⟨S4x4x2048x256, .f32⟩
  | .hbm, ⟨40, _⟩ => ⟨S_, .f32⟩
  | .hbm, ⟨41, _⟩ => ⟨S4x4x2048, .f32⟩
  | .hbm, ⟨42, _⟩ => ⟨S4x4x2048x1, .f32⟩
  | .hbm, ⟨43, _⟩ => ⟨S4x4x2048x256, .f32⟩
  | .hbm, ⟨44, _⟩ => ⟨S4x4x2048x256, .f32⟩
  | .hbm, ⟨45, _⟩ => ⟨S4x4x128x2048, .f32⟩
  | .hbm, ⟨46, _⟩ => ⟨S4x2048x4x128, .f32⟩
  | .hbm, ⟨47, _⟩ => ⟨S4x2048x512, .f32⟩
  | .hbm, ⟨48, _⟩ => ⟨S4x2048x2048, .f32⟩
  | .hbm, ⟨49, _⟩ => ⟨S4x2048x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S4x2048x2048 : Shape := ⟨3, ![4, 2048, 2048]⟩
abbrev S2048 : Shape := ⟨1, ![2048]⟩
abbrev S2048x7504 : Shape := ⟨2, ![2048, 7504]⟩
abbrev S7504x2048 : Shape := ⟨2, ![7504, 2048]⟩
abbrev S3072x2048 : Shape := ⟨2, ![3072, 2048]⟩
abbrev S1024x2048 : Shape := ⟨2, ![1024, 2048]⟩
abbrev S_ : Shape := ⟨0, ![]⟩
abbrev S256x2048 : Shape := ⟨2, ![256, 2048]⟩
abbrev S80x2048 : Shape := ⟨2, ![80, 2048]⟩
abbrev S176x2048 : Shape := ⟨2, ![176, 2048]⟩
abbrev S7680x2048 : Shape := ⟨2, ![7680, 2048]⟩
abbrev S8192x2048 : Shape := ⟨2, ![8192, 2048]⟩
abbrev S1x2048 : Shape := ⟨2, ![1, 2048]⟩
abbrev S8192x3072 : Shape := ⟨2, ![8192, 3072]⟩
abbrev S8192x1024 : Shape := ⟨2, ![8192, 1024]⟩
abbrev S131072x64 : Shape := ⟨2, ![131072, 64]⟩
abbrev S8192x512 : Shape := ⟨2, ![8192, 512]⟩
abbrev S512x2048 : Shape := ⟨2, ![512, 2048]⟩
abbrev S1024x512 : Shape := ⟨2, ![1024, 512]⟩
abbrev S16384x64 : Shape := ⟨2, ![16384, 64]⟩
abbrev S1024 : Shape := ⟨1, ![1024]⟩
abbrev S1024x1 : Shape := ⟨2, ![1024, 1]⟩
abbrev S1024x64 : Shape := ⟨2, ![1024, 64]⟩

abbrev nBuf : Space → Nat
  | .hbm => 26
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7504, .f32⟩
  | .hbm, ⟨3, _⟩ => ⟨S7504x2048, .f32⟩
  | .hbm, ⟨4, _⟩ => ⟨S3072x2048, .f32⟩
  | .hbm, ⟨5, _⟩ => ⟨S1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S3072x2048, .f32⟩
  | .hbm, ⟨10, _⟩ => ⟨S256x2048, .f32⟩
  | .hbm, ⟨11, _⟩ => ⟨S80x2048, .f32⟩
  | .hbm, ⟨12, _⟩ => ⟨S_, .f32⟩
  | .hbm, ⟨13, _⟩ => ⟨S176x2048, .f32⟩
  | .hbm, ⟨14, _⟩ => ⟨S7680x2048, .f32⟩
  | .hbm, ⟨15, _⟩ => ⟨S7680x2048, .bf16⟩
  | .hbm, ⟨16, _⟩ => ⟨S8192x2048, .f32⟩
  | .hbm, ⟨17, _⟩ => ⟨S1x2048, .f32⟩
  | .hbm, ⟨18, _⟩ => ⟨S8192x3072, .f32⟩
  | .hbm, ⟨19, _⟩ => ⟨S8192x1024, .bf16⟩
  | .hbm, ⟨20, _⟩ => ⟨S131072x64, .f32⟩
  | .hbm, ⟨21, _⟩ => ⟨S8192x1024, .bf16⟩
  | .hbm, ⟨22, _⟩ => ⟨S131072x64, .f32⟩
  | .hbm, ⟨23, _⟩ => ⟨S8192x1024, .bf16⟩
  | .hbm, ⟨24, _⟩ => ⟨S8192x1024, .bf16⟩
  | .hbm, ⟨25, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S16384x64, .f32⟩
  | .local _ .vmem, ⟨10, _⟩ => ⟨S16384x64, .f32⟩
  | .local _ .vmem, ⟨11, _⟩ => ⟨S1024x512, .bf16⟩
  | .local _ .vmem, ⟨12, _⟩ => ⟨S1024x512, .bf16⟩
  | .local _ .vmem, ⟨13, _⟩ => ⟨S16384x64, .f32⟩
  | .local _ .vmem, ⟨14, _⟩ => ⟨S16384x64, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 15], ![false, false]⟩

def k0_cond2 (i : grid0.Coords) : BitVec 1 :=
  let arg1 : BitVec 32 := BitVec.ofNat 32 (i 1).val
  let c0_i32_4 : BitVec 32 := 0#32
  let v7 : BitVec 1 := Scalar.cmpi .sge arg1 c0_i32_4
  let c6_i32 : BitVec 32 := 6#32
  let v8 : BitVec 1 := Scalar.cmpi .slt arg1 c6_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c6_i32_6 : BitVec 32 := 6#32
  let v12 : BitVec 1 := Scalar.cmpi .sge arg1 c6_i32_6
  let c8_i32 : BitVec 32 := 8#32
  let v13 : BitVec 1 := Scalar.cmpi .slt arg1 c8_i32
  let v14 : BitVec 1 := Scalar.andi v12 v13
  let v15 : BitVec 32 := Scalar.extui v14
  let c0_i32_7 : BitVec 32 := 0#32
  let v16 : BitVec 1 := Scalar.cmpi .ne v15 c0_i32_7
  v16

def k0_cond4 (i : grid0.Coords) : BitVec 1 :=
  let arg1 : BitVec 32 := BitVec.ofNat 32 (i 1).val
  let c8_i32_8 : BitVec 32 := 8#32
  let v17 : BitVec 1 := Scalar.cmpi .sge arg1 c8_i32_8
  let c10_i32 : BitVec 32 := 10#32
  let v18 : BitVec 1 := Scalar.cmpi .slt arg1 c10_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg1 : BitVec 32 := BitVec.ofNat 32 (i 1).val
  let c8_i32_22 : BitVec 32 := 8#32
  let v47 : BitVec 1 := Scalar.cmpi .eq arg1 c8_i32_22
  let v48 : BitVec 32 := Scalar.extui v47
  let c0_i32_23 : BitVec 32 := 0#32
  let v49 : BitVec 1 := Scalar.cmpi .ne v48 c0_i32_23
  v49

def k0_cond6 (i : grid0.Coords) : BitVec 1 :=
  let arg1 : BitVec 32 := BitVec.ofNat 32 (i 1).val
  let c9_i32 : BitVec 32 := 9#32
  let v50 : BitVec 1 := Scalar.cmpi .eq arg1 c9_i32
  let v51 : BitVec 32 := Scalar.extui v50
  let c0_i32_24 : BitVec 32 := 0#32
  let v52 : BitVec 1 := Scalar.cmpi .ne v51 c0_i32_24
  v52

def k0_cond7 (i : grid0.Coords) : BitVec 1 :=
  let arg1 : BitVec 32 := BitVec.ofNat 32 (i 1).val
  let c8_i32_10 : BitVec 32 := 8#32
  let v22 : BitVec 1 := Scalar.cmpi .sge arg1 c8_i32_10
  let c10_i32_11 : BitVec 32 := 10#32
  let v23 : BitVec 1 := Scalar.cmpi .slt arg1 c10_i32_11
  let v24 : BitVec 1 := Scalar.andi v22 v23
  let v25 : BitVec 32 := Scalar.extui v24
  let c0_i32_12 : BitVec 32 := 0#32
  let v26 : BitVec 1 := Scalar.cmpi .ne v25 c0_i32_12
  v26

def k0_cond8 (i : grid0.Coords) : BitVec 1 :=
  let arg1 : BitVec 32 := BitVec.ofNat 32 (i 1).val
  let c10_i32_13 : BitVec 32 := 10#32
  let v27 : BitVec 1 := Scalar.cmpi .sge arg1 c10_i32_13
  let c12_i32 : BitVec 32 := 12#32
  let v28 : BitVec 1 := Scalar.cmpi .slt arg1 c12_i32
  let v29 : BitVec 1 := Scalar.andi v27 v28
  let v30 : BitVec 32 := Scalar.extui v29
  let c0_i32_14 : BitVec 32 := 0#32
  let v31 : BitVec 1 := Scalar.cmpi .ne v30 c0_i32_14
  v31

def k0_cond9 (i : grid0.Coords) : BitVec 1 :=
  let arg1 : BitVec 32 := BitVec.ofNat 32 (i 1).val
  let c10_i32_22 : BitVec 32 := 10#32
  let v47 : BitVec 1 := Scalar.cmpi .eq arg1 c10_i32_22
  let v48 : BitVec 32 := Scalar.extui v47
  let c0_i32_23 : BitVec 32 := 0#32
  let v49 : BitVec 1 := Scalar.cmpi .ne v48 c0_i32_23
  v49

def k0_cond10 (i : grid0.Coords) : BitVec 1 :=
  let arg1 : BitVec 32 := BitVec.ofNat 32 (i 1).val
  let c11_i32 : BitVec 32 := 11#32
  let v50 : BitVec 1 := Scalar.cmpi .eq arg1 c11_i32
  let v51 : BitVec 32 := Scalar.extui v50
  let c0_i32_24 : BitVec 32 := 0#32
  let v52 : BitVec 1 := Scalar.cmpi .ne v51 c0_i32_24
  v52

def k0_cond11 (i : grid0.Coords) : BitVec 1 :=
  let arg1 : BitVec 32 := BitVec.ofNat 32 (i 1).val
  let c10_i32_15 : BitVec 32 := 10#32
  let v32 : BitVec 1 := Scalar.cmpi .sge arg1 c10_i32_15
  let c12_i32_16 : BitVec 32 := 12#32
  let v33 : BitVec 1 := Scalar.cmpi .slt arg1 c12_i32_16
  let v34 : BitVec 1 := Scalar.andi v32 v33
  let v35 : BitVec 32 := Scalar.extui v34
  let c0_i32_17 : BitVec 32 := 0#32
  let v36 : BitVec 1 := Scalar.cmpi .ne v35 c0_i32_17
  v36

def k0_cond12 (i : grid0.Coords) : BitVec 1 :=
  let arg1 : BitVec 32 := BitVec.ofNat 32 (i 1).val
  let c12_i32_18 : BitVec 32 := 12#32
  let v37 : BitVec 1 := Scalar.cmpi .sge arg1 c12_i32_18
  let c14_i32 : BitVec 32 := 14#32
  let v38 : BitVec 1 := Scalar.cmpi .slt arg1 c14_i32
  let v39 : BitVec 1 := Scalar.andi v37 v38
  let v40 : BitVec 32 := Scalar.extui v39
  let c0_i32_19 : BitVec 32 := 0#32
  let v41 : BitVec 1 := Scalar.cmpi .ne v40 c0_i32_19
  v41

def k0_cond13 (i : grid0.Coords) : BitVec 1 :=
  let arg1 : BitVec 32 := BitVec.ofNat 32 (i 1).val
  let c14_i32_20 : BitVec 32 := 14#32
  let v42 : BitVec 1 := Scalar.cmpi .sge arg1 c14_i32_20
  let c15_i32 : BitVec 32 := 15#32
  let v43 : BitVec 1 := Scalar.cmpi .slt arg1 c15_i32
  let v44 : BitVec 1 := Scalar.andi v42 v43
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16384x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16384x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x2048x2048 : Shape := ⟨3, ![4, 2048, 2048]⟩
abbrev S2048 : Shape := ⟨1, ![2048]⟩
abbrev S2048x7504 : Shape := ⟨2, ![2048, 7504]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x7504 : Shape := ⟨2, ![8192, 7504]⟩
abbrev S8192x1024 : Shape := ⟨2, ![8192, 1024]⟩
abbrev S8192x256 : Shape := ⟨2, ![8192, 256]⟩
abbrev S8192x80 : Shape := ⟨2, ![8192, 80]⟩
abbrev S8192x176 : Shape := ⟨2, ![8192, 176]⟩
abbrev S8192x512 : Shape := ⟨2, ![8192, 512]⟩
abbrev S8192x3072 : Shape := ⟨2, ![8192, 3072]⟩
abbrev S131072x64 : Shape := ⟨2, ![131072, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x7504, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x7504, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x256, .f32⟩
  | .hbm, ⟨25, _⟩ => ⟨S8192x80, .f32⟩
  | .hbm, ⟨26, _⟩ => ⟨S_, .f32⟩
  | .hbm, ⟨27, _⟩ => ⟨S8192x176, .f32⟩
  | .hbm, ⟨28, _⟩ => ⟨S8192x512, .f32⟩
  | .hbm, ⟨29, _⟩ => ⟨S8192x3072, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S131072x64, .f32⟩
  | .hbm, ⟨35, _⟩ => ⟨S8192x1024, .bf16⟩
  | .hbm, ⟨36, _⟩ => ⟨S131072x64, .f32⟩
  | .hbm, ⟨37, _⟩ => ⟨S8192x1024, .bf16⟩
  | .hbm, ⟨38, _⟩ => ⟨S8192x1024, .f32⟩
  | .hbm, ⟨39, _⟩ => ⟨S8192x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Stages.lean ====
/-
  The chunk body for one pair of heads, as a chain of named stages: each is one of the body's values as a function of
  the values before it. The body computes eight pairs side by side by the same chain.
-/
module

public import proofs.«01_k».proof.Proof.Gen.KernelIdeal.Skeleton
public import Idealize.ShloMosaic.PureOps.Ideal

@[expose] public section

noncomputable section

namespace Cert.KernelIdeal.Stages

open Idealize.ShloMosaic Idealize.SL.Sem Cert.KernelIdeal Cert.KernelIdeal.Gen

/-- A pair's chunk: 64 tokens by two heads of 64 lanes. -/
abbrev Chunk := FVec Ideal S64x128 .f32
/-- A pair's square matrix: two heads of 64 rows by two heads of 64 lanes. -/
abbrev Sq := FVec Ideal S128x128 .f32
/-- Two square matrices one above the other. -/
abbrev Tall := FVec Ideal S256x128 .f32

/-- The mask of the cross products: same head, column token before row token, or equal to it in the lower rows. -/
def mask : IVec S256x256 1 :=
  k0_pay11 (iota .tc S256x256 32 [0] iota_S256x256_d0_w32) k0_pay5 k0_pay6 (k0_pay7 k0_pay5 64#32) (k0_pay8 k0_pay6)
    (k0_pay9 k0_pay6) (k0_pay10 k0_pay6)

/-- The matrix of ones on the lanes of the same head. -/
def ones : FVec Ideal S128x128 .bf16 :=
  k0_pay17 k0_pay14 (iota .tc S128x128 32 [1] iota_S128x128_d1_w32) 64#32 k0_pay15 k0_pay16

/-- A zero chunk. -/
def zeroC : Chunk := broadcast S64x128 (Scalar.ofBits .f32 0x00000000#32)

/-- The first part of a value in bf16, what is left after it, and what is left after that. -/
def hi (x : Chunk) : FVec Ideal S64x128 .bf16 := truncf .bf16 x bitsLt_bf16_f32
def rest (x : Chunk) : Chunk := subf x (extf .f32 (hi x) bitsLt_bf16_f32)

/-- The running sum over the tokens: a product with a lower triangle of ones, in three parts. -/
def cums (ld : Chunk) : Chunk :=
  let d := fun y => matmul dot_S64x64_S64x128_S64x128_1_0_0_1_n_n none (k0_pay12 (F := Ideal)) y
    (constant S64x128 .f32 0x00000000#32)
  addf (d (hi ld)) (addf (d (hi (rest ld))) (d (hi (rest (rest ld)))))

/-- The two heads' halves of a chunk as the two diagonal blocks. -/
def diag (x : Chunk) : Sq :=
  concatenate S128x128 0 [⟨S64x128, select k0_pay13 x zeroC⟩, ⟨S64x128, select k0_pay13 zeroC x⟩]
    concatenates_S64x128_S64x128_S128x128_d0

def aT (kk ld cum : Chunk) : Sq := diag (mulf (subf zeroC kk) (exp (subf cum ld)))
def dnT (x cum : Chunk) : Sq := diag (mulf x (exp (subf zeroC cum)))
def upT (x cum : Chunk) : Sq := diag (mulf x (exp cum))

/-- Two square matrices one above the other. -/
def over (a b : Sq) : Tall :=
  concatenate S256x128 0 [⟨S128x128, a⟩, ⟨S128x128, b⟩] concatenates_S128x128_S128x128_S256x128_d0

def bf {s : Shape} (x : FVec Ideal s .f32) : FVec Ideal s .bf16 := truncf .bf16 x bitsLt_bf16_f32

def cross (ar bk : Tall) : FVec Ideal S256x256 .f32 :=
  select mask (matmul dot_S256x128_S256x128_S256x256_1_1_0_0_n_n none (bf ar) (bf bk)
    (constant S256x256 .f32 0x00000000#32)) (broadcast S256x256 (Scalar.ofBits .f32 0x00000000#32))

def ab (c : FVec Ideal S256x256 .f32) : Sq := extractStridedSlice S128x128 ![0, 0] c slices_S256x256_o0_0_S128x128
def rb (c : FVec Ideal S256x256 .f32) : Sq := extractStridedSlice S128x128 ![128, 0] c slices_S256x256_o128_0_S128x128
def akrk (c : FVec Ideal S256x256 .f32) : Tall := extractStridedSlice S256x128 ![0, 128] c slices_S256x256_o0_128_S256x128

def mm (a b : Sq) : Sq :=
  matmul dot_S128x128_S128x128_S128x128_1_0_0_1_n_n none (bf a) (bf b) (constant S128x128 .f32 0x00000000#32)

/-- `x` times `x` and `t` side by side, then the left and the right half. -/
def pairMul (x t : Sq) : FVec Ideal S128x256 .f32 :=
  matmul dot_S128x128_S128x256_S128x256_1_0_0_1_n_n none (bf x)
    (bf (concatenate S128x256 1 [⟨S128x128, x⟩, ⟨S128x128, t⟩] concatenates_S128x128_S128x128_S128x256_d1))
    (constant S128x256 .f32 0x00000000#32)
def leftOf (z : FVec Ideal S128x256 .f32) : Sq := extractStridedSlice S128x128 ![0, 0] z slices_S128x256_o0_0_S128x128
def rightOf (z : FVec Ideal S128x256 .f32) : Sq := extractStridedSlice S128x128 ![0, 128] z slices_S128x256_o0_128_S128x128

def tinv (a : Sq) : Sq :=
  let t1 := addf (k0_pay4 (F := Ideal)) a
  let x1 := mm a a
  let z1 := pairMul x1 t1
  let t2 := addf t1 (rightOf z1)
  let x2 := leftOf z1
  let z2 := pairMul x2 t2
  let t3 := addf t2 (rightOf z2)
  let x3 := leftOf z2
  let z3 := pairMul x3 t3
  let t4 := addf t3 (rightOf z3)
  let x4 := leftOf z3
  let z4 := pairMul x4 t4
  let t5 := addf t4 (rightOf z4)
  let x5 := leftOf z4
  addf t5 (mm x5 t5)

def timesT (a : Tall) (s : Sq) : Tall :=
  matmul dot_S256x128_S128x128_S256x128_1_1_0_0_n_n none (bf a) (bf s) (constant S256x128 .f32 0x00000000#32)
def times (a : Tall) (s : Sq) : Tall :=
  matmul dot_S256x128_S128x128_S256x128_1_0_0_1_n_n none (bf a) (bf s) (constant S256x128 .f32 0x00000000#32)
def topOf (z : Tall) : Sq := extractStridedSlice S128x128 ![0, 0] z slices_S256x128_o0_0_S128x128
def botOf (z : Tall) : Sq := extractStridedSlice S128x128 ![128, 0] z slices_S256x128_o128_0_S128x128

def uOf (a : Sq) (p1 p2 : Tall) : Sq := mm (tinv a) (addf (topOf p1) (topOf p2))
def yOf (rbm u : Sq) (p1 p2 : Tall) : Sq := addf (addf (botOf p1) (mm rbm u)) (botOf p2)
def tr (x : Sq) : Sq := transpose S128x128 [1, 0] x transposes_S128x128_p1_0_S128x128
def stateOf (s u b v k : Sq) (cum : Chunk) : Sq :=
  mulf (addf (addf s (mm (tr u) b)) (mm (tr v) k))
    (broadcastTo S128x128 (extractStridedSlice S1x128 ![63, 0] (exp cum) slices_S64x128_o63_0_S1x128)
      broadcasts_S1x128_S128x128)
/-- The two heads' rows added: each lane's own head is the only one that is not zero. -/
def fold (y : Sq) : Chunk :=
  addf (extractStridedSlice S64x128 ![0, 0] y slices_S128x128_o0_0_S64x128)
    (extractStridedSlice S64x128 ![64, 0] y slices_S128x128_o64_0_S64x128)

/-- A head's mean over its lanes, on each of its lanes. -/
def meanOf (x : Chunk) : Chunk :=
  let d := fun y => matmul dot_S64x128_S128x128_S64x128_1_0_0_1_n_n none y ones (constant S64x128 .f32 0x00000000#32)
  mulf (addf (d (hi x)) (addf (d (hi (rest x))) (d (hi (rest (rest x))))))
    (broadcast S64x128 (Scalar.ofBits .f32 0x3C800000#32))

def normed (y : Chunk) (g b : FVec Ideal S1x128 .f32) : Chunk :=
  let d := subf y (meanOf y)
  addf (mulf (mulf d (rsqrt (addf (meanOf (mulf d d)) (broadcast S64x128 (Scalar.ofBits .f32 0x3A27C5AC#32)))))
    (broadcastTo S64x128 g broadcasts_S1x128_S64x128)) (broadcastTo S64x128 b broadcasts_S1x128_S64x128)

/-! ## The whole chain -/

/-- The masked cross products of a pair's chunk. -/
def crossFn (r k kk b ld : Chunk) : FVec Ideal S256x256 .f32 :=
  cross (over (aT kk ld (cums ld)) (upT r (cums ld))) (over (dnT b (cums ld)) (dnT k (cums ld)))

/-- The chunk's rows applied to the carried state. -/
def arsFn (r kk ld : Chunk) (s : Sq) : Tall := timesT (over (aT kk ld (cums ld)) (upT r (cums ld))) s

/-- The cross products applied to the chunk's values. -/
def akvFn (r k v kk b ld : Chunk) : Tall := times (akrk (crossFn r k kk b ld)) (diag v)

/-- What the tokens of the chunk remove. -/
def uFn (r k v kk b ld : Chunk) (s : Sq) : Sq :=
  uOf (ab (crossFn r k kk b ld)) (arsFn r kk ld s) (akvFn r k v kk b ld)

/-- The state a pair is left in. -/
def stateFn (r k v kk b ld : Chunk) (s : Sq) : Sq :=
  stateOf s (uFn r k v kk b ld s) (dnT b (cums ld)) (diag v) (dnT k (cums ld)) (cums ld)

/-- What a pair's tokens read. -/
def readFn (r k v kk b ld : Chunk) (s : Sq) : Chunk :=
  fold (yOf (rb (crossFn r k kk b ld)) (uFn r k v kk b ld s) (arsFn r kk ld s) (akvFn r k v kk b ld))

/-- What a pair's tokens put out. -/
def outFn (r k v kk b ld g bon : Chunk) (s : Sq) (lng lnb : FVec Ideal S1x128 .f32) : Chunk :=
  mulf (addf (normed (readFn r k v kk b ld s) lng lnb) bon) g

end Cert.KernelIdeal.Stages

end
-- ==== Proof.Recur.lean ====
/-
  The recurrence over the reals, for one head: the state after `n` tokens taken one at a time (`seq`), and a chunk of
  64 tokens taken at once through triangular matrices (`chunkU`, `chunkY`, `chunkS`). `chunk_state` and `chunk_read`
  say that the two agree.
-/
module

public import Mathlib.Analysis.SpecialFunctions.Exp
public import Mathlib.Data.Matrix.Mul
public import Mathlib.Tactic.Ring
public import Mathlib.Tactic.NoncommRing
public import Mathlib.Algebra.BigOperators.Fin

@[expose] public section

noncomputable section

namespace Cert.Recur

open Matrix Finset

/-- A head's 64 × 64 matrices: a state (value coordinate, key coordinate) or a chunk (token, coordinate). -/
abbrev Mat := Matrix (Fin 64) (Fin 64) ℝ

/-- What one token does to the state: the decay, the removal along `kk` put back along `b`, and the outer product of
    the value with the key. -/
def step (k v kk b ld : Fin 64 → ℝ) (S : Mat) : Mat := fun i j =>
  S i j * Real.exp (ld j) + (∑ l, S i l * -kk l) * b j + v i * k j

/-- The state after `n` tokens, from `S`. -/
def seqFrom (k v kk b ld : ℕ → Fin 64 → ℝ) (S : Mat) : ℕ → Mat
  | 0 => S
  | n + 1 => step (k n) (v n) (kk n) (b n) (ld n) (seqFrom k v kk b ld S n)

/-- Tokens `a` and on, after the state that the first `a` tokens leave. -/
theorem seqFrom_add (k v kk b ld : ℕ → Fin 64 → ℝ) (S : Mat) (a n : ℕ) :
    seqFrom k v kk b ld S (a + n)
      = seqFrom (fun t => k (a + t)) (fun t => v (a + t)) (fun t => kk (a + t)) (fun t => b (a + t))
          (fun t => ld (a + t)) (seqFrom k v kk b ld S a) n := by
  induction n with
  | zero => rfl
  | succ n ih => rw [← Nat.add_assoc]; simp only [seqFrom, ih]

/-- The first `n` states depend on the first `n` tokens only. -/
theorem seqFrom_congr {k v kk b ld k' v' kk' b' ld' : ℕ → Fin 64 → ℝ} (S : Mat) (n : ℕ)
    (hk : ∀ t < n, k t = k' t) (hv : ∀ t < n, v t = v' t) (hkk : ∀ t < n, kk t = kk' t) (hb : ∀ t < n, b t = b' t)
    (hld : ∀ t < n, ld t = ld' t) : seqFrom k v kk b ld S n = seqFrom k' v' kk' b' ld' S n := by
  induction n with
  | zero => rfl
  | succ n ih =>
    simp only [seqFrom]
    rw [ih (fun t h => hk t (by omega)) (fun t h => hv t (by omega)) (fun t h => hkk t (by omega))
      (fun t h => hb t (by omega)) (fun t h => hld t (by omega)), hk n (by omega), hv n (by omega), hkk n (by omega),
      hb n (by omega), hld n (by omega)]

/-! ## Triangular matrices -/

/-- The part of a matrix strictly under its diagonal. -/
def low (A : Mat) : Mat := fun t s => if s < t then A t s else 0

/-- The part of a matrix on and under its diagonal. -/
def lowEq (A : Mat) : Mat := fun t s => if s ≤ t then A t s else 0

/-- A power of a strictly lower triangular matrix is as many diagonals further down. -/
theorem low_pow_zero (A : Mat) (n : ℕ) (t s : Fin 64) (h : t.val < s.val + n) : (low A ^ n) t s = 0 := by
  induction n generalizing t with
  | zero =>
    rw [pow_zero, Matrix.one_apply_ne]
    intro e; subst e; omega
  | succ n ih =>
    rw [pow_succ', Matrix.mul_apply]
    refine Finset.sum_eq_zero fun x _ => ?_
    by_cases hx : x < t
    · rw [ih x (by have : x.val < t.val := hx; omega), mul_zero]
    · rw [low, if_neg hx, zero_mul]

/-- The inverse of `1 - A` built by squaring: `1 + A`, then five times the factor `1 + A ^ (2 ^ i)`. -/
def tinv (A : Mat) : Mat :=
  let t1 := 1 + A
  let x1 := A * A
  let t2 := t1 + x1 * t1
  let x2 := x1 * x1
  let t3 := t2 + x2 * t2
  let x3 := x2 * x2
  let t4 := t3 + x3 * t3
  let x4 := x3 * x3
  let t5 := t4 + x4 * t4
  let x5 := x4 * x4
  t5 + x5 * t5

/-- Times `1 - A`, the product of the factors is `1 - A ^ 64`. -/
theorem sub_mul_tinv (A : Mat) : (1 - A) * tinv A = 1 - A ^ 64 := by
  have key : ∀ (n : ℕ) (T : Mat), (1 - A) * T = 1 - A ^ n → (1 - A) * (T + A ^ n * T) = 1 - A ^ (n + n) := by
    intro n T h
    have hc : (1 - A) * A ^ n = A ^ n * (1 - A) := by
      rw [sub_mul, mul_sub, one_mul, mul_one, ← pow_succ, ← pow_succ']
    rw [mul_add, ← mul_assoc, hc, mul_assoc, h, mul_sub, mul_one, pow_add]; abel
  have e1 : A * A = A ^ 2 := (pow_two A).symm
  simp only [tinv, e1, ← pow_add]
  refine key 32 _ (key 16 _ (key 8 _ (key 4 _ (key 2 _ ?_))))
  rw [pow_two]; noncomm_ring

/-- For a strictly lower triangular matrix the product of the factors solves `T = 1 + A T`. -/
theorem tinv_low (A : Mat) : tinv (low A) = 1 + low A * tinv (low A) := by
  have h := sub_mul_tinv (low A)
  have h0 : low A ^ 64 = 0 := by
    ext t s; exact low_pow_zero A 64 t s (by omega)
  rw [h0, sub_zero, sub_mul, one_mul] at h
  exact eq_add_of_sub_eq h

/-! ## One chunk -/

/-- The running sum of the decays' logarithms up to and including token `t`. -/
def cum (ld : Mat) : Mat := fun t j => ∑ s, if s ≤ t then ld s j else 0

/-- The removal key, its decay up to the token before taken along. -/
def aT (kk ld : Mat) : Mat := fun t j => -kk t j * Real.exp (cum ld t j - ld t j)
/-- A chunk divided by the decay up to each token. -/
def dn (x ld : Mat) : Mat := fun t j => x t j * Real.exp (-cum ld t j)
/-- A chunk times the decay up to each token. -/
def up (x ld : Mat) : Mat := fun t j => x t j * Real.exp (cum ld t j)

/-- What each token of the chunk removes: the solution of the triangular system. -/
def chunkU (k v kk b ld : Mat) (S : Mat) : Mat :=
  tinv (low (aT kk ld * (dn b ld)ᵀ)) * (aT kk ld * Sᵀ + low (aT kk ld * (dn k ld)ᵀ) * v)

/-- What each token of the chunk reads. -/
def chunkY (r k v kk b ld : Mat) (S : Mat) : Mat :=
  up r ld * Sᵀ + lowEq (up r ld * (dn b ld)ᵀ) * chunkU k v kk b ld S + lowEq (up r ld * (dn k ld)ᵀ) * v

/-- The state after the chunk. -/
def chunkS (k v kk b ld : Mat) (S : Mat) : Mat := fun i j =>
  (S + (chunkU k v kk b ld S)ᵀ * dn b ld + vᵀ * dn k ld) i j * Real.exp (cum ld 63 j)

/-- The state without its decay after the first `n` tokens of the chunk. -/
def part (k v kk b ld : Mat) (S : Mat) (n : ℕ) : Mat := fun i j =>
  S i j + ∑ s : Fin 64, if s.val < n then chunkU k v kk b ld S s i * dn b ld s j + v s i * dn k ld s j else 0

/-- The running sum over the first `n` tokens. -/
def cumN (ld : Mat) (n : ℕ) (j : Fin 64) : ℝ := ∑ s : Fin 64, if s.val < n then ld s j else 0

/-- A sum over the tokens before `n + 1` is the sum over those before `n`, and the term at `n`. -/
theorem sum_lt_succ (f : Fin 64 → ℝ) (n : ℕ) (hn : n < 64) :
    (∑ s : Fin 64, if s.val < n + 1 then f s else 0) = (∑ s : Fin 64, if s.val < n then f s else 0) + f ⟨n, hn⟩ := by
  have : ∀ s : Fin 64, (if s.val < n + 1 then f s else 0)
      = (if s.val < n then f s else 0) + (if s = ⟨n, hn⟩ then f s else 0) := by
    intro s
    by_cases h : s = ⟨n, hn⟩
    · subst h; simp
    · have h' : s.val ≠ n := fun e => h (Fin.ext e)
      by_cases h2 : s.val < n
      · simp [h2, h, show s.val < n + 1 by omega]
      · simp [h2, h, show ¬ s.val < n + 1 by omega]
  rw [Finset.sum_congr rfl fun s _ => this s, Finset.sum_add_distrib, Finset.sum_ite_eq' univ, if_pos (mem_univ _)]

theorem cum_eq (ld : Mat) (t j : Fin 64) : cum ld t j = cumN ld (t.val + 1) j := by
  refine Finset.sum_congr rfl fun s _ => ?_
  simp only [Fin.le_def, Nat.lt_succ_iff]

theorem cum_sub (ld : Mat) (t j : Fin 64) : cum ld t j - ld t j = cumN ld t.val j := by
  rw [cum_eq, cumN, sum_lt_succ _ _ t.isLt]; simp [cumN]

/-- A matrix of products of rows, kept under the diagonal and applied to `x`, entry by entry. -/
theorem low_mul (p q x : Mat) (t i : Fin 64) :
    (low (p * qᵀ) * x) t i = ∑ l, (∑ s : Fin 64, if s.val < t.val then x s i * q s l else 0) * p t l := by
  simp only [Matrix.mul_apply, low, Matrix.transpose_apply, Finset.sum_mul]
  rw [Finset.sum_comm]
  refine Finset.sum_congr rfl fun s _ => ?_
  by_cases h : s < t
  · have h' : s.val < t.val := h
    simp only [h, h', if_true, Finset.sum_mul]
    exact Finset.sum_congr rfl fun l _ => by ring
  · have h' : ¬ s.val < t.val := h
    simp only [h, h', if_false, zero_mul, Finset.sum_const_zero]

/-- The same with the diagonal. -/
theorem lowEq_mul (p q x : Mat) (t i : Fin 64) :
    (lowEq (p * qᵀ) * x) t i = ∑ l, (∑ s : Fin 64, if s.val < t.val + 1 then x s i * q s l else 0) * p t l := by
  simp only [Matrix.mul_apply, lowEq, Matrix.transpose_apply, Finset.sum_mul]
  rw [Finset.sum_comm]
  refine Finset.sum_congr rfl fun s _ => ?_
  by_cases h : s ≤ t
  · have h' : s.val < t.val + 1 := Nat.lt_succ_of_le h
    simp only [h, h', if_true, Finset.sum_mul]
    exact Finset.sum_congr rfl fun l _ => by ring
  · have h' : ¬ s.val < t.val + 1 := fun e => h (Nat.le_of_lt_succ e)
    simp only [h, h', if_false, zero_mul, Finset.sum_const_zero]

/-- What token `t` removes is the state before it, without its decay, along the removal key. -/
theorem chunkU_eq (k v kk b ld S : Mat) (t i : Fin 64) :
    chunkU k v kk b ld S t i = ∑ l, part k v kk b ld S t.val i l * aT kk ld t l := by
  have h : chunkU k v kk b ld S
      = (aT kk ld * Sᵀ + low (aT kk ld * (dn k ld)ᵀ) * v) + low (aT kk ld * (dn b ld)ᵀ) * chunkU k v kk b ld S := by
    conv_lhs => rw [chunkU, tinv_low, Matrix.add_mul, Matrix.one_mul, Matrix.mul_assoc]
    rfl
  rw [h, Matrix.add_apply, Matrix.add_apply, low_mul, low_mul, Matrix.mul_apply, ← Finset.sum_add_distrib,
    ← Finset.sum_add_distrib]
  refine Finset.sum_congr rfl fun l _ => ?_
  have e : (∑ s : Fin 64, if s.val < t.val then chunkU k v kk b ld S s i * dn b ld s l + v s i * dn k ld s l else 0)
      = (∑ s : Fin 64, if s.val < t.val then chunkU k v kk b ld S s i * dn b ld s l else 0)
        + ∑ s : Fin 64, if s.val < t.val then v s i * dn k ld s l else 0 := by
    rw [← Finset.sum_add_distrib]
    exact Finset.sum_congr rfl fun s _ => by split <;> simp
  rw [part, e, Matrix.transpose_apply]; ring

/-- The tokens of a chunk as a sequence. -/
def toks (x : Mat) : ℕ → Fin 64 → ℝ := fun n => if h : n < 64 then x ⟨n, h⟩ else 0

theorem toks_lt (x : Mat) (n : ℕ) (h : n < 64) : toks x n = x ⟨n, h⟩ := dif_pos h

/-- After `n` tokens of the chunk the state is the part without decay times the decay. -/
theorem seq_eq_part (k v kk b ld S : Mat) (n : ℕ) (hn : n ≤ 64) (i j : Fin 64) :
    seqFrom (toks k) (toks v) (toks kk) (toks b) (toks ld) S n i j = part k v kk b ld S n i j * Real.exp (cumN ld n j) := by
  induction n generalizing i j with
  | zero => simp [seqFrom, part, cumN]
  | succ n ih =>
    have hn' : n < 64 := hn
    simp only [seqFrom, step, ih (by omega), toks_lt _ n hn']
    have hu : ∑ l, part k v kk b ld S n i l * Real.exp (cumN ld n l) * -kk ⟨n, hn'⟩ l
        = chunkU k v kk b ld S ⟨n, hn'⟩ i := by
      rw [chunkU_eq]
      refine Finset.sum_congr rfl fun l _ => ?_
      rw [aT, cum_sub]; ring
    have hc : cumN ld (n + 1) j = cumN ld n j + ld ⟨n, hn'⟩ j := sum_lt_succ _ n hn'
    have hp : part k v kk b ld S (n + 1) i j = part k v kk b ld S n i j
        + (chunkU k v kk b ld S ⟨n, hn'⟩ i * dn b ld ⟨n, hn'⟩ j + v ⟨n, hn'⟩ i * dn k ld ⟨n, hn'⟩ j) := by
      rw [part, sum_lt_succ _ n hn', ← add_assoc]; rfl
    have hd : ∀ x : Mat, dn x ld ⟨n, hn'⟩ j * Real.exp (cumN ld (n + 1) j) = x ⟨n, hn'⟩ j := by
      intro x
      rw [dn, cum_eq, mul_assoc, ← Real.exp_add, neg_add_cancel, Real.exp_zero, mul_one]
    rw [hu, hp, add_mul, add_mul, mul_assoc (chunkU _ _ _ _ _ _ _ _), mul_assoc (v _ _), hd, hd, hc, Real.exp_add]
    ring

/-- The state after a chunk is the state after its 64 tokens. -/
theorem chunk_state (k v kk b ld S : Mat) :
    chunkS k v kk b ld S = seqFrom (toks k) (toks v) (toks kk) (toks b) (toks ld) S 64 := by
  ext i j
  rw [seq_eq_part _ _ _ _ _ _ 64 le_rfl, chunkS, cum_eq]
  congr 1
  rw [part, Matrix.add_apply, Matrix.add_apply, Matrix.mul_apply, Matrix.mul_apply, add_assoc, ← Finset.sum_add_distrib]
  congr 1

/-- What token `t` of a chunk reads is the state after that token along the token's `r`. -/
theorem chunk_read (r k v kk b ld S : Mat) (t i : Fin 64) :
    chunkY r k v kk b ld S t i
      = ∑ l, seqFrom (toks k) (toks v) (toks kk) (toks b) (toks ld) S (t.val + 1) i l * r t l := by
  have e : ∀ l, (∑ s : Fin 64, if s.val < t.val + 1 then chunkU k v kk b ld S s i * dn b ld s l + v s i * dn k ld s l
        else 0)
      = (∑ s : Fin 64, if s.val < t.val + 1 then chunkU k v kk b ld S s i * dn b ld s l else 0)
        + ∑ s : Fin 64, if s.val < t.val + 1 then v s i * dn k ld s l else 0 := by
    intro l
    rw [← Finset.sum_add_distrib]
    exact Finset.sum_congr rfl fun s _ => by split <;> simp
  rw [chunkY, Matrix.add_apply, Matrix.add_apply, lowEq_mul, lowEq_mul, Matrix.mul_apply, ← Finset.sum_add_distrib,
    ← Finset.sum_add_distrib]
  refine Finset.sum_congr rfl fun l _ => ?_
  rw [seq_eq_part _ _ _ _ _ _ _ (by omega), part, e, up, cum_eq, Matrix.transpose_apply]; ring

end Cert.Recur

end
-- ==== Proof.Real.lean ====
/-
  The stages of the chunk body on arrays of real numbers: each stage takes real arrays to a real array, named by its
  matrix of reals (`lift2`).
-/
module

public import proofs.«01_k».proof.Proof.Stages
public import proofs.«01_k».proof.Proof.Recur
public import Idealize.ShloMosaic.Lib.Pointwise
public import Idealize.ShloMosaic.Lib.WordCmp

@[expose] public section

set_option maxRecDepth 16384

noncomputable section

namespace Cert.KernelIdeal.Stages

open Idealize.ShloMosaic Cert.KernelIdeal Cert.KernelIdeal.Gen
open Cert.Recur (Mat)

/-- A matrix of reals as an array. -/
def lift2 {m n : ℕ} (f : Fin m → Fin n → ℝ) : (⟨2, ![m, n]⟩ : Shape).Idx → EReal := fun i => ((f (i 0) (i 1) : ℝ) : EReal)

theorem lift2_ix {m n : ℕ} (f : Fin m → Fin n → ℝ) (a : Fin m) (b : Fin n) : lift2 f (ix2 a b) = (f a b : EReal) := rfl

/-- A sum of reals read as extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

theorem coe_sub_self (x : ℝ) : (x : EReal) - (x : EReal) = 0 := by
  rw [← EReal.coe_sub, sub_self, EReal.coe_zero]

/-- An array of the literal shape that reads like a matrix of reals is that matrix. -/
theorem eq_lift2 {m n : ℕ} {f : Fin m → Fin n → ℝ} {X : (⟨2, ![m, n]⟩ : Shape).Idx → EReal}
    (h : ∀ a b, X (ix2 a b) = (f a b : EReal)) : X = lift2 f := by
  funext i; rw [eq_ix2 i]; exact h _ _

/-! ## Heads and lanes -/

/-- The head a lane (or a row of a square matrix) belongs to, and its place within the head. -/
def hd (l : Fin 128) : Fin 2 := ⟨l.val / 64, by omega⟩
def dm (l : Fin 128) : Fin 64 := ⟨l.val % 64, by omega⟩

/-- Lane `d` of head `h`. -/
def pk (h : Fin 2) (d : Fin 64) : Fin 128 := ⟨64 * h.val + d.val, by omega⟩

theorem hd_pk (h : Fin 2) (d : Fin 64) : hd (pk h d) = h := Fin.ext (by simp only [hd, pk]; omega)
theorem dm_pk (h : Fin 2) (d : Fin 64) : dm (pk h d) = d := Fin.ext (by simp only [dm, pk]; omega)
theorem pk_hd_dm (l : Fin 128) : pk (hd l) (dm l) = l := Fin.ext (by simp only [hd, dm, pk]; omega)

/-- A sum over the lanes is a sum over the heads and each head's lanes. -/
theorem sum_lanes {M : Type*} [AddCommMonoid M] (f : Fin 128 → M) : ∑ l, f l = ∑ h, ∑ d, f (pk h d) := by
  rw [← Fintype.sum_prod_type' (fun h d => f (pk h d))]
  refine (Equiv.sum_comp (⟨fun p => pk p.1 p.2, fun l => (hd l, dm l), fun p => ?_, fun l => ?_⟩ : Fin 2 × Fin 64 ≃ Fin 128) f).symm
  · simp only [hd_pk, dm_pk]
  · exact pk_hd_dm l

/-- A chunk of two heads, lanes side by side. -/
def chunk (x : Fin 2 → Mat) : Fin 64 → Fin 128 → ℝ := fun t l => x (hd l) t (dm l)

/-- Two heads' matrices as the diagonal blocks of one. -/
def blk (x : Fin 2 → Mat) : Fin 128 → Fin 128 → ℝ := fun a b => if hd a = hd b then x (hd a) (dm a) (dm b) else 0

theorem blk_pk (x : Fin 2 → Mat) (h : Fin 2) (c d : Fin 64) : blk x (pk h c) (pk h d) = x h c d := by
  simp only [blk, hd_pk, dm_pk, if_true]

/-- Sums of products of block diagonal matrices stay within the blocks. -/
theorem blk_mul (x y : Fin 2 → Mat) (a b : Fin 128) : ∑ k, blk x a k * blk y k b = blk (fun h => x h * y h) a b := by
  rw [sum_lanes, Finset.sum_eq_single (hd a)]
  · simp only [blk, hd_pk, dm_pk, if_true, Matrix.mul_apply]
    split
    · rfl
    · simp
  · intro h _ hne
    refine Finset.sum_eq_zero fun d _ => ?_
    simp only [blk, hd_pk, dm_pk, if_neg (Ne.symm hne), zero_mul]
  · intro h; exact absurd (Finset.mem_univ _) h

theorem blk_tr (x : Fin 2 → Mat) (a b : Fin 128) : blk x b a = blk (fun h => (x h).transpose) a b := by
  simp only [blk]
  by_cases h : hd a = hd b
  · rw [if_pos h, if_pos h.symm, h]; rfl
  · rw [if_neg h, if_neg (Ne.symm h)]

theorem blk_add (x y : Fin 2 → Mat) (a b : Fin 128) : blk x a b + blk y a b = blk (fun h => x h + y h) a b := by
  simp only [blk]; split
  · rfl
  · simp

/-- Sums of products of a block diagonal matrix with a transposed one. -/
theorem blk_mulT (x y : Fin 2 → Mat) (a b : Fin 128) :
    ∑ k, blk x a k * blk y b k = blk (fun h => x h * (y h).transpose) a b := by
  rw [← blk_mul]; exact Finset.sum_congr rfl fun k _ => by rw [blk_tr y]

/-! ## Constants -/

theorem sitofp_coe {φ : FTy} {w : ℕ} (b : BitVec w) : FloatOps.sitofp (F := Ideal) φ b = ((b.toInt : ℝ) : EReal) := rfl

/-- The 0/1 value of a word made from a bit. -/
theorem bit_coe {φ : FTy} (p : Prop) [Decidable p] :
    FloatOps.sitofp (F := Ideal) φ (BitVec.setWidth 32 (BitVec.ofBool (decide p))) = ((if p then 1 else 0 : ℝ) : EReal) := by
  rw [sitofp_coe]
  by_cases h : p
  · rw [decide_eq_true h, if_pos h, show (BitVec.setWidth 32 (BitVec.ofBool true)).toInt = 1 by decide]; norm_num
  · rw [decide_eq_false h, if_neg h, show (BitVec.setWidth 32 (BitVec.ofBool false)).toInt = 0 by decide]; norm_num

open Idealize.ShloMosaic.WordCmp in
theorem tri_apply (t s : Fin 64) : k0_pay12 (F := Ideal) (ix2 t s) = ((if s ≤ t then 1 else 0 : ℝ) : EReal) := by
  pointwise [k0_pay12]
  rw [cmpi_sle_ofNat (by omega) (by omega)]
  exact bit_coe _

theorem zeroC_apply (i) : zeroC i = 0 := by
  pointwise [zeroC]

theorem hd_eq_iff (a b : Fin 128) : hd a = hd b ↔ a.val / 64 = b.val / 64 := Fin.ext_iff

open Idealize.ShloMosaic.WordCmp in
theorem eye_eq : k0_pay4 (F := Ideal) = lift2 (blk fun _ => 1) := by
  refine eq_lift2 fun a b => ?_
  pointwise [k0_pay4]
  rw [cmpi_eq_ofNat (by omega) (by omega), bit_coe]
  congr 1
  simp only [blk, Matrix.one_apply]
  by_cases h : a = b
  · subst h; simp
  · have h' : ¬ a.val = b.val := fun e => h (Fin.ext e)
    rw [if_neg h']
    by_cases e : hd a = hd b
    · rw [if_pos e, if_neg]
      intro e2; apply h; rw [← pk_hd_dm a, ← pk_hd_dm b, e, e2]
    · rw [if_neg e]

theorem pay14_apply (a b : Fin 128) : k0_pay14 (ix2 a b) = BitVec.ofNat 32 (a.val / 64) := by
  pointwise [k0_pay14]
  clear b; revert a; decide +kernel

/-- The head of a lane, as the words of the second axis compute it. -/
theorem lane_word (b : Fin 128) : (Scalar.select
            (IntOp.andi
              (IntOp.cmpi CmpIPredicate.ne
                (IntOp.subi (BitVec.setWidth 32 (IntOp.cmpi CmpIPredicate.sgt (BitVec.ofNat 32 b.val) 0#32))
                  (BitVec.setWidth 32 (IntOp.cmpi CmpIPredicate.slt (BitVec.ofNat 32 b.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 b.val) 64#32) 0#32))
            (IntOp.subi (IntOp.divsi ArithUnit.vector (BitVec.ofNat 32 b.val) 64#32) 1#32)
            (IntOp.divsi ArithUnit.vector (BitVec.ofNat 32 b.val) 64#32)) = BitVec.ofNat 32 (b.val / 64) := by
  revert b; decide +kernel

open Idealize.ShloMosaic.WordCmp in
theorem ones_apply (a b : Fin 128) : ones (ix2 a b) = (((if hd a = hd b then 1 else 0 : ℝ)) : EReal) := by
  pointwise [ones, k0_pay17, k0_pay15, k0_pay16, pay14_apply]
  rw [lane_word, cmpi_eq_ofNat (by omega) (by omega), bit_coe]
  congr 1
  exact if_congr (hd_eq_iff a b).symm rfl rfl

theorem pay5_apply (a b : Fin 256) : k0_pay5 (ix2 a b) = BitVec.ofNat 32 (a.val % 128) := by
  pointwise [k0_pay5]
  clear b; revert a; decide +kernel

theorem pay6_apply (a b : Fin 256) : k0_pay6 (ix2 a b) = BitVec.ofNat 32 (b.val % 128) := by
  pointwise [k0_pay6]
  clear a; revert b; decide +kernel

theorem pay7_apply (a b : Fin 256) : k0_pay7 k0_pay5 64#32 (ix2 a b) = BitVec.ofNat 32 (a.val % 128 / 64) := by
  pointwise [k0_pay7, pay5_apply]
  clear b; revert a; decide +kernel

theorem col_head (a b : Fin 256) :
    select (k0_pay9 k0_pay6) (k0_pay10 k0_pay6) (k0_pay8 k0_pay6) (ix2 a b) = BitVec.ofNat 32 (b.val % 128 / 64) := by
  pointwise [k0_pay8, k0_pay9, k0_pay10, pay6_apply]
  clear a; revert b; decide +kernel

/-- When a row and a column of the cross products meet: the same head and an earlier token, or in the lower rows the same token. -/
def meets (a b : Fin 256) : Bool := decide (a.val % 128 / 64 = b.val % 128 / 64) &&
  (decide (b.val % 128 < a.val % 128) || (decide (128 ≤ a.val) && decide (b.val % 128 = a.val % 128)))

open Idealize.ShloMosaic.WordCmp in
theorem mask_apply (a b : Fin 256) : mask (ix2 a b) = BitVec.ofBool (meets a b) := by
  pointwise [mask, k0_pay11, col_head, pay5_apply, pay6_apply, pay7_apply]
  rw [cmpi_eq_ofNat (by omega) (by omega), cmpi_slt_ofNat (by omega) (by omega), cmpi_eq_ofNat (by omega) (by omega),
    show (128#32) = BitVec.ofNat 32 128 from rfl, cmpi_sge_ofNat (by omega) (by omega), andi_ofBool, ori_ofBool, andi_ofBool]
  rfl

/-- The mask of the upper rows, and of the lower. -/
def keep (a b : Fin 128) : Prop := hd a = hd b ∧ dm b < dm a
def keepEq (a b : Fin 128) : Prop := hd a = hd b ∧ dm b ≤ dm a
instance (a b : Fin 128) : Decidable (keep a b) := inferInstanceAs (Decidable (_ ∧ _))
instance (a b : Fin 128) : Decidable (keepEq a b) := inferInstanceAs (Decidable (_ ∧ _))

theorem meets_keep {a b : Fin 256} {x y : Fin 128} (ha : a.val = x.val) (hb : b.val % 128 = y.val) :
    meets a b = decide (keep x y) := by
  have hx := x.isLt; have hy := y.isLt
  simp only [meets, keep, hd, dm, Fin.ext_iff, Fin.lt_def, hb, Bool.decide_and, show a.val % 128 = x.val by omega,
    show ¬ 128 ≤ a.val by omega, decide_false, Bool.false_and, Bool.or_false]
  rw [← Bool.decide_and, ← Bool.decide_and]
  exact decide_eq_decide.2 (by omega)

theorem meets_keepEq {a b : Fin 256} {x y : Fin 128} (ha : a.val = 128 + x.val) (hb : b.val % 128 = y.val) :
    meets a b = decide (keepEq x y) := by
  have hx := x.isLt; have hy := y.isLt
  simp only [meets, keepEq, hd, dm, Fin.ext_iff, Fin.le_def, hb, Bool.decide_and, show a.val % 128 = x.val by omega,
    show 128 ≤ a.val by omega, decide_true, Bool.true_and]
  rw [← Bool.decide_or, ← Bool.decide_and, ← Bool.decide_and]
  exact decide_eq_decide.2 (by omega)

theorem blk_low (x : Fin 2 → Mat) (a b : Fin 128) : (if keep a b then blk x a b else 0) = blk (fun h => Recur.low (x h)) a b := by
  simp only [keep, blk, Recur.low]
  by_cases h : hd a = hd b
  · simp only [h, true_and, if_true]
  · simp only [h, false_and, if_false]

theorem blk_lowEq (x : Fin 2 → Mat) (a b : Fin 128) :
    (if keepEq a b then blk x a b else 0) = blk (fun h => Recur.lowEq (x h)) a b := by
  simp only [keepEq, blk, Recur.lowEq]
  by_cases h : hd a = hd b
  · simp only [h, true_and, if_true]
  · simp only [h, false_and, if_false]

/-! ## Stages on block diagonal matrices -/

/-- Two heads' matrices as one array of blocks, and two heads' chunks as one array. -/
def sq (x : Fin 2 → Mat) : Sq := lift2 (blk x)
def ch (x : Fin 2 → Mat) : Chunk := lift2 (chunk x)

theorem sq_ix (x : Fin 2 → Mat) (a b : Fin 128) : sq x (ix2 a b) = (blk x a b : EReal) := rfl
theorem ch_ix (x : Fin 2 → Mat) (a : Fin 64) (b : Fin 128) : ch x (ix2 a b) = (chunk x a b : EReal) := rfl

/-- A product of blocks, summed as extended reals. -/
theorem sum_blk (x y : Fin 2 → Mat) (a b : Fin 128) :
    ∑ k, (blk x a k : EReal) * (blk y k b : EReal) = (blk (fun h => x h * y h) a b : EReal) := by
  rw [← blk_mul, coe_sum]; simp only [EReal.coe_mul]

theorem sum_blkT (x y : Fin 2 → Mat) (a b : Fin 128) :
    ∑ k, (blk x a k : EReal) * (blk y b k : EReal) = (blk (fun h => x h * (y h).transpose) a b : EReal) := by
  rw [← blk_mulT, coe_sum]; simp only [EReal.coe_mul]

theorem mm_eq (x y : Fin 2 → Mat) : mm (sq x) (sq y) = sq fun h => x h * y h := by
  refine eq_lift2 fun a b => ?_
  pointwise [mm, bf, sq_ix]
  exact sum_blk x y a b

theorem addSq_eq (x y : Fin 2 → Mat) : addf (F := Ideal) (φ := .f32) (s := S128x128) (sq x) (sq y) = sq fun h => x h + y h := by
  refine eq_lift2 fun a b => ?_
  pointwise [sq_ix]
  rw [← EReal.coe_add, blk_add]

theorem pairMul_left (x y : Fin 2 → Mat) : leftOf (pairMul (sq x) (sq y)) = sq fun h => x h * x h := by
  refine eq_lift2 fun a b => ?_
  pointwise [leftOf, pairMul, bf, sq_ix]
  exact sum_blk x x a b

theorem pairMul_right (x y : Fin 2 → Mat) : rightOf (pairMul (sq x) (sq y)) = sq fun h => x h * y h := by
  refine eq_lift2 fun a b => ?_
  pointwise [rightOf, pairMul, bf, sq_ix]
  exact sum_blk x y a b

theorem tinv_eq (x : Fin 2 → Mat) : tinv (sq x) = sq fun h => Recur.tinv (x h) := by
  unfold tinv
  rw [eye_eq, show lift2 (blk fun _ => (1 : Mat)) = sq fun _ => 1 from rfl]
  simp only [mm_eq, addSq_eq, pairMul_left, pairMul_right]
  rfl

theorem ab_cross (x y p q : Fin 2 → Mat) : ab (cross (over (sq x) (sq y)) (over (sq p) (sq q))) =
    sq fun h => Recur.low (x h * (p h).transpose) := by
  refine eq_lift2 fun a b => ?_
  pointwise [ab, cross, over, bf, sq_ix, mask_apply]
  rw [meets_keep (x := a) (y := b) (by simp) (by simp), sum_blkT]
  rw [← blk_low]
  by_cases h : keep a b <;> simp [h]

theorem rb_cross (x y p q : Fin 2 → Mat) : rb (cross (over (sq x) (sq y)) (over (sq p) (sq q))) =
    sq fun h => Recur.lowEq (y h * (p h).transpose) := by
  refine eq_lift2 fun a b => ?_
  pointwise [rb, cross, over, bf, sq_ix, mask_apply]
  rw [meets_keepEq (x := a) (y := b) (by simp) (by simp), sum_blkT]
  rw [← blk_lowEq]
  by_cases h : keepEq a b <;> simp [h]

theorem akrk_cross (x y p q : Fin 2 → Mat) : akrk (cross (over (sq x) (sq y)) (over (sq p) (sq q))) =
    over (sq fun h => Recur.low (x h * (q h).transpose)) (sq fun h => Recur.lowEq (y h * (q h).transpose)) := by
  suffices H : ∀ (a : Fin 256) (b : Fin 128), akrk (cross (over (sq x) (sq y)) (over (sq p) (sq q))) (ix2 a b) =
      over (sq fun h => Recur.low (x h * (q h).transpose)) (sq fun h => Recur.lowEq (y h * (q h).transpose)) (ix2 a b) from
    funext fun i => by rw [eq_ix2 i]; exact H _ _
  intro a b
  pointwise [akrk, cross, over, bf, sq_ix, mask_apply]
  have hb : b.val < 128 := b.isLt
  have ha : a.val < 256 := a.isLt
  by_cases h : a.val < 128
  · simp only [dif_pos h]
    rw [meets_keep (x := ⟨a.val, h⟩) (y := b) rfl (by simp only; omega)]
    show (if decide (keep ⟨a.val, h⟩ b) = true then ∑ k, (blk x ⟨a.val, h⟩ k : EReal) * (blk q b k : EReal) else 0) =
      ((blk (fun h => Recur.low (x h * (q h).transpose)) ⟨a.val, h⟩ b : ℝ) : EReal)
    rw [sum_blkT x q, ← blk_low]
    by_cases h : keep ⟨a.val, h⟩ b <;> simp [h]
  · simp only [dif_neg h]
    rw [meets_keepEq (x := ⟨a.val - 128, by omega⟩) (y := b) (by simp only; omega) (by simp only; omega)]
    show (if decide (keepEq ⟨a.val - 128, by omega⟩ b) = true then
        ∑ k, (blk y ⟨a.val - 128, by omega⟩ k : EReal) * (blk q b k : EReal) else 0) =
      ((blk (fun h => Recur.lowEq (y h * (q h).transpose)) ⟨a.val - 128, by omega⟩ b : ℝ) : EReal)
    rw [sum_blkT y q, ← blk_lowEq]
    by_cases h : keepEq ⟨a.val - 128, by omega⟩ b <;> simp [h]

theorem top_timesT (x y s : Fin 2 → Mat) : topOf (timesT (over (sq x) (sq y)) (sq s)) = sq fun h => x h * (s h).transpose := by
  refine eq_lift2 fun a b => ?_
  pointwise [topOf, timesT, over, bf, sq_ix]
  exact sum_blkT x s a b

theorem bot_timesT (x y s : Fin 2 → Mat) : botOf (timesT (over (sq x) (sq y)) (sq s)) = sq fun h => y h * (s h).transpose := by
  refine eq_lift2 fun a b => ?_
  pointwise [botOf, timesT, over, bf, sq_ix]
  exact sum_blkT y s a b

theorem top_times (x y s : Fin 2 → Mat) : topOf (times (over (sq x) (sq y)) (sq s)) = sq fun h => x h * s h := by
  refine eq_lift2 fun a b => ?_
  pointwise [topOf, times, over, bf, sq_ix]
  exact sum_blk x s a b

theorem bot_times (x y s : Fin 2 → Mat) : botOf (times (over (sq x) (sq y)) (sq s)) = sq fun h => y h * s h := by
  refine eq_lift2 fun a b => ?_
  pointwise [botOf, times, over, bf, sq_ix]
  exact sum_blk y s a b

theorem tr_eq (x : Fin 2 → Mat) : tr (sq x) = sq fun h => (x h).transpose := by
  refine eq_lift2 fun a b => ?_
  pointwise [tr, sq_ix]
  rw [blk_tr]

/-- A real number split in three parts, of which the last two are zero. -/
theorem cums_eq (ld : Fin 2 → Mat) : cums (ch ld) = ch fun h => Recur.cum (ld h) := by
  refine eq_lift2 fun a b => ?_
  pointwise [cums, hi, rest, ch_ix, tri_apply]
  simp only [coe_sub_self, sub_zero, mul_zero, Finset.sum_const_zero, add_zero]
  simp only [← EReal.coe_mul, ← coe_sum]
  refine congrArg Real.toEReal ?_
  show _ = Recur.cum (ld (hd b)) a (dm b)
  unfold Recur.cum
  refine Finset.sum_congr rfl fun s _ => ?_
  split
  · rw [one_mul]; rfl
  · rw [zero_mul]

theorem diag_eq (x : Fin 2 → Mat) : diag (ch x) = sq x := by
  refine eq_lift2 fun a b => ?_
  pointwise [diag, ch_ix, k0_pay13, zeroC_apply]
  have w : IntOp.cmpi .slt (BitVec.ofNat 32 b.val) 64#32 = BitVec.ofBool (decide (b.val < 64)) :=
    WordCmp.cmpi_slt_ofNat (by omega) (by omega)
  simp only [w, WordCmp.select_ofBool]
  have hb := b.isLt
  have ha := a.isLt
  by_cases h : a.val < 64
  · rw [dif_pos h]
    have e1 : hd a = 0 := Fin.ext (by simp only [hd]; exact Nat.div_eq_of_lt h)
    have e2 : dm a = ⟨a.val, h⟩ := Fin.ext (by simp only [dm]; exact Nat.mod_eq_of_lt h)
    by_cases g : b.val < 64
    · have e3 : hd b = 0 := Fin.ext (by simp only [hd]; exact Nat.div_eq_of_lt g)
      simp only [g, decide_true, if_true, blk, chunk, e1, e2, e3]
    · have e3 : hd b = 1 := Fin.ext (by simp only [hd]; show b.val / 64 = 1; omega)
      simp [g, blk, e1, e3]
  · rw [dif_neg h]
    have e1 : hd a = 1 := Fin.ext (by simp only [hd]; show a.val / 64 = 1; omega)
    have e2 : dm a = ⟨a.val - 64, by omega⟩ := Fin.ext (by simp only [dm]; omega)
    by_cases g : b.val < 64
    · have e3 : hd b = 0 := Fin.ext (by simp only [hd]; exact Nat.div_eq_of_lt g)
      simp [g, blk, e1, e3]
    · have e3 : hd b = 1 := Fin.ext (by simp only [hd]; show b.val / 64 = 1; omega)
      simp [g, blk, chunk, e1, e2, e3]

theorem aT_eq (kk ld : Fin 2 → Mat) : aT (ch kk) (ch ld) (cums (ch ld)) = sq fun h => Recur.aT (kk h) (ld h) := by
  rw [cums_eq, ← diag_eq]
  unfold aT; congr 1
  refine eq_lift2 fun a b => ?_
  pointwise [ch_ix, zeroC_apply]
  rw [zero_sub, ← EReal.coe_sub, Ideal.exp_coe, ← EReal.coe_neg, ← EReal.coe_mul]
  rfl

theorem dnT_eq (x ld : Fin 2 → Mat) : dnT (ch x) (cums (ch ld)) = sq fun h => Recur.dn (x h) (ld h) := by
  rw [cums_eq, ← diag_eq]
  unfold dnT; congr 1
  refine eq_lift2 fun a b => ?_
  pointwise [ch_ix, zeroC_apply]
  rw [zero_sub, ← EReal.coe_neg, Ideal.exp_coe, ← EReal.coe_mul]
  rfl

theorem upT_eq (x ld : Fin 2 → Mat) : upT (ch x) (cums (ch ld)) = sq fun h => Recur.up (x h) (ld h) := by
  rw [cums_eq, ← diag_eq]
  unfold upT; congr 1

theorem stateOf_eq (s u b v k cum : Fin 2 → Mat) : stateOf (sq s) (sq u) (sq b) (sq v) (sq k) (ch cum) =
    sq fun h => fun i j => (s h + (u h).transpose * b h + (v h).transpose * k h) i j * Real.exp (cum h 63 j) := by
  unfold stateOf
  rw [tr_eq, tr_eq, mm_eq, mm_eq, addSq_eq, addSq_eq]
  refine eq_lift2 fun a b => ?_
  pointwise [sq_ix, ch_ix]
  rw [Ideal.exp_coe, ← EReal.coe_mul]
  congr 1
  simp only [blk, chunk]
  by_cases h : hd a = hd b
  · rw [if_pos h, if_pos h, h]
  · rw [if_neg h, if_neg h, zero_mul]

theorem fold_eq (x : Fin 2 → Mat) : fold (sq x) = ch x := by
  refine eq_lift2 fun a b => ?_
  pointwise [fold, sq_ix]
  have ha := a.isLt
  have e : ∀ (h : Fin 2) (l : Fin 128), l = pk h a → blk x l b = if h = hd b then x h a (dm b) else 0 := by
    rintro h _ rfl; simp only [blk, hd_pk, dm_pk]
  rw [e 0 _ (Fin.ext (by simp [pk])), e 1 _ (Fin.ext (by simp [pk])), ← EReal.coe_add]
  congr 1
  simp only [chunk]
  generalize hd b = h
  fin_cases h <;> simp

/-! ## The chain -/

theorem uFn_eq (r k v kk b ld S : Fin 2 → Mat) : uFn (ch r) (ch k) (ch v) (ch kk) (ch b) (ch ld) (sq S) =
    sq fun h => Recur.chunkU (k h) (v h) (kk h) (b h) (ld h) (S h) := by
  unfold uFn uOf arsFn akvFn crossFn
  rw [aT_eq, upT_eq, dnT_eq, dnT_eq, ab_cross, akrk_cross, diag_eq, tinv_eq, top_timesT, top_times, addSq_eq, mm_eq]
  rfl

theorem stateFn_eq (r k v kk b ld S : Fin 2 → Mat) : stateFn (ch r) (ch k) (ch v) (ch kk) (ch b) (ch ld) (sq S) =
    sq fun h => Recur.chunkS (k h) (v h) (kk h) (b h) (ld h) (S h) := by
  unfold stateFn
  rw [uFn_eq, dnT_eq, dnT_eq, diag_eq, cums_eq, stateOf_eq]
  rfl

theorem readFn_eq (r k v kk b ld S : Fin 2 → Mat) : readFn (ch r) (ch k) (ch v) (ch kk) (ch b) (ch ld) (sq S) =
    ch fun h => Recur.chunkY (r h) (k h) (v h) (kk h) (b h) (ld h) (S h) := by
  unfold readFn
  rw [uFn_eq]
  unfold yOf arsFn akvFn crossFn
  rw [aT_eq, upT_eq, dnT_eq, dnT_eq, rb_cross, akrk_cross, diag_eq, bot_timesT, bot_times, mm_eq, addSq_eq, addSq_eq, fold_eq]
  rfl

/-! ## The norm over a head -/

/-- A head's mean over its lanes. -/
def mean (x : Mat) (t : Fin 64) : ℝ := (∑ d, x t d) * (1 / 64)

/-- That mean on each lane. -/
def avg (x : Mat) : Mat := fun t _ => mean x t

/-- Entry by entry product. -/
def had (x y : Mat) : Mat := fun t d => x t d * y t d

/-- The small number under the root. -/
def eps : ℝ := 10995116 * (2 ^ 34)⁻¹

theorem eps_pos : 0 < eps := by unfold eps; positivity

theorem ofBits_64th : Ideal.ofBits .f32 0x3C800000#32 = ((1 / 64 : ℝ) : EReal) := by
  simp [Ideal.ofBits, Ideal.ieee, -EReal.coe_mul]; norm_num

theorem ofBits_eps : Ideal.ofBits .f32 0x3A27C5AC#32 = (eps : EReal) := by
  simp [Ideal.ofBits, Ideal.ieee, -EReal.coe_mul, eps]

theorem meanOf_eq (x : Fin 2 → Mat) : meanOf (ch x) = ch fun h => avg (x h) := by
  refine eq_lift2 fun a b => ?_
  pointwise [meanOf, hi, rest, ch_ix, ones_apply]
  simp only [coe_sub_self, sub_zero, zero_mul, Finset.sum_const_zero, add_zero, ofBits_64th]
  simp only [← EReal.coe_mul, ← coe_sum]
  refine congrArg Real.toEReal ?_
  rw [sum_lanes, Finset.sum_eq_single (hd b)]
  · simp only [chunk, avg, mean, hd_pk, dm_pk, if_true, mul_one]
  · intro h _ hne
    refine Finset.sum_eq_zero fun d _ => ?_
    rw [hd_pk, if_neg hne, mul_zero]
  · intro h; exact absurd (Finset.mem_univ _) h

/-- A head's two numbers per lane as a row. -/
def row (x : Fin 2 → Fin 64 → ℝ) : FVec Ideal S1x128 .f32 := lift2 fun _ l => x (hd l) (dm l)

theorem row_ix (x : Fin 2 → Fin 64 → ℝ) (a : Fin 1) (b : Fin 128) : row x (ix2 a b) = (x (hd b) (dm b) : EReal) := rfl

/-- The difference from the mean. -/
def dev (y : Mat) : Mat := fun t d => y t d - mean y t

/-- A chunk's reading, normed over its head, scaled and shifted, the bonus added, gated. -/
def put (y g bon : Mat) (lg lb : Fin 64 → ℝ) : Mat := fun t d =>
  (dev y t d * (Real.sqrt (mean (had (dev y) (dev y)) t + eps))⁻¹ * lg d + lb d + bon t d) * g t d

theorem var_pos (y : Mat) (t : Fin 64) : 0 < mean (had (dev y) (dev y)) t + eps :=
  add_pos_of_nonneg_of_pos (mul_nonneg (Finset.sum_nonneg fun d _ => mul_self_nonneg _) (by norm_num)) eps_pos

theorem rsqrt_pos {x : ℝ} (h : 0 < x) : Ideal.rsqrt (x : EReal) = ((Real.sqrt x)⁻¹ : ℝ) := by
  rw [Ideal.rsqrt_coe, if_neg (not_lt.2 h.le), if_neg h.ne']

theorem sub_mean (y : Fin 2 → Mat) : subf (F := Ideal) (φ := .f32) (s := S64x128) (ch y) (meanOf (ch y)) = ch fun h => dev (y h) := by
  rw [meanOf_eq]
  refine eq_lift2 fun a b => ?_
  pointwise [ch_ix]
  rw [← EReal.coe_sub]; rfl

theorem mul_ch (x y : Fin 2 → Mat) : mulf (F := Ideal) (φ := .f32) (s := S64x128) (ch x) (ch y) = ch fun h => had (x h) (y h) := by
  refine eq_lift2 fun a b => ?_
  pointwise [ch_ix]
  rw [← EReal.coe_mul]; rfl

theorem put_eq (y g bon : Fin 2 → Mat) (lg lb : Fin 2 → Fin 64 → ℝ) :
    mulf (addf (normed (ch y) (row lg) (row lb)) (ch bon)) (ch g) = ch fun h => put (y h) (g h) (bon h) (lg h) (lb h) := by
  unfold normed
  simp only [sub_mean]
  simp only [mul_ch, meanOf_eq]
  refine eq_lift2 fun a b => ?_
  pointwise [ch_ix, row_ix]
  rw [ofBits_eps, ← EReal.coe_add]
  erw [rsqrt_pos (var_pos _ _)]
  simp only [← EReal.coe_mul, ← EReal.coe_add]
  rfl

theorem outFn_eq (r k v kk b ld g bon S : Fin 2 → Mat) (lg lb : Fin 2 → Fin 64 → ℝ) :
    outFn (ch r) (ch k) (ch v) (ch kk) (ch b) (ch ld) (ch g) (ch bon) (sq S) (row lg) (row lb) =
      ch fun h => put (Recur.chunkY (r h) (k h) (v h) (kk h) (b h) (ld h) (S h)) (g h) (bon h) (lg h) (lb h) := by
  unfold outFn
  rw [readFn_eq, put_eq]

end Cert.KernelIdeal.Stages

end
-- ==== Proof.Whole.lean ====
/-
  The whole result in reals: the state of each head after any number of tokens, what each token reads off it, and the
  two arrays they make; and how a chunk of sixty-four tokens is part of it.
-/
module

public import proofs.«01_k».proof.Proof.Real

@[expose] public section

noncomputable section

namespace Cert.Whole

open Idealize.ShloMosaic Cert.Recur Cert.KernelIdeal.Stages

/-- An argument: per batch, pair of heads and token, the two heads' lanes. -/
abbrev A4 := (⟨4, ![4, 8, 2048, 128]⟩ : Shape).Idx → EReal
/-- An argument of one number per lane of every head. -/
abbrev A1 := (⟨1, ![1024]⟩ : Shape).Idx → EReal
/-- The states of all the pairs. -/
abbrev B4 := (⟨4, ![4, 8, 128, 128]⟩ : Shape).Idx → EReal

/-- An array of reals. -/
def IsReal {s : Shape} (X : s.Idx → EReal) : Prop := ∀ i, ((X i).toReal : EReal) = X i

/-- One head's tokens; past the last, zeros. -/
def tok (X : A4) (β : Fin 4) (p : Fin 8) (h : Fin 2) : ℕ → Fin 64 → ℝ := fun n d =>
  if hn : n < 2048 then (X (ix4 β p ⟨n, hn⟩ (pk h d))).toReal else 0

/-- One head's numbers of an argument of one number per lane. -/
def aff (X : A1) (p : Fin 8) (h : Fin 2) : Fin 64 → ℝ := fun d =>
  (X (ix1 ⟨128 * p.val + (64 * h.val + d.val), by omega⟩)).toReal

theorem tok_lt (X : A4) (β : Fin 4) (p : Fin 8) (h : Fin 2) (n : Fin 2048) (d : Fin 64) :
    tok X β p h n d = (X (ix4 β p n (pk h d))).toReal := by
  unfold tok; rw [dif_pos n.isLt]

/-- A head's state after `n` tokens. -/
def stR (k v kk b ld : A4) (β : Fin 4) (p : Fin 8) (h : Fin 2) (n : ℕ) : Mat :=
  seqFrom (tok k β p h) (tok v β p h) (tok kk β p h) (tok b β p h) (tok ld β p h) 0 n

/-- What a head's token `n` reads. -/
def yR (r k v kk b ld : A4) (β : Fin 4) (p : Fin 8) (h : Fin 2) (n : ℕ) : Fin 64 → ℝ := fun i =>
  ∑ l, stR k v kk b ld β p h (n + 1) i l * tok r β p h n l

/-- The mean of a row. -/
def mean1 (x : Fin 64 → ℝ) : ℝ := (∑ d, x d) * (1 / 64)

/-- The difference from it. -/
def dev1 (x : Fin 64 → ℝ) : Fin 64 → ℝ := fun d => x d - mean1 x

/-- A row normed, scaled and shifted, the bonus added, gated. -/
def put1 (y g bon lg lb : Fin 64 → ℝ) : Fin 64 → ℝ := fun d =>
  (dev1 y d * (Real.sqrt (mean1 (fun e => dev1 y e * dev1 y e) + eps))⁻¹ * lg d + lb d + bon d) * g d

theorem var1_pos (y : Fin 64 → ℝ) : 0 < mean1 (fun e => dev1 y e * dev1 y e) + eps :=
  add_pos_of_nonneg_of_pos (mul_nonneg (Finset.sum_nonneg fun d _ => mul_self_nonneg _) (by norm_num)) eps_pos

theorem put_row (y g bon : Mat) (lg lb : Fin 64 → ℝ) (t : Fin 64) : put y g bon lg lb t = put1 (y t) (g t) (bon t) lg lb := rfl

/-- What a head's token `n` puts out. -/
def outR (r k v kk b ld g bon : A4) (lg lb : A1) (β : Fin 4) (p : Fin 8) (h : Fin 2) (n : ℕ) : Fin 64 → ℝ :=
  put1 (yR r k v kk b ld β p h n) (tok g β p h n) (tok bon β p h n) (aff lg p h) (aff lb p h)

/-- The first result. -/
def outAll (r k v kk b ld g bon : A4) (lg lb : A1) : A4 := fun i =>
  (outR r k v kk b ld g bon lg lb (i 0) (i 1) (hd (i 3)) (i 2).val (dm (i 3)) : EReal)

/-- The second result: each head's last state, on its pair's diagonal. -/
def stAll (k v kk b ld : A4) : B4 := fun i =>
  (blk (fun h => stR k v kk b ld (i 0) (i 1) h 2048) (i 2) (i 3) : EReal)

/-! ## Chunks -/

/-- Chunk `j` of a head's tokens. -/
def seg (X : A4) (β : Fin 4) (p : Fin 8) (j : ℕ) (h : Fin 2) : Mat := fun s d => tok X β p h (64 * j + s.val) d

theorem toks_seg (X : A4) (β : Fin 4) (p : Fin 8) (j : ℕ) (h : Fin 2) (t : ℕ) (ht : t < 64) :
    toks (seg X β p j h) t = tok X β p h (64 * j + t) := by rw [toks_lt _ _ ht]; rfl

/-- Within a chunk the state is the one all the tokens make. -/
theorem seq_seg (k v kk b ld : A4) (β : Fin 4) (p : Fin 8) (h : Fin 2) (j n : ℕ) (hn : n ≤ 64) :
    seqFrom (toks (seg k β p j h)) (toks (seg v β p j h)) (toks (seg kk β p j h)) (toks (seg b β p j h))
      (toks (seg ld β p j h)) (stR k v kk b ld β p h (64 * j)) n = stR k v kk b ld β p h (64 * j + n) := by
  rw [stR, stR, seqFrom_add]
  exact seqFrom_congr _ _ (fun t ht => toks_seg _ _ _ _ _ _ (by omega)) (fun t ht => toks_seg _ _ _ _ _ _ (by omega))
    (fun t ht => toks_seg _ _ _ _ _ _ (by omega)) (fun t ht => toks_seg _ _ _ _ _ _ (by omega))
    (fun t ht => toks_seg _ _ _ _ _ _ (by omega))

/-- A chunk takes a pair's state from the tokens before it to those up to its end. -/
theorem state_chunk (r k v kk b ld : A4) (β : Fin 4) (p : Fin 8) (j : ℕ) :
    stateFn (ch (seg r β p j)) (ch (seg k β p j)) (ch (seg v β p j)) (ch (seg kk β p j)) (ch (seg b β p j))
        (ch (seg ld β p j)) (sq fun h => stR k v kk b ld β p h (64 * j))
      = Cert.KernelIdeal.Stages.sq (fun h => stR k v kk b ld β p h (64 * (j + 1))) := by
  rw [stateFn_eq]; congr 1; funext h
  rw [chunk_state, seq_seg _ _ _ _ _ _ _ _ _ _ le_rfl]; rfl

/-- A chunk puts out what its tokens do. -/
theorem out_chunk (r k v kk b ld g bon : A4) (lg lb : A1) (β : Fin 4) (p : Fin 8) (j : ℕ) (s : Fin 64) (l : Fin 128) :
    outFn (ch (seg r β p j)) (ch (seg k β p j)) (ch (seg v β p j)) (ch (seg kk β p j)) (ch (seg b β p j))
        (ch (seg ld β p j)) (ch (seg g β p j)) (ch (seg bon β p j)) (sq fun h => stR k v kk b ld β p h (64 * j))
        (row (aff lg p)) (row (aff lb p)) (ix2 s l)
      = (outR r k v kk b ld g bon lg lb β p (hd l) (64 * j + s.val) (dm l) : EReal) := by
  rw [outFn_eq, ch_ix]
  show ((put _ _ _ _ _ s (dm l) : ℝ) : EReal) = _
  rw [put_row]
  have e : chunkY (seg r β p j (hd l)) (seg k β p j (hd l)) (seg v β p j (hd l)) (seg kk β p j (hd l)) (seg b β p j (hd l))
      (seg ld β p j (hd l)) (stR k v kk b ld β p (hd l) (64 * j)) s = yR r k v kk b ld β p (hd l) (64 * j + s.val) := by
    funext i
    rw [chunk_read, seq_seg _ _ _ _ _ _ _ _ _ _ (by omega)]; rfl
  rw [e]; rfl

end Cert.Whole

end
-- ==== Proof.Bridge.lean ====
/-
  What the body stores, read at an index: the stored pieces of each of the grid's three kinds of points are the chain of
  stages on each pair's slices.
-/
module

public import proofs.«01_k».proof.Proof.Stages
public import proofs.«01_k».proof.Proof.Gen.KernelIdeal.Value
public import Idealize.ShloMosaic.Lib.Pointwise
public import Idealize.ShloMosaic.Lib.Writes

@[expose] public section

set_option maxRecDepth 65536

noncomputable section

namespace Cert.KernelIdeal.Stages

open Idealize.ShloMosaic Idealize.SL.Sem Cert.KernelIdeal Cert.KernelIdeal.Gen

/-! ## Slices of the blocks -/

/-- Pair `p` of a block of chunks, of a block of states, of a scratch of states, of a block of rows. -/
def slc (x : Vec Ideal S1x8x64x128 .f32) (p : Fin 8) : Chunk := fun i => x (ix4 0 p (i 0) (i 1))
def sls (x : Vec Ideal S8x128x128 .f32) (p : Fin 8) : Sq := fun i => x (ix3 p (i 0) (i 1))
def sl0 (x : Vec Ideal S1x8x128x128 .f32) (p : Fin 8) : Sq := fun i => x (ix4 0 p (i 0) (i 1))
def slr (x : Vec Ideal S8x1x128 .f32) (p : Fin 8) : FVec Ideal S1x128 .f32 := fun i => x (ix3 p 0 (i 1))

theorem inb4 (p : Fin 8) : ∀ a, (![0, p.val, 0, 0] : Fin 4 → ℕ) a + S1x1x64x128.size a ≤ S1x8x64x128.size a := by
  revert p; decide
theorem inb3 (p : Fin 8) : ∀ a, (![p.val, 0, 0] : Fin 3 → ℕ) a + S1x128x128.size a ≤ S8x128x128.size a := by
  revert p; decide
theorem inb3r (p : Fin 8) : ∀ a, (![p.val, 0, 0] : Fin 3 → ℕ) a + S1x1x128.size a ≤ S8x1x128.size a := by
  revert p; decide

/-- A pair's chunk loaded from an input's block. -/
def ldC (arg : Memref sig .tc .vmem S1x8x64x128 .f32) (harg : arg.IsWhole) (x : Vec Ideal S1x8x64x128 .f32) (p : Fin 8) : Chunk :=
  shapeCast S64x128 (View.readAt (Elt Ideal) arg.view (Rect.toLoadRect (Rect.unit ![0, p.val, 0, 0] S1x1x64x128.size (inb4 p)))
    (harg.unread x)) shapeCasts_S1x1x64x128_S64x128

/-- A pair's state loaded from the carried scratch. -/
def ldS (arg : Memref sig .tc .vmem S8x128x128 .f32) (harg : arg.IsWhole) (x : Vec Ideal S8x128x128 .f32) (p : Fin 8) : Sq :=
  shapeCast S128x128 (View.readAt (Elt Ideal) arg.view (Rect.toLoadRect (Rect.unit ![p.val, 0, 0] S1x128x128.size (inb3 p)))
    (harg.unread x)) shapeCasts_S1x128x128_S128x128

/-- A pair's row loaded from a block of rows. -/
def ldR (arg : Memref sig .tc .vmem S8x1x128 .f32) (harg : arg.IsWhole) (x : Vec Ideal S8x1x128 .f32) (p : Fin 8) :
    FVec Ideal S1x128 .f32 :=
  shapeCast S1x128 (View.readAt (Elt Ideal) arg.view (Rect.toLoadRect (Rect.unit ![p.val, 0, 0] S1x1x128.size (inb3r p)))
    (harg.unread x)) shapeCasts_S1x1x128_S1x128

theorem unpack_chunk (w : Vec Ideal S1x1x64x128 .f32) (a : Fin 64) (b : Fin 128) :
    shapeCast S64x128 w shapeCasts_S1x1x64x128_S64x128 (ix2 a b) = w (ix4 0 0 a b) := by
  pointwise []

theorem pack_chunk (w : Chunk) (j : S1x1x64x128.Idx) :
    shapeCast S1x1x64x128 w shapeCasts_S64x128_S1x1x64x128 j = w (ix2 (j 2) (j 3)) := by
  idx_vars j
  pointwise []

theorem unpack_state (w : Vec Ideal S1x128x128 .f32) (a b : Fin 128) :
    shapeCast S128x128 w shapeCasts_S1x128x128_S128x128 (ix2 a b) = w (ix3 0 a b) := by
  pointwise []

theorem pack_state (w : Sq) (j : S1x128x128.Idx) :
    shapeCast S1x128x128 w shapeCasts_S128x128_S1x128x128 j = w (ix2 (j 1) (j 2)) := by
  idx_vars j
  pointwise []

theorem unpack_row (w : Vec Ideal S1x1x128 .f32) (a : Fin 1) (b : Fin 128) :
    shapeCast S1x128 w shapeCasts_S1x1x128_S1x128 (ix2 a b) = w (ix3 0 0 b) := by
  pointwise []

theorem unpack_states (w : Vec Ideal S1x8x128x128 .f32) (p : Fin 8) (a b : Fin 128) :
    shapeCast S8x128x128 w shapeCasts_S1x8x128x128_S8x128x128 (ix3 p a b) = w (ix4 0 p a b) := by
  pointwise []

theorem pack_states (w : Vec Ideal S8x128x128 .f32) (p : Fin 8) (a b : Fin 128) :
    shapeCast S1x8x128x128 w shapeCasts_S8x128x128_S1x8x128x128 (ix4 0 p a b) = w (ix3 p a b) := by
  pointwise []

theorem ldC_eq (arg : Memref sig .tc .vmem S1x8x64x128 .f32) (harg : arg.IsWhole) (x : Vec Ideal S1x8x64x128 .f32) (p : Fin 8) :
    ldC arg harg x p = slc x p := by
  suffices H : ∀ (a : Fin 64) (b : Fin 128), ldC arg harg x p (ix2 a b) = slc x p (ix2 a b) from
    funext fun i => by rw [eq_ix2 i]; exact H _ _
  intro a b
  unfold ldC slc
  rw [View.readAt_eq_ld, harg.read_unread, unpack_chunk]
  show x _ = x _
  congr 1
  funext d; apply Fin.ext
  fin_cases d
  · rfl
  · show p.val + 1 * 0 = p.val; omega
  · show 0 + 1 * a.val = a.val; omega
  · show 0 + 1 * b.val = b.val; omega

theorem ldS_eq (arg : Memref sig .tc .vmem S8x128x128 .f32) (harg : arg.IsWhole) (x : Vec Ideal S8x128x128 .f32) (p : Fin 8) :
    ldS arg harg x p = sls x p := by
  suffices H : ∀ (a b : Fin 128), ldS arg harg x p (ix2 a b) = sls x p (ix2 a b) from
    funext fun i => by rw [eq_ix2 i]; exact H _ _
  intro a b
  unfold ldS sls
  rw [View.readAt_eq_ld, harg.read_unread, unpack_state]
  show x _ = x _
  congr 1
  funext d; apply Fin.ext
  fin_cases d
  · show p.val + 1 * 0 = p.val; omega
  · show 0 + 1 * a.val = a.val; omega
  · show 0 + 1 * b.val = b.val; omega

theorem ldR_eq (arg : Memref sig .tc .vmem S8x1x128 .f32) (harg : arg.IsWhole) (x : Vec Ideal S8x1x128 .f32) (p : Fin 8) :
    ldR arg harg x p = slr x p := by
  suffices H : ∀ (a : Fin 1) (b : Fin 128), ldR arg harg x p (ix2 a b) = slr x p (ix2 a b) from
    funext fun i => by rw [eq_ix2 i]; exact H _ _
  intro a b
  unfold ldR slr
  rw [View.readAt_eq_ld, harg.read_unread, unpack_row]
  show x _ = x _
  congr 1
  funext d; apply Fin.ext
  fin_cases d
  · show p.val + 1 * 0 = p.val; omega
  · rfl
  · show 0 + 1 * b.val = b.val; omega

/-- The one piece that fills the scratch at a first point: the state block, in the scratch's shape. -/
def fill (arg10 : Memref sig .tc .vmem S1x8x128x128 .f32) (harg10 : arg10.IsWhole) (x8 : Vec Ideal S1x8x128x128 .f32) :
    View.Piece (Elt Ideal) S8x128x128 .f32 :=
  ⟨Rect.unit ![0, 0, 0] S8x128x128.size inb_S8x128x128_S8x128x128_0_0_0, k0_pay3
    (View.readAt (Elt Ideal) arg10.view (Rect.unit ![0, 0, 0, 0] S1x8x128x128.size inb_S1x8x128x128_S1x8x128x128_0_0_0_0).toLoadRect
      (harg10.unread x8))⟩

/-- The filling piece at an index is the state block there. -/
theorem fill_reads (w : Vec Ideal S1x8x128x128 .f32) (p : Fin 8) (a b : Fin 128) :
    k0_pay3 w (ix3 p a b) = w (ix4 0 p a b) := by
  pointwise [k0_pay3]

/-- Where a pair's state lies in the scratch. -/
theorem emb_state (p : Fin 8) (a b : Fin 128) :
    Rect.emb (s := S8x128x128) (Rect.unit ![p.val, 0, 0] S1x128x128.size (inb3 p)) (ix3 (0 : Fin 1) a b) = (ix3 p a b : S8x128x128.Idx) := by
  funext d; apply Fin.ext
  fin_cases d
  · show p.val + 1 * 0 = p.val; omega
  · show 0 + 1 * a.val = a.val; omega
  · show 0 + 1 * b.val = b.val; omega

/-- A pair's state loaded back from the filled scratch. -/
def ldF (arg15 : Memref sig .tc .vmem S8x128x128 .f32) (arg10 : Memref sig .tc .vmem S1x8x128x128 .f32) (harg10 : arg10.IsWhole)
    (x8 : Vec Ideal S1x8x128x128 .f32) (p : Fin 8) : Sq :=
  shapeCast S128x128 (arg15.view.readCov [fill arg10 harg10 x8] (Rect.toLoadRect (Rect.unit ![p.val, 0, 0] S1x128x128.size (inb3 p))))
    shapeCasts_S1x128x128_S128x128

theorem ldF_eq (arg15 : Memref sig .tc .vmem S8x128x128 .f32) (arg10 : Memref sig .tc .vmem S1x8x128x128 .f32)
    (harg10 : arg10.IsWhole) (x8 : Vec Ideal S1x8x128x128 .f32) (p : Fin 8) : ldF arg15 arg10 harg10 x8 p = sl0 x8 p := by
  suffices H : ∀ (a b : Fin 128), ldF arg15 arg10 harg10 x8 p (ix2 a b) = sl0 x8 p (ix2 a b) from
    funext fun i => by rw [eq_ix2 i]; exact H _ _
  intro a b
  have hz : ∀ n, (![0, 0, 0] : Fin 3 → ℕ) n = 0 := by decide
  have hz4 : ∀ n, (![0, 0, 0, 0] : Fin 4 → ℕ) n = 0 := by decide
  unfold ldF sl0 fill
  rw [unpack_state, View.readCov_eq_canon_ld _ _ _ (fun y => ⟨_, List.mem_singleton_self _,
    View.mem_set_unit_zero (funext hz) inb_S8x128x128_S8x128x128_0_0_0 y⟩), View.canon_unit_zero (funext hz), View.readAt_eq_ld,
    harg10.read_unread, View.ld_unit_zero (funext hz4)]
  exact (congrArg (k0_pay3 x8) (emb_state p a b)).trans (fill_reads x8 p a b)

/-! ## What a point leaves, in closed form -/

/-- The output's block from the inputs' blocks and each pair's state before. -/
def outG (x0 x1 x2 x3 x4 x5 x6 x7 : Vec Ideal S1x8x64x128 .f32) (x9 x10 : Vec Ideal S8x1x128 .f32) (S : Fin 8 → Sq) :
    Vec Ideal S1x8x64x128 .f32 := fun j =>
  outFn (slc x0 (j 1)) (slc x1 (j 1)) (slc x2 (j 1)) (slc x3 (j 1)) (slc x4 (j 1)) (slc x5 (j 1)) (slc x6 (j 1)) (slc x7 (j 1))
    (S (j 1)) (slr x9 (j 1)) (slr x10 (j 1)) (ix2 (j 2) (j 3))

/-- The scratch from the inputs' blocks and each pair's state before. -/
def stG (x0 x1 x2 x3 x4 x5 : Vec Ideal S1x8x64x128 .f32) (S : Fin 8 → Sq) : Vec Ideal S8x128x128 .f32 := fun j =>
  stateFn (slc x0 (j 0)) (slc x1 (j 0)) (slc x2 (j 0)) (slc x3 (j 0)) (slc x4 (j 0)) (slc x5 (j 0)) (S (j 0)) (ix2 (j 1) (j 2))

section
variable (c : Dev nD) (i : grid0.Coords)
  (arg2 : Memref sig .tc .vmem S1x8x64x128 .f32) (harg2 : arg2.IsWhole)
  (arg3 : Memref sig .tc .vmem S1x8x64x128 .f32) (harg3 : arg3.IsWhole)
  (arg4 : Memref sig .tc .vmem S1x8x64x128 .f32) (harg4 : arg4.IsWhole)
  (arg5 : Memref sig .tc .vmem S1x8x64x128 .f32) (harg5 : arg5.IsWhole)
  (arg6 : Memref sig .tc .vmem S1x8x64x128 .f32) (harg6 : arg6.IsWhole)
  (arg7 : Memref sig .tc .vmem S1x8x64x128 .f32) (harg7 : arg7.IsWhole)
  (arg8 : Memref sig .tc .vmem S1x8x64x128 .f32) (harg8 : arg8.IsWhole)
  (arg9 : Memref sig .tc .vmem S1x8x64x128 .f32) (harg9 : arg9.IsWhole)
  (arg10 : Memref sig .tc .vmem S1x8x128x128 .f32) (harg10 : arg10.IsWhole)
  (arg11 : Memref sig .tc .vmem S8x1x128 .f32) (harg11 : arg11.IsWhole)
  (arg12 : Memref sig .tc .vmem S8x1x128 .f32) (harg12 : arg12.IsWhole)
  (arg13 : Memref sig .tc .vmem S1x8x64x128 .f32) (harg13 : arg13.IsWhole)
  (arg14 : Memref sig .tc .vmem S1x8x128x128 .f32) (harg14 : arg14.IsWhole)
  (arg15 : Memref sig .tc .vmem S8x128x128 .f32) (harg15 : arg15.IsWhole)
  (x0 x1 x2 x3 x4 x5 x6 x7 : Vec Ideal S1x8x64x128 .f32) (x8 : Vec Ideal S1x8x128x128 .f32) (x9 x10 : Vec Ideal S8x1x128 .f32) (xs : Vec Ideal S8x128x128 .f32)

/-- The piece pair `p` stores into the output, and into the scratch, from a state `S`. -/
def outP (S : Sq) (p : Fin 8) : View.Piece (Elt Ideal) S1x8x64x128 .f32 :=
  ⟨Rect.unit ![0, p.val, 0, 0] S1x1x64x128.size (inb4 p), shapeCast S1x1x64x128 (outFn (ldC arg2 harg2 x0 p) (ldC arg3 harg3 x1 p)
    (ldC arg4 harg4 x2 p) (ldC arg5 harg5 x3 p) (ldC arg6 harg6 x4 p) (ldC arg7 harg7 x5 p) (ldC arg8 harg8 x6 p)
    (ldC arg9 harg9 x7 p) S (ldR arg11 harg11 x9 p) (ldR arg12 harg12 x10 p)) shapeCasts_S64x128_S1x1x64x128⟩

def stP (S : Sq) (p : Fin 8) : View.Piece (Elt Ideal) S8x128x128 .f32 :=
  ⟨Rect.unit ![p.val, 0, 0] S1x128x128.size (inb3 p), shapeCast S1x128x128 (stateFn (ldC arg2 harg2 x0 p) (ldC arg3 harg3 x1 p)
    (ldC arg4 harg4 x2 p) (ldC arg5 harg5 x3 p) (ldC arg6 harg6 x4 p) (ldC arg7 harg7 x5 p) S) shapeCasts_S128x128_S1x128x128⟩

/-- All eight pieces, the last stored first. -/
def outL (S : Fin 8 → Sq) : List (View.Piece (Elt Ideal) S1x8x64x128 .f32) :=
  [outP arg2 harg2 arg3 harg3 arg4 harg4 arg5 harg5 arg6 harg6 arg7 harg7 arg8 harg8 arg9 harg9 arg11 harg11 arg12 harg12 x0 x1 x2 x3 x4 x5 x6 x7 x9 x10 (S 7) 7, outP arg2 harg2 arg3 harg3 arg4 harg4 arg5 harg5 arg6 harg6 arg7 harg7 arg8 harg8 arg9 harg9 arg11 harg11 arg12 harg12 x0 x1 x2 x3 x4 x5 x6 x7 x9 x10 (S 6) 6, outP arg2 harg2 arg3 harg3 arg4 harg4 arg5 harg5 arg6 harg6 arg7 harg7 arg8 harg8 arg9 harg9 arg11 harg11 arg12 harg12 x0 x1 x2 x3 x4 x5 x6 x7 x9 x10 (S 5) 5, outP arg2 harg2 arg3 harg3 arg4 harg4 arg5 harg5 arg6 harg6 arg7 harg7 arg8 harg8 arg9 harg9 arg11 harg11 arg12 harg12 x0 x1 x2 x3 x4 x5 x6 x7 x9 x10 (S 4) 4, outP arg2 harg2 arg3 harg3 arg4 harg4 arg5 harg5 arg6 harg6 arg7 harg7 arg8 harg8 arg9 harg9 arg11 harg11 arg12 harg12 x0 x1 x2 x3 x4 x5 x6 x7 x9 x10 (S 3) 3, outP arg2 harg2 arg3 harg3 arg4 harg4 arg5 harg5 arg6 harg6 arg7 harg7 arg8 harg8 arg9 harg9 arg11 harg11 arg12 harg12 x0 x1 x2 x3 x4 x5 x6 x7 x9 x10 (S 2) 2, outP arg2 harg2 arg3 harg3 arg4 harg4 arg5 harg5 arg6 harg6 arg7 harg7 arg8 harg8 arg9 harg9 arg11 harg11 arg12 harg12 x0 x1 x2 x3 x4 x5 x6 x7 x9 x10 (S 1) 1, outP arg2 harg2 arg3 harg3 arg4 harg4 arg5 harg5 arg6 harg6 arg7 harg7 arg8 harg8 arg9 harg9 arg11 harg11 arg12 harg12 x0 x1 x2 x3 x4 x5 x6 x7 x9 x10 (S 0) 0]

def stL (S : Fin 8 → Sq) : List (View.Piece (Elt Ideal) S8x128x128 .f32) :=
  [stP arg2 harg2 arg3 harg3 arg4 harg4 arg5 harg5 arg6 harg6 arg7 harg7 x0 x1 x2 x3 x4 x5 (S 7) 7, stP arg2 harg2 arg3 harg3 arg4 harg4 arg5 harg5 arg6 harg6 arg7 harg7 x0 x1 x2 x3 x4 x5 (S 6) 6, stP arg2 harg2 arg3 harg3 arg4 harg4 arg5 harg5 arg6 harg6 arg7 harg7 x0 x1 x2 x3 x4 x5 (S 5) 5, stP arg2 harg2 arg3 harg3 arg4 harg4 arg5 harg5 arg6 harg6 arg7 harg7 x0 x1 x2 x3 x4 x5 (S 4) 4, stP arg2 harg2 arg3 harg3 arg4 harg4 arg5 harg5 arg6 harg6 arg7 harg7 x0 x1 x2 x3 x4 x5 (S 3) 3, stP arg2 harg2 arg3 harg3 arg4 harg4 arg5 harg5 arg6 harg6 arg7 harg7 x0 x1 x2 x3 x4 x5 (S 2) 2, stP arg2 harg2 arg3 harg3 arg4 harg4 arg5 harg5 arg6 harg6 arg7 harg7 x0 x1 x2 x3 x4 x5 (S 1) 1, stP arg2 harg2 arg3 harg3 arg4 harg4 arg5 harg5 arg6 harg6 arg7 harg7 x0 x1 x2 x3 x4 x5 (S 0) 0]

theorem outP_reads (S : Fin 8 → Sq) (p : Fin 8) (j : S1x1x64x128.Idx) :
    (outP arg2 harg2 arg3 harg3 arg4 harg4 arg5 harg5 arg6 harg6 arg7 harg7 arg8 harg8 arg9 harg9 arg11 harg11 arg12 harg12 x0 x1 x2 x3 x4 x5 x6 x7 x9 x10 (S p) p).2 j = outG x0 x1 x2 x3 x4 x5 x6 x7 x9 x10 S ((outP arg2 harg2 arg3 harg3 arg4 harg4 arg5 harg5 arg6 harg6 arg7 harg7 arg8 harg8 arg9 harg9 arg11 harg11 arg12 harg12 x0 x1 x2 x3 x4 x5 x6 x7 x9 x10 (S p) p).1.emb j) := by
  have e : (outP arg2 harg2 arg3 harg3 arg4 harg4 arg5 harg5 arg6 harg6 arg7 harg7 arg8 harg8 arg9 harg9 arg11 harg11 arg12 harg12 x0 x1 x2 x3 x4 x5 x6 x7 x9 x10 (S p) p).1.emb j = ix4 0 p (j 2) (j 3) := by
    have h0 : (j 0).val < 1 := (j 0).isLt
    have h1 : (j 1).val < 1 := (j 1).isLt
    funext d; apply Fin.ext
    fin_cases d
    · show 0 + 1 * (j 0).val = 0; omega
    · show p.val + 1 * (j 1).val = p.val; omega
    · show 0 + 1 * (j 2).val = (j 2).val; omega
    · show 0 + 1 * (j 3).val = (j 3).val; omega
  rw [e]
  unfold outP
  dsimp only
  rw [pack_chunk]
  simp only [ldC_eq, ldR_eq]
  rfl

theorem stP_reads (S : Fin 8 → Sq) (p : Fin 8) (j : S1x128x128.Idx) :
    (stP arg2 harg2 arg3 harg3 arg4 harg4 arg5 harg5 arg6 harg6 arg7 harg7 x0 x1 x2 x3 x4 x5 (S p) p).2 j = stG x0 x1 x2 x3 x4 x5 S ((stP arg2 harg2 arg3 harg3 arg4 harg4 arg5 harg5 arg6 harg6 arg7 harg7 x0 x1 x2 x3 x4 x5 (S p) p).1.emb j) := by
  have e : (stP arg2 harg2 arg3 harg3 arg4 harg4 arg5 harg5 arg6 harg6 arg7 harg7 x0 x1 x2 x3 x4 x5 (S p) p).1.emb j = ix3 p (j 1) (j 2) := by
    have h0 : (j 0).val < 1 := (j 0).isLt
    funext d; apply Fin.ext
    fin_cases d
    · show p.val + 1 * (j 0).val = p.val; omega
    · show 0 + 1 * (j 1).val = (j 1).val; omega
    · show 0 + 1 * (j 2).val = (j 2).val; omega
  rw [e]
  unfold stP
  dsimp only
  rw [pack_state]
  simp only [ldC_eq]
  rfl

theorem outL_reads (S : Fin 8 → Sq) : ∀ q ∈ outL arg2 harg2 arg3 harg3 arg4 harg4 arg5 harg5 arg6 harg6 arg7 harg7 arg8 harg8 arg9 harg9 arg11 harg11 arg12 harg12 x0 x1 x2 x3 x4 x5 x6 x7 x9 x10 S, ∀ j : q.1.shape.Idx,
    q.2 j = outG x0 x1 x2 x3 x4 x5 x6 x7 x9 x10 S (q.1.emb j) := by
  intro q hq
  simp only [outL, List.mem_cons, List.not_mem_nil, or_false] at hq
  rcases hq with rfl | rfl | rfl | rfl | rfl | rfl | rfl | rfl <;> exact outP_reads _ _ _ _ _ _ _ _ _ _ _ _ _ _ _ _ _ _ _ _ _ _ _ _ _ _ _ _ _ _ _ _

theorem stL_reads (S : Fin 8 → Sq) : ∀ q ∈ stL arg2 harg2 arg3 harg3 arg4 harg4 arg5 harg5 arg6 harg6 arg7 harg7 x0 x1 x2 x3 x4 x5 S, ∀ j : q.1.shape.Idx,
    q.2 j = stG x0 x1 x2 x3 x4 x5 S (q.1.emb j) := by
  intro q hq
  simp only [stL, List.mem_cons, List.not_mem_nil, or_false] at hq
  rcases hq with rfl | rfl | rfl | rfl | rfl | rfl | rfl | rfl <;> exact stP_reads _ _ _ _ _ _ _ _ _ _ _ _ _ _ _ _ _ _ _ _

theorem stL_cover (S : Fin 8 → Sq) (y : S8x128x128.Idx) : ∃ q ∈ stL arg2 harg2 arg3 harg3 arg4 harg4 arg5 harg5 arg6 harg6 arg7 harg7 x0 x1 x2 x3 x4 x5 S, y ∈ q.1.set :=
  View.cover_of_tiledL (stL arg2 harg2 arg3 harg3 arg4 harg4 arg5 harg5 arg6 harg6 arg7 harg7 x0 x1 x2 x3 x4 x5 S) S1x128x128.size (by sl_kernel_rfl) y

theorem outL_cover (S : Fin 8 → Sq) (y : S1x8x64x128.Idx) : ∃ q ∈ outL arg2 harg2 arg3 harg3 arg4 harg4 arg5 harg5 arg6 harg6 arg7 harg7 arg8 harg8 arg9 harg9 arg11 harg11 arg12 harg12 x0 x1 x2 x3 x4 x5 x6 x7 x9 x10 S, y ∈ q.1.set :=
  View.cover_of_tiledL (outL arg2 harg2 arg3 harg3 arg4 harg4 arg5 harg5 arg6 harg6 arg7 harg7 arg8 harg8 arg9 harg9 arg11 harg11 arg12 harg12 x0 x1 x2 x3 x4 x5 x6 x7 x9 x10 S) S1x1x64x128.size (by sl_kernel_rfl) y

theorem pieces11_A (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 =
    outL arg2 harg2 arg3 harg3 arg4 harg4 arg5 harg5 arg6 harg6 arg7 harg7 arg8 harg8 arg9 harg9 arg11 harg11 arg12 harg12 x0 x1 x2 x3 x4 x5 x6 x7 x9 x10 (ldF arg15 arg10 harg10 x8) := by
  sl_kernel_rfl

theorem piecesS_A (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1 =
    stL arg2 harg2 arg3 harg3 arg4 harg4 arg5 harg5 arg6 harg6 arg7 harg7 x0 x1 x2 x3 x4 x5 (ldF arg15 arg10 harg10 x8) ++ [fill arg10 harg10 x8] := by
  sl_kernel_rfl

theorem out_A (hc0 : cond0_0 i) (hc1 : ¬cond0_1 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 =
    outG x0 x1 x2 x3 x4 x5 x6 x7 x9 x10 (sl0 x8) := by
  funext y
  unfold out0_A_11
  rw [pieces11_A, View.read_writes_apply_of_pieces _ _ _ _ (outL_reads arg2 harg2 arg3 harg3 arg4 harg4 arg5 harg5 arg6 harg6 arg7 harg7 arg8 harg8 arg9 harg9 arg11 harg11 arg12 harg12 x0 x1 x2 x3 x4 x5 x6 x7 x9 x10 (ldF arg15 arg10 harg10 x8)) y
    (outL_cover arg2 harg2 arg3 harg3 arg4 harg4 arg5 harg5 arg6 harg6 arg7 harg7 arg8 harg8 arg9 harg9 arg11 harg11 arg12 harg12 x0 x1 x2 x3 x4 x5 x6 x7 x9 x10 (ldF arg15 arg10 harg10 x8) y)]
  congr 1
  funext p; exact ldF_eq _ _ _ _ _

theorem sout_A (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 =
    stG x0 x1 x2 x3 x4 x5 (sl0 x8) := by
  funext y
  unfold sout0_A_0
  rw [piecesS_A, View.writes_append, View.read_writes_apply_of_pieces _ _ _ _ (stL_reads arg2 harg2 arg3 harg3 arg4 harg4 arg5 harg5 arg6 harg6 arg7 harg7 x0 x1 x2 x3 x4 x5 (ldF arg15 arg10 harg10 x8)) y
    (stL_cover arg2 harg2 arg3 harg3 arg4 harg4 arg5 harg5 arg6 harg6 arg7 harg7 x0 x1 x2 x3 x4 x5 (ldF arg15 arg10 harg10 x8) y)]
  congr 1
  funext p; exact ldF_eq _ _ _ _ _

theorem pieces11_B (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs).1 =
    outL arg2 harg2 arg3 harg3 arg4 harg4 arg5 harg5 arg6 harg6 arg7 harg7 arg8 harg8 arg9 harg9 arg11 harg11 arg12 harg12 x0 x1 x2 x3 x4 x5 x6 x7 x9 x10 (ldS arg15 harg15 xs) := by
  sl_kernel_rfl

theorem piecesS_B (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs).2.2.1 =
    stL arg2 harg2 arg3 harg3 arg4 harg4 arg5 harg5 arg6 harg6 arg7 harg7 x0 x1 x2 x3 x4 x5 (ldS arg15 harg15 xs) := by
  sl_kernel_rfl

theorem out_B (hc0 : ¬cond0_0 i) (hc1 : ¬cond0_1 i) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs =
    outG x0 x1 x2 x3 x4 x5 x6 x7 x9 x10 (sls xs) := by
  funext y
  unfold out0_B_11
  rw [pieces11_B, View.read_writes_apply_of_pieces _ _ _ _ (outL_reads arg2 harg2 arg3 harg3 arg4 harg4 arg5 harg5 arg6 harg6 arg7 harg7 arg8 harg8 arg9 harg9 arg11 harg11 arg12 harg12 x0 x1 x2 x3 x4 x5 x6 x7 x9 x10 (ldS arg15 harg15 xs)) y
    (outL_cover arg2 harg2 arg3 harg3 arg4 harg4 arg5 harg5 arg6 harg6 arg7 harg7 arg8 harg8 arg9 harg9 arg11 harg11 arg12 harg12 x0 x1 x2 x3 x4 x5 x6 x7 x9 x10 (ldS arg15 harg15 xs) y)]
  congr 1
  funext p; exact ldS_eq _ _ _ _

theorem sout_B (hc0 : ¬cond0_0 i) (hc1 : ¬cond0_1 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs =
    stG x0 x1 x2 x3 x4 x5 (sls xs) := by
  funext y
  unfold sout0_B_0
  rw [piecesS_B, View.read_writes_apply_of_pieces _ _ _ _ (stL_reads arg2 harg2 arg3 harg3 arg4 harg4 arg5 harg5 arg6 harg6 arg7 harg7 x0 x1 x2 x3 x4 x5 (ldS arg15 harg15 xs)) y
    (stL_cover arg2 harg2 arg3 harg3 arg4 harg4 arg5 harg5 arg6 harg6 arg7 harg7 x0 x1 x2 x3 x4 x5 (ldS arg15 harg15 xs) y)]
  congr 1
  funext p; exact ldS_eq _ _ _ _

theorem pieces11_C (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs).1 =
    outL arg2 harg2 arg3 harg3 arg4 harg4 arg5 harg5 arg6 harg6 arg7 harg7 arg8 harg8 arg9 harg9 arg11 harg11 arg12 harg12 x0 x1 x2 x3 x4 x5 x6 x7 x9 x10 (ldS arg15 harg15 xs) := by
  sl_kernel_rfl

theorem piecesS_C (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs).2.2.1 =
    stL arg2 harg2 arg3 harg3 arg4 harg4 arg5 harg5 arg6 harg6 arg7 harg7 x0 x1 x2 x3 x4 x5 (ldS arg15 harg15 xs) := by
  sl_kernel_rfl

theorem out_C (hc0 : ¬cond0_0 i) (hc1 : cond0_1 i) : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs =
    outG x0 x1 x2 x3 x4 x5 x6 x7 x9 x10 (sls xs) := by
  funext y
  unfold out0_C_11
  rw [pieces11_C, View.read_writes_apply_of_pieces _ _ _ _ (outL_reads arg2 harg2 arg3 harg3 arg4 harg4 arg5 harg5 arg6 harg6 arg7 harg7 arg8 harg8 arg9 harg9 arg11 harg11 arg12 harg12 x0 x1 x2 x3 x4 x5 x6 x7 x9 x10 (ldS arg15 harg15 xs)) y
    (outL_cover arg2 harg2 arg3 harg3 arg4 harg4 arg5 harg5 arg6 harg6 arg7 harg7 arg8 harg8 arg9 harg9 arg11 harg11 arg12 harg12 x0 x1 x2 x3 x4 x5 x6 x7 x9 x10 (ldS arg15 harg15 xs) y)]
  congr 1
  funext p; exact ldS_eq _ _ _ _

theorem sout_C (hc0 : ¬cond0_0 i) (hc1 : cond0_1 i) : sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs =
    stG x0 x1 x2 x3 x4 x5 (sls xs) := by
  funext y
  unfold sout0_C_0
  rw [piecesS_C, View.read_writes_apply_of_pieces _ _ _ _ (stL_reads arg2 harg2 arg3 harg3 arg4 harg4 arg5 harg5 arg6 harg6 arg7 harg7 x0 x1 x2 x3 x4 x5 (ldS arg15 harg15 xs)) y
    (stL_cover arg2 harg2 arg3 harg3 arg4 harg4 arg5 harg5 arg6 harg6 arg7 harg7 x0 x1 x2 x3 x4 x5 (ldS arg15 harg15 xs) y)]
  congr 1
  funext p; exact ldS_eq _ _ _ _

theorem pieces12_C (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs).2.1 =
    [⟨Rect.unit ![0, 0, 0, 0] S1x8x128x128.size inb_S1x8x128x128_S1x8x128x128_0_0_0_0, shapeCast S1x8x128x128
      (arg15.view.readCov (stL arg2 harg2 arg3 harg3 arg4 harg4 arg5 harg5 arg6 harg6 arg7 harg7 x0 x1 x2 x3 x4 x5 (ldS arg15 harg15 xs)) (Rect.unit ![0, 0, 0] S8x128x128.size inb_S8x128x128_S8x128x128_0_0_0).toLoadRect)
      shapeCasts_S8x128x128_S1x8x128x128⟩] := by
  sl_kernel_rfl

theorem out12_C (hc0 : ¬cond0_0 i) (hc1 : cond0_1 i) (p : Fin 8) (a b : Fin 128) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs (ix4 0 p a b) = stG x0 x1 x2 x3 x4 x5 (sls xs) (ix3 p a b) := by
  have hz : ∀ n, (![0, 0, 0] : Fin 3 → ℕ) n = 0 := by decide
  have hz4 : ∀ n, (![0, 0, 0, 0] : Fin 4 → ℕ) n = 0 := by decide
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs), pieces12_C, View.canon_unit_zero (funext hz4),
    pack_states]
  show View.ld (arg15.view.read (Elt Ideal) (arg15.view.writes (Elt Ideal) arg15.view.junk (stL arg2 harg2 arg3 harg3 arg4 harg4 arg5 harg5 arg6 harg6 arg7 harg7 x0 x1 x2 x3 x4 x5 (ldS arg15 harg15 xs)))) (Rect.unit ![0, 0, 0] S8x128x128.size inb_S8x128x128_S8x128x128_0_0_0) (ix3 p a b) = _
  rw [View.ld_unit_zero (funext hz), View.read_writes_apply_of_pieces _ _ _ _ (stL_reads arg2 harg2 arg3 harg3 arg4 harg4 arg5 harg5 arg6 harg6 arg7 harg7 x0 x1 x2 x3 x4 x5 (ldS arg15 harg15 xs)) _
    (stL_cover arg2 harg2 arg3 harg3 arg4 harg4 arg5 harg5 arg6 harg6 arg7 harg7 x0 x1 x2 x3 x4 x5 (ldS arg15 harg15 xs) _)]
  congr 1
  funext p; exact ldS_eq _ _ _ _

end
end Cert.KernelIdeal.Stages
end
-- ==== Proof.Chain.lean ====
/-
  The kernel's two results in closed form: the blocks a grid point reads are chunks of the arguments' tokens, so by
  induction over the points the scratch holds each pair's state, and the results are what the tokens put out and the
  last states.
-/
module

public import proofs.«01_k».proof.Proof.Whole
public import proofs.«01_k».proof.Proof.Bridge

@[expose] public section

set_option maxRecDepth 65536

noncomputable section

namespace Cert.KernelIdeal.Chain

open Idealize.ShloMosaic Idealize.SL.Sem Cert.KernelIdeal Cert.KernelIdeal.Gen Cert.KernelIdeal.Stages Cert.KernelIdeal.Value Cert.Whole

/-- The batch of grid point `n`. -/
def bat (n : ℕ) : Fin 4 := ⟨n / 32 % 4, by omega⟩

variable (m : (ℓ : Loc nD τ sig) → Buf (Elt Ideal) ℓ) (c : Dev nD)

theorem ltN (t : Fin cfg0.N) : t.val < 128 := lt_of_lt_of_eq t.isLt N_0

/-! ## The blocks -/

theorem idx_0 : ∀ t : Fin grid0.N, win0_0.index t (0 : Fin 4) = t.val / 32 ∧ win0_0.index t (1 : Fin 4) = 0
    ∧ win0_0.index t (2 : Fin 4) = t.val % 32 ∧ win0_0.index t (3 : Fin 4) = 0 := by decide +kernel

theorem slc_0 (hX : IsReal (s := S4x8x2048x128) (m (c.tc.loc main_arg0))) (t : Fin cfg0.N) (p : Fin 8) :
    slc (iblk m c 0 t) p = ch (seg (m (c.tc.loc main_arg0)) (bat t.val) p (t.val % 32)) := by
  have ht := ltN t
  obtain ⟨h0, h1, h2, h3⟩ := idx_0 t
  refine eq_lift2 fun a b => ?_
  show iblk m c 0 t (ix4 0 p a b) = _
  unfold chunk seg
  rw [tok_lt _ _ _ _ ⟨64 * (t.val % 32) + a.val, by omega⟩, pk_hd_dm, hX]
  unfold iblk; rw [View.read_apply]
  show V m c main_arg0 _ = m (c.tc.loc main_arg0) _
  rw [V_main_arg0]
  congr 1; funext x; apply Fin.ext
  match x with
  | ⟨0, _⟩ => show win0_0.index t (0 : Fin 4) * 1 + 1 * 0 = t.val / 32 % 4; rw [h0]; omega
  | ⟨1, _⟩ => show win0_0.index t (1 : Fin 4) * 8 + 1 * p.val = p.val; rw [h1]; omega
  | ⟨2, _⟩ => show win0_0.index t (2 : Fin 4) * 64 + 1 * a.val = 64 * (t.val % 32) + a.val; rw [h2]; omega
  | ⟨3, _⟩ => show win0_0.index t (3 : Fin 4) * 128 + 1 * b.val = b.val; rw [h3]; omega

theorem idx_1 : ∀ t : Fin grid0.N, win0_1.index t (0 : Fin 4) = t.val / 32 ∧ win0_1.index t (1 : Fin 4) = 0
    ∧ win0_1.index t (2 : Fin 4) = t.val % 32 ∧ win0_1.index t (3 : Fin 4) = 0 := by decide +kernel

theorem slc_1 (hX : IsReal (s := S4x8x2048x128) (m (c.tc.loc main_arg1))) (t : Fin cfg0.N) (p : Fin 8) :
    slc (iblk m c 1 t) p = ch (seg (m (c.tc.loc main_arg1)) (bat t.val) p (t.val % 32)) := by
  have ht := ltN t
  obtain ⟨h0, h1, h2, h3⟩ := idx_1 t
  refine eq_lift2 fun a b => ?_
  show iblk m c 1 t (ix4 0 p a b) = _
  unfold chunk seg
  rw [tok_lt _ _ _ _ ⟨64 * (t.val % 32) + a.val, by omega⟩, pk_hd_dm, hX]
  unfold iblk; rw [View.read_apply]
  show V m c main_arg1 _ = m (c.tc.loc main_arg1) _
  rw [V_main_arg1]
  congr 1; funext x; apply Fin.ext
  match x with
  | ⟨0, _⟩ => show win0_1.index t (0 : Fin 4) * 1 + 1 * 0 = t.val / 32 % 4; rw [h0]; omega
  | ⟨1, _⟩ => show win0_1.index t (1 : Fin 4) * 8 + 1 * p.val = p.val; rw [h1]; omega
  | ⟨2, _⟩ => show win0_1.index t (2 : Fin 4) * 64 + 1 * a.val = 64 * (t.val % 32) + a.val; rw [h2]; omega
  | ⟨3, _⟩ => show win0_1.index t (3 : Fin 4) * 128 + 1 * b.val = b.val; rw [h3]; omega

theorem idx_2 : ∀ t : Fin grid0.N, win0_2.index t (0 : Fin 4) = t.val / 32 ∧ win0_2.index t (1 : Fin 4) = 0
    ∧ win0_2.index t (2 : Fin 4) = t.val % 32 ∧ win0_2.index t (3 : Fin 4) = 0 := by decide +kernel

theorem slc_2 (hX : IsReal (s := S4x8x2048x128) (m (c.tc.loc main_arg2))) (t : Fin cfg0.N) (p : Fin 8) :
    slc (iblk m c 2 t) p = ch (seg (m (c.tc.loc main_arg2)) (bat t.val) p (t.val % 32)) := by
  have ht := ltN t
  obtain ⟨h0, h1, h2, h3⟩ := idx_2 t
  refine eq_lift2 fun a b => ?_
  show iblk m c 2 t (ix4 0 p a b) = _
  unfold chunk seg
  rw [tok_lt _ _ _ _ ⟨64 * (t.val % 32) + a.val, by omega⟩, pk_hd_dm, hX]
  unfold iblk; rw [View.read_apply]
  show V m c main_arg2 _ = m (c.tc.loc main_arg2) _
  rw [V_main_arg2]
  congr 1; funext x; apply Fin.ext
  match x with
  | ⟨0, _⟩ => show win0_2.index t (0 : Fin 4) * 1 + 1 * 0 = t.val / 32 % 4; rw [h0]; omega
  | ⟨1, _⟩ => show win0_2.index t (1 : Fin 4) * 8 + 1 * p.val = p.val; rw [h1]; omega
  | ⟨2, _⟩ => show win0_2.index t (2 : Fin 4) * 64 + 1 * a.val = 64 * (t.val % 32) + a.val; rw [h2]; omega
  | ⟨3, _⟩ => show win0_2.index t (3 : Fin 4) * 128 + 1 * b.val = b.val; rw [h3]; omega

theorem idx_3 : ∀ t : Fin grid0.N, win0_3.index t (0 : Fin 4) = t.val / 32 ∧ win0_3.index t (1 : Fin 4) = 0
    ∧ win0_3.index t (2 : Fin 4) = t.val % 32 ∧ win0_3.index t (3 : Fin 4) = 0 := by decide +kernel

theorem slc_3 (hX : IsReal (s := S4x8x2048x128) (m (c.tc.loc main_arg3))) (t : Fin cfg0.N) (p : Fin 8) :
    slc (iblk m c 3 t) p = ch (seg (m (c.tc.loc main_arg3)) (bat t.val) p (t.val % 32)) := by
  have ht := ltN t
  obtain ⟨h0, h1, h2, h3⟩ := idx_3 t
  refine eq_lift2 fun a b => ?_
  show iblk m c 3 t (ix4 0 p a b) = _
  unfold chunk seg
  rw [tok_lt _ _ _ _ ⟨64 * (t.val % 32) + a.val, by omega⟩, pk_hd_dm, hX]
  unfold iblk; rw [View.read_apply]
  show V m c main_arg3 _ = m (c.tc.loc main_arg3) _
  rw [V_main_arg3]
  congr 1; funext x; apply Fin.ext
  match x with
  | ⟨0, _⟩ => show win0_3.index t (0 : Fin 4) * 1 + 1 * 0 = t.val / 32 % 4; rw [h0]; omega
  | ⟨1, _⟩ => show win0_3.index t (1 : Fin 4) * 8 + 1 * p.val = p.val; rw [h1]; omega
  | ⟨2, _⟩ => show win0_3.index t (2 : Fin 4) * 64 + 1 * a.val = 64 * (t.val % 32) + a.val; rw [h2]; omega
  | ⟨3, _⟩ => show win0_3.index t (3 : Fin 4) * 128 + 1 * b.val = b.val; rw [h3]; omega

theorem idx_4 : ∀ t : Fin grid0.N, win0_4.index t (0 : Fin 4) = t.val / 32 ∧ win0_4.index t (1 : Fin 4) = 0
    ∧ win0_4.index t (2 : Fin 4) = t.val % 32 ∧ win0_4.index t (3 : Fin 4) = 0 := by decide +kernel

theorem slc_4 (hX : IsReal (s := S4x8x2048x128) (m (c.tc.loc main_arg4))) (t : Fin cfg0.N) (p : Fin 8) :
    slc (iblk m c 4 t) p = ch (seg (m (c.tc.loc main_arg4)) (bat t.val) p (t.val % 32)) := by
  have ht := ltN t
  obtain ⟨h0, h1, h2, h3⟩ := idx_4 t
  refine eq_lift2 fun a b => ?_
  show iblk m c 4 t (ix4 0 p a b) = _
  unfold chunk seg
  rw [tok_lt _ _ _ _ ⟨64 * (t.val % 32) + a.val, by omega⟩, pk_hd_dm, hX]
  unfold iblk; rw [View.read_apply]
  show V m c main_arg4 _ = m (c.tc.loc main_arg4) _
  rw [V_main_arg4]
  congr 1; funext x; apply Fin.ext
  match x with
  | ⟨0, _⟩ => show win0_4.index t (0 : Fin 4) * 1 + 1 * 0 = t.val / 32 % 4; rw [h0]; omega
  | ⟨1, _⟩ => show win0_4.index t (1 : Fin 4) * 8 + 1 * p.val = p.val; rw [h1]; omega
  | ⟨2, _⟩ => show win0_4.index t (2 : Fin 4) * 64 + 1 * a.val = 64 * (t.val % 32) + a.val; rw [h2]; omega
  | ⟨3, _⟩ => show win0_4.index t (3 : Fin 4) * 128 + 1 * b.val = b.val; rw [h3]; omega

theorem idx_5 : ∀ t : Fin grid0.N, win0_5.index t (0 : Fin 4) = t.val / 32 ∧ win0_5.index t (1 : Fin 4) = 0
    ∧ win0_5.index t (2 : Fin 4) = t.val % 32 ∧ win0_5.index t (3 : Fin 4) = 0 := by decide +kernel

theorem slc_5 (hX : IsReal (s := S4x8x2048x128) (m (c.tc.loc main_arg5))) (t : Fin cfg0.N) (p : Fin 8) :
    slc (iblk m c 5 t) p = ch (seg (m (c.tc.loc main_arg5)) (bat t.val) p (t.val % 32)) := by
  have ht := ltN t
  obtain ⟨h0, h1, h2, h3⟩ := idx_5 t
  refine eq_lift2 fun a b => ?_
  show iblk m c 5 t (ix4 0 p a b) = _
  unfold chunk seg
  rw [tok_lt _ _ _ _ ⟨64 * (t.val % 32) + a.val, by omega⟩, pk_hd_dm, hX]
  unfold iblk; rw [View.read_apply]
  show V m c main_arg5 _ = m (c.tc.loc main_arg5) _
  rw [V_main_arg5]
  congr 1; funext x; apply Fin.ext
  match x with
  | ⟨0, _⟩ => show win0_5.index t (0 : Fin 4) * 1 + 1 * 0 = t.val / 32 % 4; rw [h0]; omega
  | ⟨1, _⟩ => show win0_5.index t (1 : Fin 4) * 8 + 1 * p.val = p.val; rw [h1]; omega
  | ⟨2, _⟩ => show win0_5.index t (2 : Fin 4) * 64 + 1 * a.val = 64 * (t.val % 32) + a.val; rw [h2]; omega
  | ⟨3, _⟩ => show win0_5.index t (3 : Fin 4) * 128 + 1 * b.val = b.val; rw [h3]; omega

theorem idx_6 : ∀ t : Fin grid0.N, win0_6.index t (0 : Fin 4) = t.val / 32 ∧ win0_6.index t (1 : Fin 4) = 0
    ∧ win0_6.index t (2 : Fin 4) = t.val % 32 ∧ win0_6.index t (3 : Fin 4) = 0 := by decide +kernel

theorem slc_6 (hX : IsReal (s := S4x8x2048x128) (m (c.tc.loc main_arg6))) (t : Fin cfg0.N) (p : Fin 8) :
    slc (iblk m c 6 t) p = ch (seg (m (c.tc.loc main_arg6)) (bat t.val) p (t.val % 32)) := by
  have ht := ltN t
  obtain ⟨h0, h1, h2, h3⟩ := idx_6 t
  refine eq_lift2 fun a b => ?_
  show iblk m c 6 t (ix4 0 p a b) = _
  unfold chunk seg
  rw [tok_lt _ _ _ _ ⟨64 * (t.val % 32) + a.val, by omega⟩, pk_hd_dm, hX]
  unfold iblk; rw [View.read_apply]
  show V m c main_arg6 _ = m (c.tc.loc main_arg6) _
  rw [V_main_arg6]
  congr 1; funext x; apply Fin.ext
  match x with
  | ⟨0, _⟩ => show win0_6.index t (0 : Fin 4) * 1 + 1 * 0 = t.val / 32 % 4; rw [h0]; omega
  | ⟨1, _⟩ => show win0_6.index t (1 : Fin 4) * 8 + 1 * p.val = p.val; rw [h1]; omega
  | ⟨2, _⟩ => show win0_6.index t (2 : Fin 4) * 64 + 1 * a.val = 64 * (t.val % 32) + a.val; rw [h2]; omega
  | ⟨3, _⟩ => show win0_6.index t (3 : Fin 4) * 128 + 1 * b.val = b.val; rw [h3]; omega

theorem idx_7 : ∀ t : Fin grid0.N, win0_7.index t (0 : Fin 4) = t.val / 32 ∧ win0_7.index t (1 : Fin 4) = 0
    ∧ win0_7.index t (2 : Fin 4) = t.val % 32 ∧ win0_7.index t (3 : Fin 4) = 0 := by decide +kernel

theorem slc_7 (hX : IsReal (s := S4x8x2048x128) (m (c.tc.loc main_arg7))) (t : Fin cfg0.N) (p : Fin 8) :
    slc (iblk m c 7 t) p = ch (seg (m (c.tc.loc main_arg7)) (bat t.val) p (t.val % 32)) := by
  have ht := ltN t
  obtain ⟨h0, h1, h2, h3⟩ := idx_7 t
  refine eq_lift2 fun a b => ?_
  show iblk m c 7 t (ix4 0 p a b) = _
  unfold chunk seg
  rw [tok_lt _ _ _ _ ⟨64 * (t.val % 32) + a.val, by omega⟩, pk_hd_dm, hX]
  unfold iblk; rw [View.read_apply]
  show V m c main_arg7 _ = m (c.tc.loc main_arg7) _
  rw [V_main_arg7]
  congr 1; funext x; apply Fin.ext
  match x with
  | ⟨0, _⟩ => show win0_7.index t (0 : Fin 4) * 1 + 1 * 0 = t.val / 32 % 4; rw [h0]; omega
  | ⟨1, _⟩ => show win0_7.index t (1 : Fin 4) * 8 + 1 * p.val = p.val; rw [h1]; omega
  | ⟨2, _⟩ => show win0_7.index t (2 : Fin 4) * 64 + 1 * a.val = 64 * (t.val % 32) + a.val; rw [h2]; omega
  | ⟨3, _⟩ => show win0_7.index t (3 : Fin 4) * 128 + 1 * b.val = b.val; rw [h3]; omega

theorem sl0_8 (t : Fin cfg0.N) (p : Fin 8) : sl0 (iblk m c 8 t) p = Cert.KernelIdeal.Stages.sq (fun _ => 0) := by
  refine eq_lift2 fun a b => ?_
  show iblk m c 8 t (ix4 0 p a b) = _
  unfold iblk; rw [View.read_apply]
  show V m c main_v0 _ = _
  unfold V hostOps0
  after_results
  pointwise []
  simp [blk]

theorem idx_9 : ∀ t : Fin grid0.N, win0_9.index t (0 : Fin 3) = 0 ∧ win0_9.index t (1 : Fin 3) = 0
    ∧ win0_9.index t (2 : Fin 3) = 0 := by decide +kernel

theorem slr_9 (hX : IsReal (s := S1024) (m (c.tc.loc main_arg8))) (t : Fin cfg0.N) (p : Fin 8) :
    slr (iblk m c 9 t) p = row (aff (m (c.tc.loc main_arg8)) p) := by
  obtain ⟨h0, h1, h2⟩ := idx_9 t
  refine eq_lift2 fun a b => ?_
  show iblk m c 9 t (ix3 p 0 b) = _
  unfold aff
  rw [hX]
  unfold iblk; rw [View.read_apply]
  show V m c main_v1 _ = m (c.tc.loc main_arg8) _
  refine (congrArg (V m c main_v1) (?_ : _ = (ix3 p 0 b : S8x1x128.Idx))).trans ?_
  · funext x; apply Fin.ext
    match x with
    | ⟨0, _⟩ => show win0_9.index t (0 : Fin 3) * 8 + 1 * p.val = p.val; rw [h0]; omega
    | ⟨1, _⟩ => show win0_9.index t (1 : Fin 3) * 1 + 1 * 0 = 0; rw [h1]
    | ⟨2, _⟩ => show win0_9.index t (2 : Fin 3) * 128 + 1 * b.val = b.val; rw [h2]; omega
  unfold V hostOps0
  after_results
  pointwise []
  exact congrArg (fun n => m (c.tc.loc main_arg8) (ix1 n)) (Fin.ext (by simp only [hd, dm]; omega))

theorem idx_10 : ∀ t : Fin grid0.N, win0_10.index t (0 : Fin 3) = 0 ∧ win0_10.index t (1 : Fin 3) = 0
    ∧ win0_10.index t (2 : Fin 3) = 0 := by decide +kernel

theorem slr_10 (hX : IsReal (s := S1024) (m (c.tc.loc main_arg9))) (t : Fin cfg0.N) (p : Fin 8) :
    slr (iblk m c 10 t) p = row (aff (m (c.tc.loc main_arg9)) p) := by
  obtain ⟨h0, h1, h2⟩ := idx_10 t
  refine eq_lift2 fun a b => ?_
  show iblk m c 10 t (ix3 p 0 b) = _
  unfold aff
  rw [hX]
  unfold iblk; rw [View.read_apply]
  show V m c main_v2 _ = m (c.tc.loc main_arg9) _
  refine (congrArg (V m c main_v2) (?_ : _ = (ix3 p 0 b : S8x1x128.Idx))).trans ?_
  · funext x; apply Fin.ext
    match x with
    | ⟨0, _⟩ => show win0_10.index t (0 : Fin 3) * 8 + 1 * p.val = p.val; rw [h0]; omega
    | ⟨1, _⟩ => show win0_10.index t (1 : Fin 3) * 1 + 1 * 0 = 0; rw [h1]
    | ⟨2, _⟩ => show win0_10.index t (2 : Fin 3) * 128 + 1 * b.val = b.val; rw [h2]; omega
  unfold V hostOps0
  after_results
  pointwise []
  exact congrArg (fun n => m (c.tc.loc main_arg9) (ix1 n)) (Fin.ext (by simp only [hd, dm]; omega))

/-! ## The points in turn -/

/-- The arguments hold reals. -/
structure Reals : Prop where
  r0 : IsReal (s := S4x8x2048x128) (m (c.tc.loc main_arg0))
  r1 : IsReal (s := S4x8x2048x128) (m (c.tc.loc main_arg1))
  r2 : IsReal (s := S4x8x2048x128) (m (c.tc.loc main_arg2))
  r3 : IsReal (s := S4x8x2048x128) (m (c.tc.loc main_arg3))
  r4 : IsReal (s := S4x8x2048x128) (m (c.tc.loc main_arg4))
  r5 : IsReal (s := S4x8x2048x128) (m (c.tc.loc main_arg5))
  r6 : IsReal (s := S4x8x2048x128) (m (c.tc.loc main_arg6))
  r7 : IsReal (s := S4x8x2048x128) (m (c.tc.loc main_arg7))
  r8 : IsReal (s := S1024) (m (c.tc.loc main_arg8))
  r9 : IsReal (s := S1024) (m (c.tc.loc main_arg9))

/-- Pair `p`'s state in the batch of point `n` after `k` tokens. -/
def stP (n k : ℕ) (p : Fin 8) : Sq := Cert.KernelIdeal.Stages.sq fun h =>
  stR (m (c.tc.loc main_arg1)) (m (c.tc.loc main_arg2)) (m (c.tc.loc main_arg3)) (m (c.tc.loc main_arg4))
    (m (c.tc.loc main_arg5)) (bat n) p h k

theorem stP_zero (n : ℕ) : stP m c n 0 = fun _ => Cert.KernelIdeal.Stages.sq (fun _ => 0) := rfl

/-- The scratch after a point whose pairs start at the tokens before it. -/
theorem st_step (R : Reals m c) (t : Fin cfg0.N) (S : Fin 8 → Sq) (hS : S = stP m c t.val (64 * (t.val % 32))) (p : Fin 8)
    (a b : Fin 128) :
    stG (iblk m c 0 t) (iblk m c 1 t) (iblk m c 2 t) (iblk m c 3 t) (iblk m c 4 t) (iblk m c 5 t) S (ix3 p a b)
      = stP m c t.val (64 * (t.val % 32 + 1)) p (ix2 a b) := by
  show stateFn (slc (iblk m c 0 t) p) (slc (iblk m c 1 t) p) (slc (iblk m c 2 t) p) (slc (iblk m c 3 t) p)
    (slc (iblk m c 4 t) p) (slc (iblk m c 5 t) p) (S p) (ix2 a b) = _
  rw [slc_0 m c R.r0, slc_1 m c R.r1, slc_2 m c R.r2, slc_3 m c R.r3, slc_4 m c R.r4, slc_5 m c R.r5, hS, stP,
    state_chunk]
  rfl

/-- The output block of such a point. -/
theorem out_step (R : Reals m c) (t : Fin cfg0.N) (S : Fin 8 → Sq) (hS : S = stP m c t.val (64 * (t.val % 32))) (p : Fin 8)
    (a : Fin 64) (b : Fin 128) :
    outG (iblk m c 0 t) (iblk m c 1 t) (iblk m c 2 t) (iblk m c 3 t) (iblk m c 4 t) (iblk m c 5 t) (iblk m c 6 t)
        (iblk m c 7 t) (iblk m c 9 t) (iblk m c 10 t) S (ix4 0 p a b)
      = (outR (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) (bat t.val) p (hd b) (64 * (t.val % 32) + a.val) (dm b) : EReal) := by
  show outFn (slc (iblk m c 0 t) p) (slc (iblk m c 1 t) p) (slc (iblk m c 2 t) p) (slc (iblk m c 3 t) p)
    (slc (iblk m c 4 t) p) (slc (iblk m c 5 t) p) (slc (iblk m c 6 t) p) (slc (iblk m c 7 t) p) (S p)
    (slr (iblk m c 9 t) p) (slr (iblk m c 10 t) p) (ix2 a b) = _
  rw [slc_0 m c R.r0, slc_1 m c R.r1, slc_2 m c R.r2, slc_3 m c R.r3, slc_4 m c R.r4, slc_5 m c R.r5, slc_6 m c R.r6,
    slc_7 m c R.r7, slr_9 m c R.r8, slr_10 m c R.r9, hS, stP, out_chunk]

/-- What the pairs start from at a point: zeros at a batch's first, else what the point before left. -/
def start (t : Fin cfg0.N) : Fin 8 → Sq :=
  if t.val % 32 = 0 then sl0 (iblk m c 8 t)
  else sls (outsAt0 m c (t.val - 1) (Nat.lt_of_le_of_lt (Nat.sub_le _ _) t.isLt)).2.2

theorem scratch_at (t : Fin cfg0.N) : (outsAt0 m c t.val t.isLt).2.2
    = stG (iblk m c 0 t) (iblk m c 1 t) (iblk m c 2 t) (iblk m c 3 t) (iblk m c 4 t) (iblk m c 5 t) (start m c t) := by
  unfold start
  by_cases h0 : t.val % 32 = 0
  · have h1 : ¬t.val % 32 = 31 := by omega
    rw [if_pos h0, outsAt0_A m c t h0 h1]; dsimp only
    exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) (fun h => h1 ((hcond0_1 t).mp h))
  · rw [if_neg h0]
    by_cases h1 : t.val % 32 = 31
    · rw [outsAt0_C m c t h0 h1]; dsimp only
      exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) ((hcond0_1 t).mpr h1)
    · rw [outsAt0_B m c t h0 h1]; dsimp only
      exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) (fun h => h1 ((hcond0_1 t).mp h))

theorem block_at (t : Fin cfg0.N) : (outsAt0 m c t.val t.isLt).1
    = outG (iblk m c 0 t) (iblk m c 1 t) (iblk m c 2 t) (iblk m c 3 t) (iblk m c 4 t) (iblk m c 5 t) (iblk m c 6 t)
        (iblk m c 7 t) (iblk m c 9 t) (iblk m c 10 t) (start m c t) := by
  unfold start
  by_cases h0 : t.val % 32 = 0
  · have h1 : ¬t.val % 32 = 31 := by omega
    rw [if_pos h0, outsAt0_A m c t h0 h1]; dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) (fun h => h1 ((hcond0_1 t).mp h))
  · rw [if_neg h0]
    by_cases h1 : t.val % 32 = 31
    · rw [outsAt0_C m c t h0 h1]; dsimp only
      exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) ((hcond0_1 t).mpr h1)
    · rw [outsAt0_B m c t h0 h1]; dsimp only
      exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) (fun h => h1 ((hcond0_1 t).mp h))

/-- Every point starts from the state its batch's earlier tokens make. -/
theorem start_eq (R : Reals m c) (n : ℕ) (hn : n < cfg0.N) : start m c ⟨n, hn⟩ = stP m c n (64 * (n % 32)) := by
  induction n with
  | zero =>
    unfold start
    rw [if_pos (show (⟨0, hn⟩ : Fin cfg0.N).val % 32 = 0 from rfl)]
    show _ = stP m c 0 0
    rw [stP_zero]
    funext p; exact sl0_8 m c _ p
  | succ n ih =>
    have hN : n + 1 < 128 := ltN ⟨n + 1, hn⟩
    unfold start
    by_cases h0 : (n + 1) % 32 = 0
    · rw [if_pos h0, h0]
      show _ = stP m c (n + 1) 0
      rw [stP_zero]
      funext p; exact sl0_8 m c _ p
    · rw [if_neg h0]
      have hn' : n < cfg0.N := Nat.lt_of_succ_lt hn
      funext p
      refine (eq_lift2 fun a b => ?_).trans rfl
      show (outsAt0 m c n hn').2.2 (ix3 p a b) = stP m c (n + 1) (64 * ((n + 1) % 32)) p (ix2 a b)
      rw [scratch_at m c ⟨n, hn'⟩, st_step m c R ⟨n, hn'⟩ _ (ih hn')]
      have e1 : bat n = bat (n + 1) := Fin.ext (by show n / 32 % 4 = (n + 1) / 32 % 4; omega)
      have e2 : n % 32 + 1 = (n + 1) % 32 := by omega
      unfold stP
      rw [← e1, ← e2]

/-! ## The results -/

theorem G11_eq (R : Reals m c) : G11 m c = outAll (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) (m (c.tc.loc main_arg8)) (m (c.tc.loc main_arg9)) := by
  refine funext fun i => ?_
  obtain ⟨β, p, n, l, rfl⟩ : ∃ (β : Fin 4) (p : Fin 8) (n : Fin 2048) (l : Fin 128), i = (ix4 β p n l : S4x8x2048x128.Idx) :=
    ⟨i 0, i 1, i 2, i 3, eq_ix4 i⟩
  have hp : pt11Of (ix4 β p n l : S4x8x2048x128.Idx) = 32 * β.val + n.val / 64 := by
    show 32 * (β.val / 1 - 0) + 32 * (p.val / 8 - 0) + 1 * (n.val / 64 - 0) + 1 * (l.val / 128 - 0) = _
    omega
  have hN : 32 * β.val + n.val / 64 < cfg0.N := by rw [show cfg0.N = 128 from N_0]; omega
  unfold G11
  rw [dif_pos (hp ▸ hN), ← outsAt0_sweep m c _ (hp ▸ hN)]
  have hl : loc11Of (ix4 β p n l : S4x8x2048x128.Idx) = (ix4 0 p ⟨n.val % 64, Nat.mod_lt _ (by decide)⟩ l : S1x8x64x128.Idx) := by
    funext x; apply Fin.ext
    match x with
    | ⟨0, _⟩ => show β.val % 1 = 0; omega
    | ⟨1, _⟩ => show p.val % 8 = p.val; omega
    | ⟨2, _⟩ => rfl
    | ⟨3, _⟩ => show l.val % 128 = l.val; omega
  rw [hl]
  have key : ∀ q (hq : q < cfg0.N), q = 32 * β.val + n.val / 64 →
      (outsAt0 m c q hq).1 (ix4 0 p ⟨n.val % 64, Nat.mod_lt _ (by decide)⟩ l : S1x8x64x128.Idx) =
        outAll (m (c.tc.loc main_arg0)) (m (c.tc.loc main_arg1)) (m (c.tc.loc main_arg2))
          (m (c.tc.loc main_arg3)) (m (c.tc.loc main_arg4)) (m (c.tc.loc main_arg5)) (m (c.tc.loc main_arg6))
          (m (c.tc.loc main_arg7)) (m (c.tc.loc main_arg8)) (m (c.tc.loc main_arg9)) (ix4 β p n l) := by
    intro q hq e
    rw [block_at m c ⟨q, hq⟩, out_step m c R ⟨q, hq⟩ _ (start_eq m c R q hq)]
    have e1 : bat q = β := Fin.ext (by show q / 32 % 4 = β.val; omega)
    have e2 : 64 * (q % 32) + n.val % 64 = n.val := by omega
    show (outR _ _ _ _ _ _ _ _ _ _ (bat q) p (hd l) (64 * (q % 32) + n.val % 64) (dm l) : EReal) = _
    rw [e1, e2]; rfl
  exact key _ _ hp

theorem G12_eq (R : Reals m c) : G12 m c = stAll (m (c.tc.loc main_arg1)) (m (c.tc.loc main_arg2))
    (m (c.tc.loc main_arg3)) (m (c.tc.loc main_arg4)) (m (c.tc.loc main_arg5)) := by
  refine funext fun i => ?_
  obtain ⟨β, p, a, b, rfl⟩ : ∃ (β : Fin 4) (p : Fin 8) (a : Fin 128) (b : Fin 128), i = (ix4 β p a b : S4x8x128x128.Idx) :=
    ⟨i 0, i 1, i 2, i 3, eq_ix4 i⟩
  have hp : pt12Of (ix4 β p a b : S4x8x128x128.Idx) = 32 * β.val + 31 := by
    show 32 * (1 * (β.val / 1 - 0) + 1 * (p.val / 8 - 0) + 1 * (a.val / 128 - 0) + 1 * (b.val / 128 - 0)) + 31 = _
    omega
  have hN : 32 * β.val + 31 < cfg0.N := by rw [show cfg0.N = 128 from N_0]; omega
  unfold G12
  rw [dif_pos (hp ▸ hN), ← outsAt0_sweep m c _ (hp ▸ hN)]
  have hl : loc12Of (ix4 β p a b : S4x8x128x128.Idx) = (ix4 0 p a b : S1x8x128x128.Idx) := by
    funext x; apply Fin.ext
    match x with
    | ⟨0, _⟩ => show β.val % 1 = 0; omega
    | ⟨1, _⟩ => show p.val % 8 = p.val; omega
    | ⟨2, _⟩ => show a.val % 128 = a.val; omega
    | ⟨3, _⟩ => show b.val % 128 = b.val; omega
  rw [hl]
  have key : ∀ q (hq : q < cfg0.N), q = 32 * β.val + 31 →
      (outsAt0 m c q hq).2.1 (ix4 0 p a b : S1x8x128x128.Idx) =
        stAll (m (c.tc.loc main_arg1)) (m (c.tc.loc main_arg2))
          (m (c.tc.loc main_arg3)) (m (c.tc.loc main_arg4)) (m (c.tc.loc main_arg5)) (ix4 β p a b) := by
    intro q hq e
    have h0 : ¬q % 32 = 0 := by omega
    have h1 : q % 32 = 31 := by omega
    have hs := start_eq m c R q hq
    unfold start at hs
    rw [if_neg (show ¬(⟨q, hq⟩ : Fin cfg0.N).val % 32 = 0 from h0)] at hs
    have e1 : bat q = β := Fin.ext (by show q / 32 % 4 = β.val; omega)
    have e2 : 64 * (q % 32 + 1) = 2048 := by omega
    refine Eq.trans ?_ ((st_step m c R ⟨q, hq⟩ _ hs p a b).trans ?_)
    · rw [outsAt0_C m c ⟨q, hq⟩ h0 h1]
      dsimp only
      exact out12_C c (grid0.coords ⟨q, hq⟩) (ms0_0 ⟨q, hq⟩) (hs0_0 ⟨q, hq⟩) (ms0_1 ⟨q, hq⟩) (hs0_1 ⟨q, hq⟩) (ms0_2 ⟨q, hq⟩) (hs0_2 ⟨q, hq⟩) (ms0_3 ⟨q, hq⟩) (hs0_3 ⟨q, hq⟩) (ms0_4 ⟨q, hq⟩) (hs0_4 ⟨q, hq⟩) (ms0_5 ⟨q, hq⟩) (hs0_5 ⟨q, hq⟩) (ms0_6 ⟨q, hq⟩) (hs0_6 ⟨q, hq⟩) (ms0_7 ⟨q, hq⟩) (hs0_7 ⟨q, hq⟩) (ms0_8 ⟨q, hq⟩) (hs0_8 ⟨q, hq⟩) (ms0_9 ⟨q, hq⟩) (hs0_9 ⟨q, hq⟩) (ms0_10 ⟨q, hq⟩) (hs0_10 ⟨q, hq⟩) (ms0_11 ⟨q, hq⟩) (hs0_11 ⟨q, hq⟩) (ms0_12 ⟨q, hq⟩) (hs0_12 ⟨q, hq⟩) scM0_0 (Memref.isWhole_whole _) (iblk m c 0 ⟨q, hq⟩) (iblk m c 1 ⟨q, hq⟩) (iblk m c 2 ⟨q, hq⟩) (iblk m c 3 ⟨q, hq⟩) (iblk m c 4 ⟨q, hq⟩) (iblk m c 5 ⟨q, hq⟩) (iblk m c 6 ⟨q, hq⟩) (iblk m c 7 ⟨q, hq⟩) (iblk m c 8 ⟨q, hq⟩) (iblk m c 9 ⟨q, hq⟩) (iblk m c 10 ⟨q, hq⟩) (outsAt0 m c ((⟨q, hq⟩ : Fin cfg0.N).val - 1) (Nat.lt_of_le_of_lt (Nat.sub_le _ _) hq)).2.2 (fun h => h0 ((hcond0_0 ⟨q, hq⟩).mp h)) ((hcond0_1 ⟨q, hq⟩).mpr h1) p a b
    · show stP m c q (64 * (q % 32 + 1)) p (ix2 a b) = _
      unfold stP
      rw [e1, e2]; rfl
  exact key _ _ hp

end Cert.KernelIdeal.Chain

end
-- ==== Proof.Trips.lean ====
/-
  The reference's run over the trip of its loop: at every trip the carried buffers hold the state iterated from the
  initial one, so the two results are those of the state after the last trip.
-/
module

public import proofs.«01_k».proof.Proof.Gen.ReferenceIdeal.Run
public import proofs.«01_k».proof.Proof.Gen.ReferenceIdeal.Step

@[expose] public section

set_option maxRecDepth 65536

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

variable (V0 : Valuation τ sig (Elt F)) (s : State F) (j : ℕ)

/-- The carried buffers hold a state and the trip's number. -/
structure Carries : Prop where
  f_7 : V0 (Proc.devRef .tc main_v15_7) = s.main_v15_7
  f_8 : V0 (Proc.devRef .tc main_v15_8) = s.main_v15_8
  f_0 : V0 (Proc.devRef .tc main_v15_0) = s.main_v15_0
  f_1 : V0 (Proc.devRef .tc main_v15_1) = s.main_v15_1
  f_2 : V0 (Proc.devRef .tc main_v15_2) = s.main_v15_2
  f_3 : V0 (Proc.devRef .tc main_v15_3) = s.main_v15_3
  f_4 : V0 (Proc.devRef .tc main_v15_4) = s.main_v15_4
  f_5 : V0 (Proc.devRef .tc main_v15_5) = s.main_v15_5
  n_6 : V0 (Proc.devRef .tc main_v15_6) = constantI S_ 32 (BitVec.ofNat 32 j)

variable {V0 s j}

/-- The head's state after a trip. -/
theorem state_next (h : Carries V0 s j) : res_main_while0b_v83 V0 = b52 j s := by
  unfold res_main_while0b_v83
  rw [h.f_7, h.f_1, h.f_2, h.f_3, h.f_4, h.f_5, h.n_6]
  rfl

theorem next_7 (h : Carries V0 s j) : Value.step_main_v15_7 V0 = (step j s).main_v15_7 := state_next h

/-- What the tokens read after a trip. -/
theorem next_8 (h : Carries V0 s j) : Value.step_main_v15_8 V0 = (step j s).main_v15_8 := by
  unfold Value.step_main_v15_8
  rw [state_next h, h.f_8, h.f_0, h.n_6]
  rfl

theorem next_6 (h : Carries V0 s j) : Value.step_main_v15_6 V0 = constantI S_ 32 (BitVec.ofNat 32 (j + 1)) := by
  unfold Value.step_main_v15_6
  rw [h.n_6]
  funext i
  show BitVec.ofNat 32 j + 1#32 = BitVec.ofNat 32 (j + 1)
  rw [BitVec.ofNat_add]

/-- One trip carries the next state. -/
theorem carries_step (h : Carries V0 s j) : Carries (STEP V0) (step j s) (j + 1) where
  f_7 := (STEP_main_v15_7 V0).trans (next_7 h)
  f_8 := (STEP_main_v15_8 V0).trans (next_8 h)
  n_6 := (STEP_main_v15_6 V0).trans (next_6 h)
  f_0 := (STEP_main_v15_0 V0).trans h.f_0
  f_1 := (STEP_main_v15_1 V0).trans h.f_1
  f_2 := (STEP_main_v15_2 V0).trans h.f_2
  f_3 := (STEP_main_v15_3 V0).trans h.f_3
  f_4 := (STEP_main_v15_4 V0).trans h.f_4
  f_5 := (STEP_main_v15_5 V0).trans h.f_5

/-- The state the first trip starts from. -/
abbrev first (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxHeartbeats 400000 in
theorem carries_first : Carries (entryContents preI m c) (first m c) 0 := by
  constructor <;> (simp only [entryContents, afterL_cons, afterL_nil]; after_reads_simp) <;> rfl

/-- The state before trip `k`. -/
def iter : ℕ → State F
  | 0 => first m c
  | k + 1 => step k (iter k)

theorem carries_iter : ∀ k, Carries (STEP^[k] (entryContents preI m c)) (iter m c k) k
  | 0 => carries_first m c
  | k + 1 => by
    rw [Function.iterate_succ_apply']
    exact carries_step (carries_iter k)

theorem made_v49 (h : Carries V0 s j) : out_main_v49 V0 = R_main_v49 s (V0 (Proc.devRef .tc main_arg6))
    (V0 (Proc.devRef .tc main_arg7)) (V0 (Proc.devRef .tc main_arg8)) (V0 (Proc.devRef .tc main_arg9)) := by
  unfold out_main_v49
  rw [h.f_8]
  rfl

theorem made_v60 (h : Carries V0 s j) : out_main_v60 V0 = R_main_v60 s := by
  unfold out_main_v60
  rw [h.f_7]
  rfl

/-- The run ends with each result made of the state after trip 2048, and every argument unchanged. -/
theorem run_trips (ρ : Dev nD → PrngReg) :
    θ_run (defs (F := F)) (onTc (τ := τ) (main (F := F))) ⟨m, fun _ => 0, ρ⟩ fun r => ∀ c : Dev nD,
      r.2.mem ((c.tc : Thread nD τ).loc main_v49) = R_main_v49 (iter m c 2048) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v60) = R_main_v60 (iter m c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := carries_iter m c 2048
    ⟨(h c).1.trans ((made_v49 hk).trans (by
        rw [iter_main_arg6 m c 2048, iter_main_arg7 m c 2048, iter_main_arg8 m c 2048, iter_main_arg9 m c 2048])),
      (h c).2.1.trans (made_v60 hk), (h c).2.2⟩) (Value.run m ρ)

end Cert.ReferenceIdeal.Trips

end
-- ==== Proof.Ref.lean ====
/-
  The reference's two results in closed form: its loop's state after `n` trips is each head's state after `n` tokens and
  what those tokens read, and the operations after the loop make the two results of it.
-/
module

public import proofs.«01_k».proof.Proof.Whole
public import proofs.«01_k».proof.Proof.Trips
public import Idealize.ShloMosaic.Lib.Pointwise

@[expose] public section

set_option maxRecDepth 65536

noncomputable section

namespace Cert.ReferenceIdeal.Loop

open Idealize.ShloMosaic Idealize.SL.Sem Cert.ReferenceIdeal Cert.ReferenceIdeal.Gen Cert.ReferenceIdeal.Step
open Cert.Recur Cert.Whole Cert.KernelIdeal.Stages

/-- An argument laid out token first, head by head. -/
abbrev H5 := (⟨S2048x4x8x2x64, .f32⟩ : BufTy).Contents (Elt Ideal)

/-- Where trip `j` reads and writes. -/
def starts (j : ℕ) : Fin 5 → Int := fun k => (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt

theorem starts_zero {j : ℕ} (hj : j < 2048) : starts j 0 = j := by
  show (BitVec.ofNat 32 j).toInt = j
  rw [BitVec.toInt_eq_toNat_of_lt (by rw [BitVec.toNat_ofNat]; omega), BitVec.toNat_ofNat]; omega

theorem clamp_zero (j : Fin 2048) (ht : S1x4x8x2x64.rank = S2048x4x8x2x64.rank) :
    Host.clampedStart S2048x4x8x2x64 S1x4x8x2x64 ht (starts j.val) (0 : Fin 5) = j.val :=
  Host.clampedStart_of_le ht _ _ _ (starts_zero j.isLt) (by show j.val + 1 ≤ 2048; omega)

theorem clamp_rest (j : ℕ) (ht : S1x4x8x2x64.rank = S2048x4x8x2x64.rank) (a : Fin 5) (ha : a ≠ 0) :
    Host.clampedStart S2048x4x8x2x64 S1x4x8x2x64 ht (starts j) a = 0 := by
  refine Host.clampedStart_of_le ht _ _ _ ?_ ?_
  · fin_cases a
    · exact absurd rfl ha
    all_goals rfl
  · fin_cases a
    · exact absurd rfl ha
    all_goals (show 0 + _ ≤ _; first | exact Nat.le_refl 4 | exact Nat.le_refl 8 | exact Nat.le_refl 2 | exact Nat.le_refl 64)

/-- The token a trip reads of such an array. -/
def tokAt (j : ℕ) (x : H5) : (⟨S4x8x2x64, .f32⟩ : BufTy).Contents (Elt Ideal) :=
  shapeCast S4x8x2x64 (Host.dynamicSlice S1x4x8x2x64 x (starts j) sliceFits_S2048x4x8x2x64_S1x4x8x2x64) shapeCasts_S1x4x8x2x64_S4x8x2x64

theorem tokAt_apply (j : Fin 2048) (x : H5) (β : Fin 4) (p : Fin 8) (h : Fin 2) (d : Fin 64) :
    tokAt j.val x (ix4 β p h d : S4x8x2x64.Idx) = x (ix5 j β p h d : S2048x4x8x2x64.Idx) := by
  unfold tokAt
  pointwise []
  congr 1
  refine congr (congr (congr (congr (congrArg ix5 (Fin.ext ?_)) (Fin.ext ?_)) (Fin.ext ?_)) (Fin.ext ?_)) (Fin.ext ?_)
  · show _ = j.val
    simp only [clamp_zero]
  all_goals (dsimp only; rw [clamp_rest _ _ _ (by decide)]; omega)

/-- A trip's write: its own token's entry new, the others kept. -/
theorem put_apply (j : Fin 2048) (x : H5) (u : (⟨S1x4x8x2x64, .f32⟩ : BufTy).Contents (Elt Ideal)) (n : Fin 2048) (β : Fin 4)
    (p : Fin 8) (h : Fin 2) (a : Fin 64) :
    Host.dynamicUpdateSlice x u (starts j.val) updateFits_S2048x4x8x2x64_S1x4x8x2x64 (ix5 n β p h a : S2048x4x8x2x64.Idx)
      = if n = j then u (ix5 0 β p h a : S1x4x8x2x64.Idx) else x (ix5 n β p h a : S2048x4x8x2x64.Idx) := by
  rw [Host.dynamicUpdateSlice_apply]
  by_cases e : n = j
  · subst e
    rw [if_pos rfl, dif_pos]
    · congr 1
      funext b; apply Fin.ext
      match b with
      | ⟨0, _⟩ => show n.val - Host.clampedStart S2048x4x8x2x64 S1x4x8x2x64 _ (starts n.val) (0 : Fin 5) = 0; rw [clamp_zero]; omega
      | ⟨1, _⟩ => show β.val - Host.clampedStart S2048x4x8x2x64 S1x4x8x2x64 _ (starts n.val) (1 : Fin 5) = β.val; rw [clamp_rest _ _ _ (by decide)]; omega
      | ⟨2, _⟩ => show p.val - Host.clampedStart S2048x4x8x2x64 S1x4x8x2x64 _ (starts n.val) (2 : Fin 5) = p.val; rw [clamp_rest _ _ _ (by decide)]; omega
      | ⟨3, _⟩ => show h.val - Host.clampedStart S2048x4x8x2x64 S1x4x8x2x64 _ (starts n.val) (3 : Fin 5) = h.val; rw [clamp_rest _ _ _ (by decide)]; omega
      | ⟨4, _⟩ => show a.val - Host.clampedStart S2048x4x8x2x64 S1x4x8x2x64 _ (starts n.val) (4 : Fin 5) = a.val; rw [clamp_rest _ _ _ (by decide)]; omega
    · intro b
      match b with
      | ⟨0, _⟩ =>
        show Host.clampedStart S2048x4x8x2x64 S1x4x8x2x64 _ (starts n.val) (0 : Fin 5) ≤ n.val ∧ n.val < Host.clampedStart S2048x4x8x2x64 S1x4x8x2x64 _ (starts n.val) (0 : Fin 5) + 1
        rw [clamp_zero]; omega
      | ⟨1, _⟩ =>
        show Host.clampedStart S2048x4x8x2x64 S1x4x8x2x64 _ (starts n.val) (1 : Fin 5) ≤ β.val ∧ β.val < Host.clampedStart S2048x4x8x2x64 S1x4x8x2x64 _ (starts n.val) (1 : Fin 5) + 4
        rw [clamp_rest _ _ _ (by decide)]; omega
      | ⟨2, _⟩ =>
        show Host.clampedStart S2048x4x8x2x64 S1x4x8x2x64 _ (starts n.val) (2 : Fin 5) ≤ p.val ∧ p.val < Host.clampedStart S2048x4x8x2x64 S1x4x8x2x64 _ (starts n.val) (2 : Fin 5) + 8
        rw [clamp_rest _ _ _ (by decide)]; omega
      | ⟨3, _⟩ =>
        show Host.clampedStart S2048x4x8x2x64 S1x4x8x2x64 _ (starts n.val) (3 : Fin 5) ≤ h.val ∧ h.val < Host.clampedStart S2048x4x8x2x64 S1x4x8x2x64 _ (starts n.val) (3 : Fin 5) + 2
        rw [clamp_rest _ _ _ (by decide)]; omega
      | ⟨4, _⟩ =>
        show Host.clampedStart S2048x4x8x2x64 S1x4x8x2x64 _ (starts n.val) (4 : Fin 5) ≤ a.val ∧ a.val < Host.clampedStart S2048x4x8x2x64 S1x4x8x2x64 _ (starts n.val) (4 : Fin 5) + 64
        rw [clamp_rest _ _ _ (by decide)]; omega
  · rw [if_neg e, dif_neg]
    intro hin
    have h0 := hin (0 : Fin 5)
    change Host.clampedStart S2048x4x8x2x64 S1x4x8x2x64 _ (starts j.val) (0 : Fin 5) ≤ n.val ∧ n.val < Host.clampedStart S2048x4x8x2x64 S1x4x8x2x64 _ (starts j.val) (0 : Fin 5) + 1 at h0
    rw [clamp_zero] at h0
    exact e (Fin.ext (by omega))

/-! ## One trip -/

theorem b52_apply (j : Fin 2048) (s : State Ideal) (β : Fin 4) (p : Fin 8) (h : Fin 2) (a b : Fin 64) :
    b52 j.val s (ix5 β p h a b : S4x8x2x64x64.Idx)
      = s.main_v15_7 (ix5 β p h a b : S4x8x2x64x64.Idx) * s.main_v15_5 (ix5 j β p h b : S2048x4x8x2x64.Idx)
        + (∑ l : Fin 64, s.main_v15_7 (ix5 β p h a l : S4x8x2x64x64.Idx) * -s.main_v15_3 (ix5 j β p h l : S2048x4x8x2x64.Idx))
          * s.main_v15_4 (ix5 j β p h b : S2048x4x8x2x64.Idx)
        + s.main_v15_2 (ix5 j β p h a : S2048x4x8x2x64.Idx) * s.main_v15_1 (ix5 j β p h b : S2048x4x8x2x64.Idx) := by
  pointwise [b52, b51, b50, b49, b48, b47, b46, b45, b44, b43, b42, b41, b40, b39, b38, b37, b36]
  simp only [show b35 j.val s = tokAt j.val s.main_v15_5 from rfl, show b23 j.val s = tokAt j.val s.main_v15_3 from rfl,
    show b29 j.val s = tokAt j.val s.main_v15_4 from rfl, show b17 j.val s = tokAt j.val s.main_v15_2 from rfl,
    show b11 j.val s = tokAt j.val s.main_v15_1 from rfl, tokAt_apply]

theorem b59_apply (j : Fin 2048) (s : State Ideal) (n : Fin 2048) (β : Fin 4) (p : Fin 8) (h : Fin 2) (a : Fin 64) :
    b59 j.val s (ix5 n β p h a : S2048x4x8x2x64.Idx)
      = if n = j then ∑ l : Fin 64, b52 j.val s (ix5 β p h a l : S4x8x2x64x64.Idx) * s.main_v15_0 (ix5 j β p h l : S2048x4x8x2x64.Idx)
        else s.main_v15_8 (ix5 n β p h a : S2048x4x8x2x64.Idx) := by
  show Host.dynamicUpdateSlice s.main_v15_8 (b54 j.val s) (starts j.val) updateFits_S2048x4x8x2x64_S1x4x8x2x64 (ix5 n β p h a : S2048x4x8x2x64.Idx) = _
  rw [put_apply]
  refine if_congr Iff.rfl ?_ rfl
  pointwise [b54, b53]
  simp only [show b5 j.val s = tokAt j.val s.main_v15_0 from rfl, tokAt_apply]

/-! ## The tokens -/
section
variable (a0 a1 a2 a3 a4 a5 : A4)

theorem heads_0 (hX : IsReal a0) (n : Fin 2048) (β : Fin 4) (p : Fin 8) (h : Fin 2) (d : Fin 64) :
    A_main_v1 (F := Ideal) a0 a1 a2 a3 a4 a5 (ix5 n β p h d : S2048x4x8x2x64.Idx) = (tok a0 β p h n d : EReal) := by
  rw [tok_lt, hX]
  pointwise [A_main_v1, A_main_v0]
  exact congrArg (fun l => a0 (ix4 β p n l)) (Fin.ext (by simp only [pk]; omega))

theorem heads_1 (hX : IsReal a1) (n : Fin 2048) (β : Fin 4) (p : Fin 8) (h : Fin 2) (d : Fin 64) :
    A_main_v3 (F := Ideal) a0 a1 a2 a3 a4 a5 (ix5 n β p h d : S2048x4x8x2x64.Idx) = (tok a1 β p h n d : EReal) := by
  rw [tok_lt, hX]
  pointwise [A_main_v3, A_main_v2]
  exact congrArg (fun l => a1 (ix4 β p n l)) (Fin.ext (by simp only [pk]; omega))

theorem heads_2 (hX : IsReal a2) (n : Fin 2048) (β : Fin 4) (p : Fin 8) (h : Fin 2) (d : Fin 64) :
    A_main_v5 (F := Ideal) a0 a1 a2 a3 a4 a5 (ix5 n β p h d : S2048x4x8x2x64.Idx) = (tok a2 β p h n d : EReal) := by
  rw [tok_lt, hX]
  pointwise [A_main_v5, A_main_v4]
  exact congrArg (fun l => a2 (ix4 β p n l)) (Fin.ext (by simp only [pk]; omega))

theorem heads_3 (hX : IsReal a3) (n : Fin 2048) (β : Fin 4) (p : Fin 8) (h : Fin 2) (d : Fin 64) :
    A_main_v7 (F := Ideal) a0 a1 a2 a3 a4 a5 (ix5 n β p h d : S2048x4x8x2x64.Idx) = (tok a3 β p h n d : EReal) := by
  rw [tok_lt, hX]
  pointwise [A_main_v7, A_main_v6]
  exact congrArg (fun l => a3 (ix4 β p n l)) (Fin.ext (by simp only [pk]; omega))

theorem heads_4 (hX : IsReal a4) (n : Fin 2048) (β : Fin 4) (p : Fin 8) (h : Fin 2) (d : Fin 64) :
    A_main_v9 (F := Ideal) a0 a1 a2 a3 a4 a5 (ix5 n β p h d : S2048x4x8x2x64.Idx) = (tok a4 β p h n d : EReal) := by
  rw [tok_lt, hX]
  pointwise [A_main_v9, A_main_v8]
  exact congrArg (fun l => a4 (ix4 β p n l)) (Fin.ext (by simp only [pk]; omega))

theorem heads_5 (hX : IsReal a5) (n : Fin 2048) (β : Fin 4) (p : Fin 8) (h : Fin 2) (d : Fin 64) :
    A_main_v12 (F := Ideal) a0 a1 a2 a3 a4 a5 (ix5 n β p h d : S2048x4x8x2x64.Idx) = (Real.exp (tok a5 β p h n d) : EReal) := by
  rw [tok_lt, ← Ideal.exp_coe, hX]
  pointwise [A_main_v12, A_main_v11, A_main_v10]
  exact congrArg (fun l => Ideal.exp (a5 (ix4 β p n l))) (Fin.ext (by simp only [pk]; omega))

/-! ## The trips in turn -/

/-- The states of the loop. -/
def trips : ℕ → State Ideal
  | 0 => init a0 a1 a2 a3 a4 a5
  | n + 1 => step n (trips n)

theorem trips_0 (n : ℕ) : (trips a0 a1 a2 a3 a4 a5 n).main_v15_0 = A_main_v1 a0 a1 a2 a3 a4 a5 := by
  induction n with | zero => rfl | succ n ih => exact ih
theorem trips_1 (n : ℕ) : (trips a0 a1 a2 a3 a4 a5 n).main_v15_1 = A_main_v3 a0 a1 a2 a3 a4 a5 := by
  induction n with | zero => rfl | succ n ih => exact ih
theorem trips_2 (n : ℕ) : (trips a0 a1 a2 a3 a4 a5 n).main_v15_2 = A_main_v5 a0 a1 a2 a3 a4 a5 := by
  induction n with | zero => rfl | succ n ih => exact ih
theorem trips_3 (n : ℕ) : (trips a0 a1 a2 a3 a4 a5 n).main_v15_3 = A_main_v7 a0 a1 a2 a3 a4 a5 := by
  induction n with | zero => rfl | succ n ih => exact ih
theorem trips_4 (n : ℕ) : (trips a0 a1 a2 a3 a4 a5 n).main_v15_4 = A_main_v9 a0 a1 a2 a3 a4 a5 := by
  induction n with | zero => rfl | succ n ih => exact ih
theorem trips_5 (n : ℕ) : (trips a0 a1 a2 a3 a4 a5 n).main_v15_5 = A_main_v12 a0 a1 a2 a3 a4 a5 := by
  induction n with | zero => rfl | succ n ih => exact ih

variable (h0 : IsReal a0) (h1 : IsReal a1) (h2 : IsReal a2) (h3 : IsReal a3) (h4 : IsReal a4) (h5 : IsReal a5)
include h1 h2 h3 h4 h5

/-- A trip from the state after `n` tokens leaves the state after one more. -/
theorem b52_trips (n : ℕ) (hn : n < 2048)
    (ih : ∀ β p h a b, (trips a0 a1 a2 a3 a4 a5 n).main_v15_7 (ix5 β p h a b : S4x8x2x64x64.Idx) = (stR a1 a2 a3 a4 a5 β p h n a b : EReal))
    (β : Fin 4) (p : Fin 8) (h : Fin 2) (a b : Fin 64) :
    b52 n (trips a0 a1 a2 a3 a4 a5 n) (ix5 β p h a b : S4x8x2x64x64.Idx) = (stR a1 a2 a3 a4 a5 β p h (n + 1) a b : EReal) := by
  rw [b52_apply ⟨n, hn⟩, trips_1, trips_2, trips_3, trips_4, trips_5, heads_1 _ _ _ _ _ _ h1, heads_2 _ _ _ _ _ _ h2,
    heads_4 _ _ _ _ _ _ h4, heads_5 _ _ _ _ _ _ h5]
  simp only [heads_3 _ _ _ _ _ _ h3, ih]
  simp only [← EReal.coe_neg, ← EReal.coe_mul, ← coe_sum, ← EReal.coe_add]
  rfl

theorem trips_7 (n : ℕ) (hn : n ≤ 2048) (β : Fin 4) (p : Fin 8) (h : Fin 2) (a b : Fin 64) :
    (trips a0 a1 a2 a3 a4 a5 n).main_v15_7 (ix5 β p h a b : S4x8x2x64x64.Idx) = (stR a1 a2 a3 a4 a5 β p h n a b : EReal) := by
  induction n generalizing β p h a b with
  | zero =>
    show K_main_v13 (F := Ideal) (ix5 β p h a b : S4x8x2x64x64.Idx) = ((0 : ℝ) : EReal)
    pointwise [K_main_v13, K_main_cst]
    simp
  | succ n ih =>
    exact b52_trips a0 a1 a2 a3 a4 a5 h1 h2 h3 h4 h5 n (by omega) (fun β p h a b => ih (by omega) β p h a b) β p h a b

include h0
theorem trips_8 (n : ℕ) (hn : n ≤ 2048) (t : Fin 2048) (ht : t.val < n) (β : Fin 4) (p : Fin 8) (h : Fin 2) (a : Fin 64) :
    (trips a0 a1 a2 a3 a4 a5 n).main_v15_8 (ix5 t β p h a : S2048x4x8x2x64.Idx) = (yR a0 a1 a2 a3 a4 a5 β p h t a : EReal) := by
  induction n with
  | zero => omega
  | succ n ih =>
    have hn' : n < 2048 := by omega
    show b59 n (trips a0 a1 a2 a3 a4 a5 n) _ = _
    rw [b59_apply ⟨n, hn'⟩]
    by_cases e : t = ⟨n, hn'⟩
    · subst e
      rw [if_pos rfl, trips_0]
      simp only [b52_trips a0 a1 a2 a3 a4 a5 h1 h2 h3 h4 h5 n hn' (trips_7 a0 a1 a2 a3 a4 a5 h1 h2 h3 h4 h5 n (by omega)),
        heads_0 _ _ _ _ _ _ h0]
      simp only [← EReal.coe_mul, ← coe_sum]
      rfl
    · rw [if_neg e]
      exact ih (by omega) (by have : t.val ≠ n := fun h => e (Fin.ext h); omega)

end

/-! ## After the loop -/

theorem last_apply (s : State Ideal) (S : Fin 4 → Fin 8 → Fin 2 → Mat)
    (hs : ∀ β p h a b, s.main_v15_7 (ix5 β p h a b : S4x8x2x64x64.Idx) = (S β p h a b : EReal)) (β : Fin 4) (p : Fin 8) (a b : Fin 128) :
    R_main_v60 s (ix4 β p a b : S4x8x128x128.Idx) = (blk (S β p) a b : EReal) := by
  pointwise [R_main_v60]
  rw [WordCmp.cmpi_eq_ofNat (by omega) (by omega), hs]
  unfold blk
  by_cases e : hd a = hd b
  · rw [if_pos e, decide_eq_true ((hd_eq_iff a b).mp e)]; rfl
  · rw [if_neg e, decide_eq_false (fun h => e ((hd_eq_iff a b).mpr h))]
    show (constant (F := Ideal) S_ .f32 0x00000000#32) ix0 = _
    pointwise []
    simp

/-- Dividing a real number by sixty-four. -/
theorem div_64 (x : ℝ) : Ideal.div (x : EReal) (Ideal.ofBits FTy.f32 1115684864#32) = ((x * (1 / 64) : ℝ) : EReal) := by
  have e : Ideal.ofBits FTy.f32 1115684864#32 = ((64 : ℝ) : EReal) := by
    simp [Ideal.ofBits, Ideal.ieee, -EReal.coe_mul]; norm_num
  rw [e]
  unfold Ideal.div
  rw [if_neg (by norm_num), ← EReal.coe_inv, ← EReal.coe_mul]
  norm_num

set_option maxHeartbeats 1000000 in
theorem out_apply (s : State Ideal) (g bon : A4) (lg lb : A1) (hg : IsReal g) (hbon : IsReal bon) (hlg : IsReal lg) (hlb : IsReal lb)
    (Y : Fin 4 → Fin 8 → Fin 2 → Fin 2048 → Fin 64 → ℝ)
    (hs : ∀ n β p h a, s.main_v15_8 (ix5 n β p h a : S2048x4x8x2x64.Idx) = (Y β p h n a : EReal))
    (β : Fin 4) (p : Fin 8) (n : Fin 2048) (l : Fin 128) :
    R_main_v49 s g bon lg lb (ix4 β p n l : S4x8x2048x128.Idx)
      = (put1 (Y β p (hd l) n) (tok g β p (hd l) n) (tok bon β p (hd l) n) (aff lg p (hd l)) (aff lb p (hd l)) (dm l) : EReal) := by
  have hl : pk (hd l) (dm l) = l := Fin.ext (by simp only [pk, hd, dm]; omega)
  have e1 : ∀ q, (lg (ix1 ⟨p.val * 128 + l.val / 64 * 64 + l.val % 64, q⟩) : EReal) = (aff lg p (hd l) (dm l) : EReal) := by
    intro q
    unfold aff
    rw [hlg]
    exact congrArg (fun k => lg (ix1 k)) (Fin.ext (by simp only [hd, dm]; omega))
  have e2 : ∀ q, (lb (ix1 ⟨p.val * 128 + l.val / 64 * 64 + l.val % 64, q⟩) : EReal) = (aff lb p (hd l) (dm l) : EReal) := by
    intro q
    unfold aff
    rw [hlb]
    exact congrArg (fun k => lb (ix1 k)) (Fin.ext (by simp only [hd, dm]; omega))
  have e3 : g (ix4 β p n l) = (tok g β p (hd l) n (dm l) : EReal) := by rw [tok_lt, hg, hl]
  have e4 : bon (ix4 β p n l) = (tok bon β p (hd l) n (dm l) : EReal) := by rw [tok_lt, hbon, hl]
  pointwise [R_main_v49]
  simp only [e1, e2, e3, e4, hs, ← coe_sum, div_64, ← EReal.coe_sub, ← EReal.coe_mul, ofBits_eps, ← EReal.coe_add]
  have hv := var1_pos (Y β p (hd l) n)
  simp only [mean1, dev1] at hv
  have hh : (⟨l.val / 64, by omega⟩ : Fin 2) = hd l := rfl
  have hm : (⟨l.val % 64, by omega⟩ : Fin 64) = dm l := rfl
  simp only [hh, hm]
  rw [rsqrt_pos hv]
  simp only [← EReal.coe_mul, ← EReal.coe_add, put1, dev1, mean1]

/-! ## The reference's results, in the layer's own words -/

section
variable (a0 a1 a2 a3 a4 a5 a6 a7 : A4) (a8 a9 : A1)
variable (h0 : IsReal a0) (h1 : IsReal a1) (h2 : IsReal a2) (h3 : IsReal a3) (h4 : IsReal a4) (h5 : IsReal a5)
include h1 h2 h3 h4 h5

theorem v60_eq : R_main_v60 (trips a0 a1 a2 a3 a4 a5 2048) = stAll a1 a2 a3 a4 a5 := by
  refine funext fun i => ?_
  obtain ⟨β, p, a, b, rfl⟩ : ∃ (β : Fin 4) (p : Fin 8) (a : Fin 128) (b : Fin 128), i = (ix4 β p a b : S4x8x128x128.Idx) :=
    ⟨i 0, i 1, i 2, i 3, eq_ix4 i⟩
  exact last_apply _ (fun β p h => stR a1 a2 a3 a4 a5 β p h 2048)
    (trips_7 a0 a1 a2 a3 a4 a5 h1 h2 h3 h4 h5 2048 (Nat.le_refl _)) β p a b

include h0
theorem v49_eq (h6 : IsReal a6) (h7 : IsReal a7) (h8 : IsReal a8) (h9 : IsReal a9) :
    R_main_v49 (trips a0 a1 a2 a3 a4 a5 2048) a6 a7 a8 a9 = outAll a0 a1 a2 a3 a4 a5 a6 a7 a8 a9 := by
  refine funext fun i => ?_
  obtain ⟨β, p, n, l, rfl⟩ : ∃ (β : Fin 4) (p : Fin 8) (n : Fin 2048) (l : Fin 128), i = (ix4 β p n l : S4x8x2048x128.Idx) :=
    ⟨i 0, i 1, i 2, i 3, eq_ix4 i⟩
  exact out_apply _ a6 a7 a8 a9 h6 h7 h8 h9 (fun β p h n => yR a0 a1 a2 a3 a4 a5 β p h n.val)
    (fun n => trips_8 a0 a1 a2 a3 a4 a5 h0 h1 h2 h3 h4 h5 2048 (Nat.le_refl _) n n.isLt) β p n l

end

open Idealize.SL.Sem in
theorem iter_eq (m : (ℓ : Loc nD τ sig) → Buf (Elt Ideal) ℓ) (c : Dev nD) (n : ℕ) :
    Trips.iter m c n = trips (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) n := by
  induction n with
  | zero => rfl
  | succ n ih => exact congrArg (Step.step n) ih

end Cert.ReferenceIdeal.Loop

end
-- ==== Proof.Pre.lean ====
/-
  What the precondition says: every element of every argument is a real number.
-/
module

public import proofs.«01_k».proof.Defs
public import proofs.«01_k».proof.Proof.Gen.Pre_finite
public import proofs.«01_k».proof.Proof.Whole
public import Idealize.ShloMosaic.Lib.ReduceAll

@[expose] public section

noncomputable section

namespace Cert.Finite

open Idealize.ShloMosaic Cert.Pre_finite Cert.Pre_finite.Facts Cert.Whole

instance : Subsingleton S_.Idx := ⟨fun a b => funext fun k => k.elim0⟩

/-- Below infinity in absolute value is a real number. -/
theorem real_of_lt {x : EReal} (h : max x (-x) < ⊤) : ((x.toReal : ℝ) : EReal) = x := by
  refine EReal.coe_toReal ?_ ?_ <;> rintro rfl <;> simp at h

/-- The test of one argument. -/
abbrev allFinite {s : Shape} (axes : List (Fin s.rank)) (hb : S_.BroadcastsInDim s (![] : Fin 0 → Fin s.rank)) (hr : s.ReducesTo axes S_)
    (X : FVec Ideal s .f32) : IVec S_ 1 :=
  Host.reduce IntOp.andi (cmpf .olt (Host.absf X) (broadcastInDim s ![] hb (constant S_ .f32 0x7F800000#32))) (constantI S_ 1 1#1) hr h_S_

theorem isReal_of_all {s : Shape} (axes : List (Fin s.rank)) (hb : S_.BroadcastsInDim s (![] : Fin 0 → Fin s.rank)) (hr : s.ReducesTo axes S_)
    (X : FVec Ideal s .f32) (e : allFinite axes hb hr X (Shape.Idx.first h_S_) = 1#1) : IsReal X := by
  intro i
  have h := Host.reduce_andi_all _ _ hr h_S_ _ e i
  change Ideal.cmp .olt (max (X i) (-X i)) (Ideal.ofBits .f32 0x7F800000#32) = 1#1 at h
  have ht : Ideal.ofBits .f32 0x7F800000#32 = ⊤ := by simp [Ideal.ofBits, Ideal.ieee]
  rw [ht] at h
  refine real_of_lt ?_
  by_contra hn
  simp [Ideal.cmp, hn] at h

theorem isReal_of_fn (a0 a1 a2 a3 a4 a5 a6 a7 : FVec Ideal S4x8x2048x128 .f32) (a8 a9 : FVec Ideal S1024 .f32)
    (h : fn (F := Ideal) a0 a1 a2 a3 a4 a5 a6 a7 a8 a9 (Shape.Idx.first h_S_) = 1#1) :
    IsReal a0 ∧ IsReal a1 ∧ IsReal a2 ∧ IsReal a3 ∧ IsReal a4 ∧ IsReal a5 ∧ IsReal a6 ∧ IsReal a7 ∧ IsReal a8 ∧ IsReal a9 := by
  let T (X : FVec Ideal S4x8x2048x128 .f32) : IVec S_ 1 := allFinite [0, 1, 2, 3] bcast_S_S4x8x2048x128 reducesTo_S4x8x2048x128_S_d0_1_2_3 X
  let U (X : FVec Ideal S1024 .f32) : IVec S_ 1 := allFinite [0] bcast_S_S1024 reducesTo_S1024_S_d0 X
  have e : andi (andi (andi (andi (andi (andi (andi (andi (andi (T a0) (T a1)) (T a2)) (T a3)) (T a4)) (T a5)) (T a6)) (T a7)) (U a8)) (U a9)
      (Shape.Idx.first h_S_) = 1#1 := h
  obtain ⟨e, g9⟩ := IntOp.andi_eq_one.1 e
  obtain ⟨e, g8⟩ := IntOp.andi_eq_one.1 e
  obtain ⟨e, g7⟩ := IntOp.andi_eq_one.1 e
  obtain ⟨e, g6⟩ := IntOp.andi_eq_one.1 e
  obtain ⟨e, g5⟩ := IntOp.andi_eq_one.1 e
  obtain ⟨e, g4⟩ := IntOp.andi_eq_one.1 e
  obtain ⟨e, g3⟩ := IntOp.andi_eq_one.1 e
  obtain ⟨e, g2⟩ := IntOp.andi_eq_one.1 e
  obtain ⟨g0, g1⟩ := IntOp.andi_eq_one.1 e
  exact ⟨isReal_of_all _ _ _ _ g0, isReal_of_all _ _ _ _ g1, isReal_of_all _ _ _ _ g2, isReal_of_all _ _ _ _ g3, isReal_of_all _ _ _ _ g4,
    isReal_of_all _ _ _ _ g5, isReal_of_all _ _ _ _ g6, isReal_of_all _ _ _ _ g7, isReal_of_all _ _ _ _ g8, isReal_of_all _ _ _ _ g9⟩

end Cert.Finite

end
-- ==== Proof.Memory.lean ====
/-
  The keys and values of the memory: what the call leaves in its result is the normalised rows times the two weights laid
  side by side, index by index.
-/
module

public import proofs.«01_k».proof.Proof.Gen.Kernel2Ideal.Value
public import proofs.«01_k».proof.Proof.Gen.Reference2Ideal.Run
public import Idealize.ShloMosaic.Lib.Pointwise
public import Idealize.ShloMosaic.Lib.Writes
public import Idealize.ShloMosaic.Lib.Pipeline.ValueKit

@[expose] public section

set_option maxRecDepth 65536

noncomputable section

namespace Cert.Kernel2Ideal.Memory

open Idealize.ShloMosaic Idealize.ShloMosaic.TcCoe Idealize.SL.Sem Cert.Kernel2Ideal Cert.Kernel2Ideal.Gen
open Idealize.ShloMosaic.Pipeline (Dat)

/-! ## What a point leaves -/

theorem hz2 : ∀ a : Fin 2, (![0, 0] : Fin 2 → Nat) a = (fun _ => 0) a := by decide

/-- A row divided by its root mean square, times the gains. -/
def nrm (x g : Fin 2048 → EReal) (k : Fin 2048) : EReal :=
  x k * Ideal.rsqrt (Ideal.div (∑ j, x j * x j) (Ideal.ofBits FTy.f32 1157627904#32) + Ideal.ofBits FTy.f32 897988541#32) * g k

theorem pay1_at (x : Vec Ideal S256x2048 .f32) (g : Vec Ideal S1x2048 .f32) (r : Fin 256) (k : Fin 2048) :
    k0_pay1 x g (ix2 r k) = nrm (fun j => x (ix2 r j)) (fun j => g (ix2 0 j)) k := by
  unfold nrm
  pointwise [k0_pay1]

theorem pay2_at (z : Vec Ideal S256x2048 .bf16) (w : Vec Ideal S2048x512 .bf16) (r : Fin 256) (n : Fin 512) :
    k0_pay2 z w (ix2 r n) = ∑ k : Fin 2048, z (ix2 r k) * w (ix2 k n) := by
  pointwise [k0_pay2]

section
variable (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S256x512 .f32) (harg5 : arg5.IsWhole) (arg6 : Memref sig .tc .vmem S256x2048 .bf16) (harg6 : arg6.IsWhole)
  (x0 : Vec Ideal S256x2048 .f32) (x1 : Vec Ideal S1x2048 .f32) (x2 : Vec Ideal S2048x512 .bf16) (xs : Vec Ideal S256x2048 .bf16)

theorem piecesS_A (hc0 : cond0_0 i) :
    (kernelRun0_A (F := Ideal) c i arg2 harg2 arg3 harg3 arg4 harg4 arg5 harg5 arg6 harg6 hc0 x0 x1 x2).2.1 =
    [⟨Rect.unit ![0, 0] S256x2048.size inb_S256x2048_S256x2048_0_0, k0_pay1 (View.readAt (Elt Ideal) arg2.view (Rect.unit ![0, 0] S256x2048.size inb_S256x2048_S256x2048_0_0).toLoadRect (harg2.unread x0))
      (View.readAt (Elt Ideal) arg3.view (Rect.unit ![0, 0] S1x2048.size inb_S1x2048_S1x2048_0_0).toLoadRect (harg3.unread x1))⟩] := by
  sl_kernel_rfl

theorem piecesO_A (hc0 : cond0_0 i) :
    (kernelRun0_A (F := Ideal) c i arg2 harg2 arg3 harg3 arg4 harg4 arg5 harg5 arg6 harg6 hc0 x0 x1 x2).1 =
    [⟨Rect.unit ![0, 0] S256x512.size inb_S256x512_S256x512_0_0, k0_pay2
      (arg6.view.readCov [⟨Rect.unit ![0, 0] S256x2048.size inb_S256x2048_S256x2048_0_0, k0_pay1 (View.readAt (Elt Ideal) arg2.view (Rect.unit ![0, 0] S256x2048.size inb_S256x2048_S256x2048_0_0).toLoadRect (harg2.unread x0))
        (View.readAt (Elt Ideal) arg3.view (Rect.unit ![0, 0] S1x2048.size inb_S1x2048_S1x2048_0_0).toLoadRect (harg3.unread x1))⟩]
        (Rect.unit ![0, 0] S256x2048.size inb_S256x2048_S256x2048_0_0).toLoadRect)
      (View.readAt (Elt Ideal) arg4.view (Rect.unit ![0, 0] S2048x512.size inb_S2048x512_S2048x512_0_0).toLoadRect (harg4.unread x2))⟩] := by
  sl_kernel_rfl

theorem piecesO_B (hc0 : ¬cond0_0 i) :
    (kernelRun0_B (F := Ideal) c i arg2 harg2 arg3 harg3 arg4 harg4 arg5 harg5 arg6 harg6 hc0 x0 x1 x2 xs).1 =
    [⟨Rect.unit ![0, 0] S256x512.size inb_S256x512_S256x512_0_0, k0_pay2
      (View.readAt (Elt Ideal) arg6.view (Rect.unit ![0, 0] S256x2048.size inb_S256x2048_S256x2048_0_0).toLoadRect (harg6.unread xs))
      (View.readAt (Elt Ideal) arg4.view (Rect.unit ![0, 0] S2048x512.size inb_S2048x512_S2048x512_0_0).toLoadRect (harg4.unread x2))⟩] := by
  sl_kernel_rfl

/-- The normalised rows a first point of a block of rows keeps. -/
theorem sout_A (hc0 : cond0_0 i) : sout0_A_0 (F := Ideal) c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2), piecesS_A, View.canon_unit_zero (funext hz2),
    View.readAt_eq_ld, View.readAt_eq_ld, harg2.read_unread, harg3.read_unread, View.ld_unit_zero (funext hz2), View.ld_unit_zero (funext hz2)]

/-- The block a first point of a block of rows leaves. -/
theorem out_A (hc0 : cond0_0 i) : out0_A_3 (F := Ideal) c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2), piecesO_A, View.canon_unit_zero (funext hz2),
    View.readCov_eq_canon_ld _ _ _ (fun y => ⟨_, List.mem_singleton_self _,
      View.mem_set_unit_zero (funext hz2) inb_S256x2048_S256x2048_0_0 y⟩), View.canon_unit_zero (funext hz2),
    View.readAt_eq_ld, View.readAt_eq_ld, View.readAt_eq_ld, harg2.read_unread, harg3.read_unread, harg4.read_unread,
    View.ld_unit_zero (funext hz2), View.ld_unit_zero (funext hz2), View.ld_unit_zero (funext hz2), View.ld_unit_zero (funext hz2)]

/-- The block a later point leaves, from the rows kept. -/
theorem out_B (hc0 : ¬cond0_0 i) : out0_B_3 (F := Ideal) c i arg2 harg2 arg3 harg3 arg4 harg4 arg5 harg5 arg6 harg6 hc0 x0 x1 x2 xs = k0_pay2 xs x2 := by
  unfold out0_B_3
  rw [View.read_writes_eq_canon _ _ _ (cover0_B_3 c i arg2 harg2 arg3 harg3 arg4 harg4 arg5 harg5 arg6 harg6 hc0 x0 x1 x2 xs), piecesO_B, View.canon_unit_zero (funext hz2),
    View.readAt_eq_ld, View.readAt_eq_ld, harg6.read_unread, harg4.read_unread, View.ld_unit_zero (funext hz2), View.ld_unit_zero (funext hz2)]
end

variable (m : (ℓ : Loc nD τ sig) → Buf (Elt Ideal) ℓ)

/-! ## The arrays the region reads -/

/-- The weights side by side, and the memory's rows one batch after another. -/
def wt (a b : FVec Ideal S2048x512 .f32) (k : Fin 2048) (n : Fin 1024) : EReal :=
  if h : n.val < 512 then a (ix2 k ⟨n.val, h⟩) else b (ix2 k ⟨n.val - 512, by omega⟩)
def ent (r : Fin 1024) : Fin 4 := ⟨r.val / 256, by omega⟩
def pos (r : Fin 1024) : Fin 256 := ⟨r.val % 256, by omega⟩

theorem V_v1 (c : Dev nD) (k : Fin 2048) (n : Fin 1024) : V m c main_v1 (ix2 k n)
    = wt (m ((c : Thread nD τ).loc main_arg2)) (m ((c : Thread nD τ).loc main_arg3)) k n := by
  unfold V hostOps0 wt
  after_results
  pointwise []
theorem V_v2 (c : Dev nD) (r : Fin 1024) (k : Fin 2048) : V m c main_v2 (ix2 r k) = m ((c : Thread nD τ).loc main_arg0) (ix3 (ent r) (pos r) k) := by
  unfold V hostOps0
  after_results
  pointwise []
  rfl
theorem V_v3 (c : Dev nD) (k : Fin 2048) : V m c main_v3 (ix2 0 k) = m ((c : Thread nD τ).loc main_arg1) (ix1 k) := by
  unfold V hostOps0
  after_results
  pointwise []

/-- Each window's place at a point: the block of rows changes every second point, the block of columns every point. -/
theorem idx : ∀ t : Fin grid0.N, (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2)
    ∧ (win0_3.index t (0 : Fin 2) = t.val / 2 ∧ win0_3.index t (1 : Fin 2) = t.val % 2) ∧ win0_3.flush t = true := by decide +kernel

/-- Row `r` of the block of rows of point `t`, and column `n` of its block of columns, in the arrays. -/
def gr (t : Fin cfg0.N) (r : Fin 256) : Fin 1024 :=
  ⟨256 * (t.val / 2) + r.val, by have := lt_of_lt_of_eq t.isLt (show cfg0.N = 8 from N_0); omega⟩
def gc (t : Fin cfg0.N) (n : Fin 512) : Fin 1024 := ⟨512 * (t.val % 2) + n.val, by omega⟩

theorem blk0 (c : Dev nD) (t : Fin cfg0.N) (r : Fin 256) (k : Fin 2048) :
    iblk m c 0 t (ix2 r k) = m ((c : Thread nD τ).loc main_arg0) (ix3 (ent (gr t r)) (pos (gr t r)) k) := by
  obtain ⟨⟨h0, h1⟩, -⟩ := idx t
  unfold iblk; rw [View.read_apply]
  show V m c main_v2 _ = _
  refine (congrArg (V m c main_v2) (?_ : _ = (ix2 (gr t r) k : S1024x2048.Idx))).trans (V_v2 m c _ _)
  funext x; apply Fin.ext
  match x with
  | ⟨0, _⟩ => show win0_0.index t (0 : Fin 2) * 256 + 1 * r.val = 256 * (t.val / 2) + r.val; rw [h0]; omega
  | ⟨1, _⟩ => show win0_0.index t (1 : Fin 2) * 2048 + 1 * k.val = k.val; rw [h1]; omega

theorem blk1 (c : Dev nD) (t : Fin cfg0.N) (k : Fin 2048) :
    iblk m c 1 t (ix2 0 k) = m ((c : Thread nD τ).loc main_arg1) (ix1 k) := by
  obtain ⟨-, ⟨h0, h1⟩, -⟩ := idx t
  unfold iblk; rw [View.read_apply]
  show V m c main_v3 _ = _
  refine (congrArg (V m c main_v3) (?_ : _ = (ix2 0 k : S1x2048.Idx))).trans (V_v3 m c _)
  funext x; apply Fin.ext
  match x with
  | ⟨0, _⟩ => show win0_1.index t (0 : Fin 2) * 1 + 1 * 0 = 0; rw [h0]
  | ⟨1, _⟩ => show win0_1.index t (1 : Fin 2) * 2048 + 1 * k.val = k.val; rw [h1]; omega

theorem blk2 (c : Dev nD) (t : Fin cfg0.N) (k : Fin 2048) (n : Fin 512) :
    iblk m c 2 t (ix2 k n) = wt (m ((c : Thread nD τ).loc main_arg2)) (m ((c : Thread nD τ).loc main_arg3)) k (gc t n) := by
  obtain ⟨-, -, ⟨h0, h1⟩, -⟩ := idx t
  unfold iblk; rw [View.read_apply]
  show V m c main_v1 _ = _
  refine (congrArg (V m c main_v1) (?_ : _ = (ix2 k (gc t n) : S2048x1024.Idx))).trans (V_v1 m c _ _)
  funext x; apply Fin.ext
  match x with
  | ⟨0, _⟩ => show win0_2.index t (0 : Fin 2) * 2048 + 1 * k.val = k.val; rw [h0]; omega
  | ⟨1, _⟩ => show win0_2.index t (1 : Fin 2) * 512 + 1 * n.val = 512 * (t.val % 2) + n.val; rw [h1]; omega

/-! ## The array -/

/-- The result as the reference writes it, of its four arguments. -/
def res (x : FVec Ideal S4x256x2048 .f32) (g : FVec Ideal S2048 .f32) (a b : FVec Ideal S2048x512 .f32) :
    FVec Ideal S1024x1024 .f32 := fun i =>
  ∑ k : Fin 2048, nrm (fun j => x (ix3 (ent (i 0)) (pos (i 0)) j)) (fun j => g (ix1 j)) k * wt a b k (i 1)

/-- The result of the arguments a device's memory holds. -/
def G (c : Dev nD) : FVec Ideal S1024x1024 .f32 :=
  res (m ((c : Thread nD τ).loc main_arg0)) (m ((c : Thread nD τ).loc main_arg1)) (m ((c : Thread nD τ).loc main_arg2))
    (m ((c : Thread nD τ).loc main_arg3))

/-- What the scratch holds after a point, at an index: the block's rows normalised. -/
theorem kept_at (c : Dev nD) (t : Fin cfg0.N) (h : t.val % 2 = 0) (r : Fin 256) (k : Fin 2048) :
    (outsAt0 m c t.val t.isLt).2 (ix2 r k) = nrm (fun j => m ((c : Thread nD τ).loc main_arg0) (ix3 (ent (gr t r)) (pos (gr t r)) j))
      (fun j => m ((c : Thread nD τ).loc main_arg1) (ix1 j)) k := by
  rw [outsAt0_A m c t h]; dsimp only
  rw [sout_A, pay1_at]
  simp only [blk0, blk1]

/-- What the output's buffer holds after a point, at an index. -/
theorem out_at (c : Dev nD) (t : Fin cfg0.N) (r : Fin 256) (n : Fin 512) :
    (outsAt0 m c t.val t.isLt).1 (ix2 r n) = G m c (ix2 (gr t r) (gc t n)) := by
  by_cases h : t.val % 2 = 0
  · rw [outsAt0_A m c t h]; dsimp only
    rw [out_A, pay2_at]
    simp only [pay1_at, blk0, blk1, blk2]
    rfl
  · rw [outsAt0_B m c t h]; dsimp only
    rw [out_B, pay2_at]
    have ht := lt_of_lt_of_eq t.isLt (show cfg0.N = 8 from N_0)
    obtain ⟨t', e⟩ : ∃ t' : Fin cfg0.N, t'.val = t.val - 1 := ⟨⟨t.val - 1, by omega⟩, rfl⟩
    have eg : gr t' r = gr t r := Fin.ext (by show 256 * (t'.val / 2) + r.val = 256 * (t.val / 2) + r.val; omega)
    have k := fun j => kept_at m c t' (by omega) r j
    simp only [e, eg] at k
    simp only [k, blk2]
    rfl

/-- What a point writes back is its block of the result. -/
theorem flushed_eq (c : Dev nD) (t : Fin cfg0.N) :
    (dats m 0 c).flushed 3 t = ((cfg0.win 3).blk t).view.read (Elt Ideal) (G m c) := by
  rw [Value.flushed3]
  obtain ⟨-, -, -, ⟨h0, h1⟩, -⟩ := idx t
  funext y
  obtain ⟨r, n, rfl⟩ : ∃ (r : Fin 256) (n : Fin 512), y = ix2 r n := ⟨y 0, y 1, eq_ix2 y⟩
  show (outsAt0 m c t.val t.isLt).1 (ix2 r n) = _
  rw [out_at, View.read_apply]
  refine congrArg (G m c) (?_ : (ix2 (gr t r) (gc t n) : S1024x1024.Idx) = _)
  funext x; apply Fin.ext
  match x with
  | ⟨0, _⟩ => show 256 * (t.val / 2) + r.val = win0_3.index t (0 : Fin 2) * 256 + 1 * r.val; rw [h0]; omega
  | ⟨1, _⟩ => show 512 * (t.val % 2) + n.val = win0_3.index t (1 : Fin 2) * 512 + 1 * n.val; rw [h1]; omega

/-- The blocks fill the array. -/
theorem cover (i : S1024x1024.Idx) : ∃ t : Fin cfg0.N, (cfg0.win 3).flush t = true ∧ i ∈ ((cfg0.win 3).blk t).view.set :=
  (Value.covered_iff3 i).mpr ⟨Nat.zero_le _, (i 0).isLt, Nat.zero_le _, (i 1).isLt⟩

/-- The array after the run. -/
theorem final (c : Dev nD) : (dats m 0 c).arrAt 3 cfg0.N = G m c :=
  (dats m 0 c).arrAt_eq_of_cover 3 (G m c) (fun t _ => flushed_eq m c t) cover

end Cert.Kernel2Ideal.Memory

namespace Cert.Reference2Ideal.Memory

open Idealize.ShloMosaic Idealize.SL.Sem Cert.Reference2Ideal Cert.Reference2Ideal.Gen Cert.Kernel2Ideal.Memory

/-- The rows normalised, as the reference writes them. -/
def rows (x : FVec Ideal S4x256x2048 .f32) (g : FVec Ideal S2048 .f32) : FVec Ideal S4x256x2048 .f32 :=
  mulf (mulf x (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf x x) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 g))

theorem rows_at (x : FVec Ideal S4x256x2048 .f32) (g : FVec Ideal S2048 .f32) (p : Fin 4) (q : Fin 256) (k : Fin 2048) :
    rows x g (ix3 p q k) = nrm (fun j => x (ix3 p q j)) (fun j => g (ix1 j)) k := by
  unfold nrm
  pointwise [rows]

/-- The reference's term is the same function. -/
theorem term_eq (x : FVec Ideal S4x256x2048 .f32) (g : FVec Ideal S2048 .f32) (a b : FVec Ideal S2048x512 .f32) :
    shapeCast S1024x1024 (concatenate S4x256x1024 2 [⟨S4x256x512, (Host.dotGeneral dot_S4x256x2048_S2048x512_S4x256x512_2_0_01_1_n_n none (rows x g) a)⟩,
      ⟨S4x256x512, (Host.dotGeneral dot_S4x256x2048_S2048x512_S4x256x512_2_0_01_1_n_n none (rows x g) b)⟩] concatenates_S4x256x512_S4x256x512_S4x256x1024_d2) shapeCasts_S4x256x1024_S1024x1024
      = res x g a b := by
  funext y
  obtain ⟨r, n, rfl⟩ : ∃ (r : Fin 1024) (n : Fin 1024), y = ix2 r n := ⟨y 0, y 1, eq_ix2 y⟩
  unfold res
  pointwise [rows_at]
  unfold wt
  split <;> rfl

end Cert.Reference2Ideal.Memory
end
-- ==== Proof.Residual.lean ====
/-
  The output projection: what the call leaves in its result is the residual plus the product of the two halves of the
  concatenated rows with the two halves of the weight, index by index.
-/
module

public import proofs.«01_k».proof.Proof.Memory
public import proofs.«01_k».proof.Proof.Gen.Kernel3Ideal.Value
public import proofs.«01_k».proof.Proof.Gen.Reference3Ideal.Run
public import Idealize.ShloMosaic.Lib.Pointwise
public import Idealize.ShloMosaic.Lib.Writes
public import Idealize.ShloMosaic.Lib.Pipeline.ValueKit

@[expose] public section

set_option maxRecDepth 65536

noncomputable section

namespace Cert.Kernel3Ideal.Residual

open Idealize.ShloMosaic Idealize.ShloMosaic.TcCoe Idealize.SL.Sem Cert.Kernel3Ideal Cert.Kernel3Ideal.Gen
open Idealize.ShloMosaic.Pipeline (Dat)
open Cert.Kernel2Ideal.Memory (hz2)

/-! ## One block -/

/-- What the body stores at an index, of the blocks it reads. -/
theorem out_at (x0 : Vec Ideal S512x2048 .f32) (x1 x2 : Vec Ideal S512x1024 .bf16) (x3 : Vec Ideal S2048x2048 .bf16)
    (r : Fin 512) (n : Fin 2048) :
    out0_4 x0 x1 x2 x3 (ix2 r n) = x0 (ix2 r n)
      + ((∑ k : Fin 1024, x1 (ix2 r k) * x3 (ix2 (⟨k.val, by omega⟩ : Fin 2048) n))
        + ∑ k : Fin 1024, x2 (ix2 r k) * x3 (ix2 (⟨1024 + k.val, by omega⟩ : Fin 2048) n)) := by
  have e : ∀ k : Fin 1024, View.ld x3 r0_2 (ix2 k n) = x3 (ix2 (⟨k.val, by omega⟩ : Fin 2048) n) := fun k =>
    congrArg x3 (funext fun a => Fin.ext (by
      match a with
      | ⟨0, _⟩ => show 0 + 1 * k.val = k.val; omega
      | ⟨1, _⟩ => show 0 + 1 * n.val = n.val; omega))
  have e' : ∀ k : Fin 1024, View.ld x3 r0_3 (ix2 k n) = x3 (ix2 (⟨1024 + k.val, by omega⟩ : Fin 2048) n) := fun k =>
    congrArg x3 (funext fun a => Fin.ext (by
      match a with
      | ⟨0, _⟩ => show 1024 + 1 * k.val = 1024 + k.val; omega
      | ⟨1, _⟩ => show 0 + 1 * n.val = n.val; omega))
  unfold out0_4
  rw [View.canon_unit_zero (funext hz2), View.ld_unit_zero (funext hz2), View.ld_unit_zero (funext hz2),
    View.ld_unit_zero (funext hz2)]
  pointwise [k0_pay1]

variable (m : (ℓ : Loc nD τ sig) → Buf (Elt Ideal) ℓ)

/-! ## The arrays the region reads -/

theorem V_v0 (c : Dev nD) (i : S8192x1024.Idx) : V m c main_v0 i = m ((c : Thread nD τ).loc main_arg1) i := by
  unfold V hostOps0
  after_results
  rfl
theorem V_v1 (c : Dev nD) (i : S8192x1024.Idx) : V m c main_v1 i = m ((c : Thread nD τ).loc main_arg2) i := by
  unfold V hostOps0
  after_results
  rfl
theorem V_v2 (c : Dev nD) (i : S2048x2048.Idx) : V m c main_v2 i = m ((c : Thread nD τ).loc main_arg3) i := by
  unfold V hostOps0
  after_results
  rfl

/-- Each window's place at a point: the rows' block is the point's, the weight is whole. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) ∧ win0_4.flush t = true := by decide +kernel

/-- Row `r` of the block of point `t`, in the array. -/
def gr (t : Fin cfg0.N) (r : Fin 512) : Fin 8192 :=
  ⟨512 * t.val + r.val, by have := lt_of_lt_of_eq t.isLt (show cfg0.N = 16 from N_0); omega⟩

theorem blk0 (c : Dev nD) (t : Fin cfg0.N) (r : Fin 512) (n : Fin 2048) :
    iblk m c 0 t (ix2 r n) = m ((c : Thread nD τ).loc main_arg0) (ix2 (gr t r) n) := by
  obtain ⟨⟨h0, h1⟩, -⟩ := idx t
  unfold iblk; rw [View.read_apply]
  show V m c main_arg0 _ = _
  rw [V_main_arg0]
  refine congrArg (m ((c : Thread nD τ).loc main_arg0)) (?_ : _ = (ix2 (gr t r) n : S8192x2048.Idx))
  funext x; apply Fin.ext
  match x with
  | ⟨0, _⟩ => show win0_0.index t (0 : Fin 2) * 512 + 1 * r.val = 512 * t.val + r.val; rw [h0]; omega
  | ⟨1, _⟩ => show win0_0.index t (1 : Fin 2) * 2048 + 1 * n.val = n.val; rw [h1]; omega

theorem blk1 (c : Dev nD) (t : Fin cfg0.N) (r : Fin 512) (n : Fin 1024) :
    iblk m c 1 t (ix2 r n) = m ((c : Thread nD τ).loc main_arg1) (ix2 (gr t r) n) := by
  obtain ⟨-, ⟨h0, h1⟩, -⟩ := idx t
  unfold iblk; rw [View.read_apply]
  show V m c main_v0 _ = _
  refine (congrArg (V m c main_v0) (?_ : _ = (ix2 (gr t r) n : S8192x1024.Idx))).trans (V_v0 m c _)
  funext x; apply Fin.ext
  match x with
  | ⟨0, _⟩ => show win0_1.index t (0 : Fin 2) * 512 + 1 * r.val = 512 * t.val + r.val; rw [h0]; omega
  | ⟨1, _⟩ => show win0_1.index t (1 : Fin 2) * 1024 + 1 * n.val = n.val; rw [h1]; omega

theorem blk2 (c : Dev nD) (t : Fin cfg0.N) (r : Fin 512) (n : Fin 1024) :
    iblk m c 2 t (ix2 r n) = m ((c : Thread nD τ).loc main_arg2) (ix2 (gr t r) n) := by
  obtain ⟨-, -, ⟨h0, h1⟩, -⟩ := idx t
  unfold iblk; rw [View.read_apply]
  show V m c main_v1 _ = _
  refine (congrArg (V m c main_v1) (?_ : _ = (ix2 (gr t r) n : S8192x1024.Idx))).trans (V_v1 m c _)
  funext x; apply Fin.ext
  match x with
  | ⟨0, _⟩ => show win0_2.index t (0 : Fin 2) * 512 + 1 * r.val = 512 * t.val + r.val; rw [h0]; omega
  | ⟨1, _⟩ => show win0_2.index t (1 : Fin 2) * 1024 + 1 * n.val = n.val; rw [h1]; omega

theorem blk3 (c : Dev nD) (t : Fin cfg0.N) (k n : Fin 2048) :
    iblk m c 3 t (ix2 k n) = m ((c : Thread nD τ).loc main_arg3) (ix2 k n) := by
  obtain ⟨-, -, -, ⟨h0, h1⟩, -⟩ := idx t
  unfold iblk; rw [View.read_apply]
  show V m c main_v2 _ = _
  refine (congrArg (V m c main_v2) (?_ : _ = (ix2 k n : S2048x2048.Idx))).trans (V_v2 m c _)
  funext x; apply Fin.ext
  match x with
  | ⟨0, _⟩ => show win0_3.index t (0 : Fin 2) * 2048 + 1 * k.val = k.val; rw [h0]; omega
  | ⟨1, _⟩ => show win0_3.index t (1 : Fin 2) * 2048 + 1 * n.val = n.val; rw [h1]; omega

/-! ## The array -/

/-- The result as the reference writes it, of its four arguments. -/
def res (x : FVec Ideal S8192x2048 .f32) (a b : FVec Ideal S8192x1024 .f32) (w : FVec Ideal S2048x2048 .f32) :
    FVec Ideal S8192x2048 .f32 := fun i => x i
      + ((∑ k : Fin 1024, a (ix2 (i 0) k) * w (ix2 (⟨k.val, by omega⟩ : Fin 2048) (i 1)))
        + ∑ k : Fin 1024, b (ix2 (i 0) k) * w (ix2 (⟨1024 + k.val, by omega⟩ : Fin 2048) (i 1)))

/-- The result of the arguments a device's memory holds. -/
def G (c : Dev nD) : FVec Ideal S8192x2048 .f32 :=
  res (m ((c : Thread nD τ).loc main_arg0)) (m ((c : Thread nD τ).loc main_arg1)) (m ((c : Thread nD τ).loc main_arg2))
    (m ((c : Thread nD τ).loc main_arg3))

/-- What a point writes back is its block of the result. -/
theorem flushed_eq (c : Dev nD) (t : Fin cfg0.N) :
    (dats m 0 c).flushed 4 t = ((cfg0.win 4).blk t).view.read (Elt Ideal) (G m c) := by
  rw [Value.flushed4]
  obtain ⟨-, -, -, -, ⟨h0, h1⟩, -⟩ := idx t
  funext y
  obtain ⟨r, n, rfl⟩ : ∃ (r : Fin 512) (n : Fin 2048), y = ix2 r n := ⟨y 0, y 1, eq_ix2 y⟩
  show out0_4 (iblk m c 0 t) (iblk m c 1 t) (iblk m c 2 t) (iblk m c 3 t) (ix2 r n) = _
  rw [out_at, View.read_apply]
  refine Eq.trans ?_ (congrArg (G m c) (?_ : (ix2 (gr t r) n : S8192x2048.Idx) = _))
  · simp only [blk0, blk1, blk2, blk3]; rfl
  · funext x; apply Fin.ext
    match x with
    | ⟨0, _⟩ => show 512 * t.val + r.val = win0_4.index t (0 : Fin 2) * 512 + 1 * r.val; rw [h0]; omega
    | ⟨1, _⟩ => show n.val = win0_4.index t (1 : Fin 2) * 2048 + 1 * n.val; rw [h1]; omega

/-- An index of the array is in a point's block when each coordinate is in the block's range. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v3).slice (win0_4.rect t)).set ↔ _
  rw [View.set_slice_whole, Rect.mem_set_unit]
  exact Iff.rfl

/-- The sixteen blocks fill the array. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ : ∃ t : Fin cfg0.N, t.val = (i 0).val / 512 := ⟨⟨(i 0).val / 512, lt_of_lt_of_eq (by omega) N_0.symm⟩, rfl⟩
  obtain ⟨-, -, -, -, ⟨h0, h1⟩, hf⟩ := idx t
  refine ⟨t, hf, (mem_blk t i).mpr fun a => ?_⟩
  match a with
  | ⟨0, _⟩ =>
    show win0_4.index t (0 : Fin 2) * 512 ≤ (i 0).val ∧ (i 0).val < win0_4.index t (0 : Fin 2) * 512 + 512
    rw [h0]; omega
  | ⟨1, _⟩ =>
    show win0_4.index t (1 : Fin 2) * 2048 ≤ (i 1).val ∧ (i 1).val < win0_4.index t (1 : Fin 2) * 2048 + 2048
    rw [h1]; omega

/-- The array after the run. -/
theorem final (c : Dev nD) : (dats m 0 c).arrAt 4 cfg0.N = G m c :=
  (dats m 0 c).arrAt_eq_of_cover 4 (G m c) (fun t _ => flushed_eq m c t) cover

end Cert.Kernel3Ideal.Residual

namespace Cert.Reference3Ideal.Residual

open Idealize.ShloMosaic Idealize.SL.Sem Cert.Reference3Ideal Cert.Reference3Ideal.Gen

/-- The reference's term is the same function: the sum over the concatenated row is the sum over its two halves. -/
theorem term_eq (x : FVec Ideal S8192x2048 .f32) (a b : FVec Ideal S8192x1024 .f32) (w : FVec Ideal S2048x2048 .f32) :
    addf x (Host.dotGeneral dot_S8192x2048_S2048x2048_S8192x2048_1_0_0_1_n_n none
      (concatenate S8192x2048 1 [⟨S8192x1024, a⟩, ⟨S8192x1024, b⟩] concatenates_S8192x1024_S8192x1024_S8192x2048_d1) w)
      = Cert.Kernel3Ideal.Residual.res x a b w := by
  funext y
  obtain ⟨r, n, rfl⟩ : ∃ (r : Fin 8192) (n : Fin 2048), y = ix2 r n := ⟨y 0, y 1, eq_ix2 y⟩
  unfold Cert.Kernel3Ideal.Residual.res
  pointwise []

end Cert.Reference3Ideal.Residual

end
-- ==== Proof.Cross.lean ====
/-
  The cross attention to the memory: what the call leaves in its result is the residual plus the heads' attention times the
  output weight, index by index.
-/
module

public import proofs.«01_k».proof.Proof.Memory
public import proofs.«01_k».proof.Proof.Gen.Kernel4Ideal.Value
public import proofs.«01_k».proof.Proof.Gen.Reference4Ideal.Run

@[expose] public section

set_option maxRecDepth 65536

noncomputable section

namespace Cert.Kernel4Ideal.Cross

open Idealize.ShloMosaic Idealize.ShloMosaic.TcCoe Idealize.SL.Sem Cert.Kernel4Ideal Cert.Kernel4Ideal.Gen
open Idealize.ShloMosaic.Pipeline (Dat)
open Cert.Kernel2Ideal.Memory (nrm hz2)

/-! ## One head -/

/-- A query's scaled products with the keys, their largest, the exponentials, the weights, and the weighted values. -/
def lgt (q : Fin 128 → EReal) (K : Fin 256 → Fin 128 → EReal) (j : Fin 256) : EReal :=
  (∑ k, q k * K j k) * Ideal.ofBits FTy.f32 0x3DB504F3#32
def top (q : Fin 128 → EReal) (K : Fin 256 → Fin 128 → EReal) : EReal :=
  Finset.univ.fold max (Ideal.ofBits FTy.f32 0xFF800000#32) (lgt q K)
def ew (q : Fin 128 → EReal) (K : Fin 256 → Fin 128 → EReal) (j : Fin 256) : EReal := Ideal.exp (lgt q K j - top q K)
def pw (q : Fin 128 → EReal) (K : Fin 256 → Fin 128 → EReal) (j : Fin 256) : EReal := Ideal.div (ew q K j) (∑ i, ew q K i)
def att (q : Fin 128 → EReal) (K V : Fin 256 → Fin 128 → EReal) (d : Fin 128) : EReal := ∑ j, pw q K j * V j d

/-- The query of a row, column by column. -/
def qry (x g : Fin 2048 → EReal) (w : Fin 2048 → Fin 512 → EReal) (c : Fin 512) : EReal := ∑ k, nrm x g k * w k c

/-- Column `k` of head `h`. -/
def hc (h : Fin 4) (k : Fin 128) : Fin 512 := ⟨128 * h.val + k.val, by omega⟩

/-! ## The payloads -/

theorem pay2_at (x : Vec Ideal S512x2048 .f32) (g : Vec Ideal S1x2048 .f32) (w : Vec Ideal S2048x512 .bf16) (r c : Fin 512) :
    k0_pay2 x g w (ix2 r c) = qry (fun k => x (ix2 r k)) (fun k => g (ix2 0 k)) (fun k c => w (ix2 k c)) c := by
  unfold qry nrm
  pointwise [k0_pay2]

theorem hc_zero (k : Fin 128) : hc 0 k = ⟨k.val, by omega⟩ := Fin.ext (by show 128 * 0 + k.val = k.val; omega)

theorem pay4_at (x : Vec Ideal S512x2048 .f32) (g : Vec Ideal S1x2048 .f32) (w : Vec Ideal S2048x512 .bf16)
    (K : Vec Ideal S1x256x128 .f32) (r : Fin 512) (j : Fin 256) :
    k0_pay4 x g w K (ix2 r j) = pw (fun k => k0_pay2 x g w (ix2 r (hc 0 k))) (fun j k => K (ix3 0 j k)) j := by
  generalize hq : k0_pay2 x g w = q
  unfold pw ew top lgt
  unfold k0_pay4
  rw [hq]
  simp only [hc_zero]
  pointwise []

theorem pay5_at (V : FVec Ideal S256x128 .f32) (p : FVec Ideal S512x256 .bf16) (r : Fin 512) (d : Fin 128) :
    k0_pay5 V p (ix2 r d) = ∑ j : Fin 256, p (ix2 r j) * V (ix2 j d) := by
  pointwise [k0_pay5]

theorem pay3_at (V : Vec Ideal S1x256x128 .f32) (j : Fin 256) (d : Fin 128) : k0_pay3 V (ix2 j d) = V (ix3 0 j d) := by
  pointwise [k0_pay3]

theorem pay6_at (q : FVec Ideal S512x512 .bf16) (K V : Vec Ideal S1x256x128 .f32) (r : Fin 512) (d : Fin 128) :
    k0_pay6 q K V (ix2 r d) = att (fun k => q (ix2 r (hc 1 k))) (fun j k => K (ix3 0 j k)) (fun j k => V (ix3 0 j k)) d := by
  unfold att pw ew top lgt
  pointwise [k0_pay6]
  rfl

theorem pay7_at (q : FVec Ideal S512x512 .bf16) (K : Vec Ideal S1x256x128 .f32) (r : Fin 512) (j : Fin 256) :
    k0_pay7 q K (ix2 r j) = pw (fun k => q (ix2 r (hc 2 k))) (fun j k => K (ix3 0 j k)) j := by
  unfold pw ew top lgt
  pointwise [k0_pay7]
  rfl

/-- The four heads' columns side by side, as the last payload has them. -/
def heads (o0 o1 o2 o3 : Fin 128 → EReal) (c : Fin 512) : EReal :=
  if h : c.val < 128 then o0 ⟨c.val, h⟩ else if h : c.val - 128 < 128 then o1 ⟨c.val - 128, h⟩
  else if h : c.val - 128 - 128 < 128 then o2 ⟨c.val - 128 - 128, h⟩ else o3 ⟨c.val - 128 - 128 - 128, by omega⟩

theorem pay1_at (x : Vec Ideal S512x2048 .f32) (q : FVec Ideal S512x512 .bf16) (o0 o1 : FVec Ideal S512x128 .f32)
    (p : FVec Ideal S512x256 .f32) (V2 K3 V3 : Vec Ideal S1x256x128 .f32) (wo : Vec Ideal S512x2048 .bf16) (r : Fin 512) (n : Fin 2048) :
    k0_pay1 x q o0 o1 p V2 K3 V3 wo (ix2 r n) = x (ix2 r n) + ∑ c, heads (fun d => o0 (ix2 r d)) (fun d => o1 (ix2 r d))
      (fun d => ∑ j : Fin 256, p (ix2 r j) * V2 (ix3 0 j d))
      (fun d => att (fun k => q (ix2 r (hc 3 k))) (fun j k => K3 (ix3 0 j k)) (fun j k => V3 (ix3 0 j k)) d) c * wo (ix2 c n) := by
  unfold heads att pw ew top lgt
  pointwise [k0_pay1]
  rfl

/-- Column `c` is column `dm c` of head `hd c`. -/
def hd (c : Fin 512) : Fin 4 := ⟨c.val / 128, by omega⟩
def dm (c : Fin 512) : Fin 128 := ⟨c.val % 128, by omega⟩

/-- What the heads give a row with queries `q`. -/
def ctx (q : Fin 512 → EReal) (K V : Fin 256 → Fin 512 → EReal) (c : Fin 512) : EReal :=
  att (fun k => q (hc (hd c) k)) (fun j k => K j (hc (hd c) k)) (fun j k => V j (hc (hd c) k)) (dm c)

theorem heads_eq (o : Fin 4 → Fin 128 → EReal) (c : Fin 512) : heads (o 0) (o 1) (o 2) (o 3) c = o (hd c) (dm c) := by
  unfold heads
  split
  · rw [show hd c = 0 from Fin.ext (by show c.val / 128 = 0; omega)]
    exact congrArg (o 0) (Fin.ext (by show c.val = c.val % 128; omega))
  · split
    · rw [show hd c = 1 from Fin.ext (by show c.val / 128 = 1; omega)]
      exact congrArg (o 1) (Fin.ext (by show c.val - 128 = c.val % 128; omega))
    · split
      · rw [show hd c = 2 from Fin.ext (by show c.val / 128 = 2; omega)]
        exact congrArg (o 2) (Fin.ext (by show c.val - 128 - 128 = c.val % 128; omega))
      · rw [show hd c = 3 from Fin.ext (by show c.val / 128 = 3; omega)]
        exact congrArg (o 3) (Fin.ext (by show c.val - 128 - 128 - 128 = c.val % 128; omega))

/-- An entry of the result, from the row of the input, the gain, the weights, and the keys and values of the row's batch. -/
def ent (x g : Fin 2048 → EReal) (w : Fin 2048 → Fin 512 → EReal) (K V : Fin 256 → Fin 512 → EReal) (wo : Fin 512 → Fin 2048 → EReal)
    (n : Fin 2048) : EReal :=
  x n + ∑ c, ctx (qry x g w) K V c * wo c n

/-! ## The columns of a head -/

theorem col_0 (K : Vec Ideal S1x256x512 .f32) (j : Fin 256) (k : Fin 128) : View.ld K r0_3 (ix3 0 j k) = K (ix3 0 j (hc 0 k)) :=
  congrArg K (funext fun a => Fin.ext (by
    match a with
    | ⟨0, _⟩ => rfl
    | ⟨1, _⟩ => show 0 + 1 * j.val = j.val; omega
    | ⟨2, _⟩ => show 0 + 1 * k.val = 128 * 0 + k.val; omega))

theorem col_1 (K : Vec Ideal S1x256x512 .f32) (j : Fin 256) (k : Fin 128) : View.ld K r0_4 (ix3 0 j k) = K (ix3 0 j (hc 1 k)) :=
  congrArg K (funext fun a => Fin.ext (by
    match a with
    | ⟨0, _⟩ => rfl
    | ⟨1, _⟩ => show 0 + 1 * j.val = j.val; omega
    | ⟨2, _⟩ => show 128 + 1 * k.val = 128 * 1 + k.val; omega))

theorem col_2 (K : Vec Ideal S1x256x512 .f32) (j : Fin 256) (k : Fin 128) : View.ld K r0_5 (ix3 0 j k) = K (ix3 0 j (hc 2 k)) :=
  congrArg K (funext fun a => Fin.ext (by
    match a with
    | ⟨0, _⟩ => rfl
    | ⟨1, _⟩ => show 0 + 1 * j.val = j.val; omega
    | ⟨2, _⟩ => show 256 + 1 * k.val = 128 * 2 + k.val; omega))

theorem col_3 (K : Vec Ideal S1x256x512 .f32) (j : Fin 256) (k : Fin 128) : View.ld K r0_6 (ix3 0 j k) = K (ix3 0 j (hc 3 k)) :=
  congrArg K (funext fun a => Fin.ext (by
    match a with
    | ⟨0, _⟩ => rfl
    | ⟨1, _⟩ => show 0 + 1 * j.val = j.val; omega
    | ⟨2, _⟩ => show 384 + 1 * k.val = 128 * 3 + k.val; omega))

theorem pw_congr {q q' : Fin 128 → EReal} {K K' : Fin 256 → Fin 128 → EReal} (hq : ∀ k, q k = q' k) (hK : ∀ j k, K j k = K' j k)
    (j : Fin 256) : pw q K j = pw q' K' j := by
  rw [funext hq, funext fun j => funext (hK j)]

theorem att_congr {q q' : Fin 128 → EReal} {K K' V V' : Fin 256 → Fin 128 → EReal} (hq : ∀ k, q k = q' k) (hK : ∀ j k, K j k = K' j k)
    (hV : ∀ j k, V j k = V' j k) (d : Fin 128) : att q K V d = att q' K' V' d := by
  rw [funext hq, funext fun j => funext (hK j), funext fun j => funext (hV j)]

/-- What the body stores at an index, of the blocks it reads. -/
theorem out_at (x0 : Vec Ideal S512x2048 .f32) (x1 : Vec Ideal S1x2048 .f32) (x2 : Vec Ideal S2048x512 .bf16)
    (x3 x4 : Vec Ideal S1x256x512 .f32) (x5 : Vec Ideal S512x2048 .bf16) (r : Fin 512) (n : Fin 2048) :
    out0_6 x0 x1 x2 x3 x4 x5 (ix2 r n) = ent (fun k => x0 (ix2 r k)) (fun k => x1 (ix2 0 k)) (fun k c => x2 (ix2 k c))
      (fun j c => x3 (ix3 0 j c)) (fun j c => x4 (ix3 0 j c)) (fun c n => x5 (ix2 c n)) n := by
  unfold out0_6 k0_pay8
  rw [View.canon_unit_zero (funext hz2), View.ld_unit_zero (funext hz2), View.ld_unit_zero (funext hz2), View.ld_unit_zero (funext hz2),
    View.ld_unit_zero (funext hz2)]
  have hq : ∀ c : Fin 512, k0_pay2 x0 x1 x2 (ix2 r c)
      = qry (fun k => x0 (ix2 r k)) (fun k => x1 (ix2 0 k)) (fun k c => x2 (ix2 k c)) c := fun c => pay2_at x0 x1 x2 r c
  have h4 : ∀ j : Fin 256, k0_pay4 x0 x1 x2 (View.ld x3 r0_3) (ix2 r j)
      = pw (fun k => k0_pay2 x0 x1 x2 (ix2 r (hc 0 k))) (fun j k => View.ld x3 r0_3 (ix3 0 j k)) j :=
    fun j => pay4_at x0 x1 x2 (View.ld x3 r0_3) r j
  generalize k0_pay2 x0 x1 x2 = q at hq h4 ⊢
  rw [pay1_at]
  unfold ent
  refine congrArg (x0 (ix2 r n) + ·) (Finset.sum_congr rfl fun c _ => congrArg (· * x5 (ix2 c n)) ?_)
  refine Eq.trans ?_ (heads_eq (fun h d => att (fun k => qry (fun k => x0 (ix2 r k)) (fun k => x1 (ix2 0 k)) (fun k c => x2 (ix2 k c)) (hc h k))
    (fun j k => x3 (ix3 0 j (hc h k))) (fun j k => x4 (ix3 0 j (hc h k))) d) c)
  congr 1
  · funext d
    refine (pay5_at _ _ r d).trans (Finset.sum_congr rfl fun j _ => ?_)
    rw [h4, pay3_at, col_0, pw_congr (fun k => hq _) (fun j k => col_0 x3 j k)]
  · funext d
    exact (pay6_at _ _ _ r d).trans (att_congr (fun k => hq _) (fun j k => col_1 x3 j k) (fun j k => col_1 x4 j k) d)
  · funext d
    refine Finset.sum_congr rfl fun j _ => ?_
    rw [pay7_at, col_2, pw_congr (fun k => hq _) (fun j k => col_2 x3 j k)]
  · funext d
    exact att_congr (fun k => hq _) (fun j k => col_3 x3 j k) (fun j k => col_3 x4 j k) d

variable (m : (ℓ : Loc nD τ sig) → Buf (Elt Ideal) ℓ)

/-! ## The arrays the region reads -/

theorem V_v0 (c : Dev nD) (i : S2048x512.Idx) : V m c main_v0 i = m ((c : Thread nD τ).loc main_arg2) i := by
  unfold V hostOps0
  after_results
  rfl
theorem V_v1 (c : Dev nD) (i : S512x2048.Idx) : V m c main_v1 i = m ((c : Thread nD τ).loc main_arg5) i := by
  unfold V hostOps0
  after_results
  rfl
theorem V_v2 (c : Dev nD) (k : Fin 2048) : V m c main_v2 (ix2 0 k) = m ((c : Thread nD τ).loc main_arg1) (ix1 k) := by
  unfold V hostOps0
  after_results
  pointwise []

/-- Each window's place at a point: the rows' block is the point's, the memory's block its batch's, the others are whole. -/
theorem idx : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = t.val ∧ win0_6.index t (1 : Fin 2) = 0) ∧ win0_6.flush t = true := by decide +kernel

/-- Row `r` of the block of point `t`, in the array; the batch of a row, and its place in it. -/
def gr (t : Fin cfg0.N) (r : Fin 512) : Fin 8192 :=
  ⟨512 * t.val + r.val, by have := lt_of_lt_of_eq t.isLt (show cfg0.N = 16 from N_0); omega⟩
def bat (r : Fin 8192) : Fin 4 := ⟨r.val / 2048, by omega⟩
def pos (r : Fin 8192) : Fin 2048 := ⟨r.val % 2048, by omega⟩

theorem blk0 (c : Dev nD) (t : Fin cfg0.N) (r : Fin 512) (n : Fin 2048) :
    iblk m c 0 t (ix2 r n) = m ((c : Thread nD τ).loc main_arg0) (ix2 (gr t r) n) := by
  obtain ⟨⟨h0, h1⟩, -⟩ := idx t
  unfold iblk; rw [View.read_apply]
  show V m c main_arg0 _ = _
  rw [V_main_arg0]
  refine congrArg (m ((c : Thread nD τ).loc main_arg0)) (?_ : _ = (ix2 (gr t r) n : S8192x2048.Idx))
  funext x; apply Fin.ext
  match x with
  | ⟨0, _⟩ => show win0_0.index t (0 : Fin 2) * 512 + 1 * r.val = 512 * t.val + r.val; rw [h0]; omega
  | ⟨1, _⟩ => show win0_0.index t (1 : Fin 2) * 2048 + 1 * n.val = n.val; rw [h1]; omega

theorem blk1 (c : Dev nD) (t : Fin cfg0.N) (k : Fin 2048) :
    iblk m c 1 t (ix2 0 k) = m ((c : Thread nD τ).loc main_arg1) (ix1 k) := by
  obtain ⟨-, ⟨h0, h1⟩, -⟩ := idx t
  unfold iblk; rw [View.read_apply]
  show V m c main_v2 _ = _
  refine (congrArg (V m c main_v2) (?_ : _ = (ix2 0 k : S1x2048.Idx))).trans (V_v2 m c _)
  funext x; apply Fin.ext
  match x with
  | ⟨0, _⟩ => show win0_1.index t (0 : Fin 2) * 1 + 1 * 0 = 0; rw [h0]
  | ⟨1, _⟩ => show win0_1.index t (1 : Fin 2) * 2048 + 1 * k.val = k.val; rw [h1]; omega

theorem blk2 (c : Dev nD) (t : Fin cfg0.N) (k : Fin 2048) (n : Fin 512) :
    iblk m c 2 t (ix2 k n) = m ((c : Thread nD τ).loc main_arg2) (ix2 k n) := by
  obtain ⟨-, -, ⟨h0, h1⟩, -⟩ := idx t
  unfold iblk; rw [View.read_apply]
  show V m c main_v0 _ = _
  refine (congrArg (V m c main_v0) (?_ : _ = (ix2 k n : S2048x512.Idx))).trans (V_v0 m c _)
  funext x; apply Fin.ext
  match x with
  | ⟨0, _⟩ => show win0_2.index t (0 : Fin 2) * 2048 + 1 * k.val = k.val; rw [h0]; omega
  | ⟨1, _⟩ => show win0_2.index t (1 : Fin 2) * 512 + 1 * n.val = n.val; rw [h1]; omega

theorem blk3 (c : Dev nD) (t : Fin cfg0.N) (r : Fin 512) (j : Fin 256) (n : Fin 512) :
    iblk m c 3 t (ix3 0 j n) = m ((c : Thread nD τ).loc main_arg3) (ix3 (bat (gr t r)) j n) := by
  obtain ⟨-, -, -, ⟨h0, h1, h2⟩, -⟩ := idx t
  unfold iblk; rw [View.read_apply]
  show V m c main_arg3 _ = _
  rw [V_main_arg3]
  refine congrArg (m ((c : Thread nD τ).loc main_arg3)) (?_ : _ = (ix3 (bat (gr t r)) j n : S4x256x512.Idx))
  funext x; apply Fin.ext
  match x with
  | ⟨0, _⟩ => show win0_3.index t (0 : Fin 3) * 1 + 1 * 0 = (512 * t.val + r.val) / 2048; rw [h0]; omega
  | ⟨1, _⟩ => show win0_3.index t (1 : Fin 3) * 256 + 1 * j.val = j.val; rw [h1]; omega
  | ⟨2, _⟩ => show win0_3.index t (2 : Fin 3) * 512 + 1 * n.val = n.val; rw [h2]; omega

theorem blk4 (c : Dev nD) (t : Fin cfg0.N) (r : Fin 512) (j : Fin 256) (n : Fin 512) :
    iblk m c 4 t (ix3 0 j n) = m ((c : Thread nD τ).loc main_arg4) (ix3 (bat (gr t r)) j n) := by
  obtain ⟨-, -, -, -, ⟨h0, h1, h2⟩, -⟩ := idx t
  unfold iblk; rw [View.read_apply]
  show V m c main_arg4 _ = _
  rw [V_main_arg4]
  refine congrArg (m ((c : Thread nD τ).loc main_arg4)) (?_ : _ = (ix3 (bat (gr t r)) j n : S4x256x512.Idx))
  funext x; apply Fin.ext
  match x with
  | ⟨0, _⟩ => show win0_4.index t (0 : Fin 3) * 1 + 1 * 0 = (512 * t.val + r.val) / 2048; rw [h0]; omega
  | ⟨1, _⟩ => show win0_4.index t (1 : Fin 3) * 256 + 1 * j.val = j.val; rw [h1]; omega
  | ⟨2, _⟩ => show win0_4.index t (2 : Fin 3) * 512 + 1 * n.val = n.val; rw [h2]; omega

theorem blk5 (c : Dev nD) (t : Fin cfg0.N) (k : Fin 512) (n : Fin 2048) :
    iblk m c 5 t (ix2 k n) = m ((c : Thread nD τ).loc main_arg5) (ix2 k n) := by
  obtain ⟨-, -, -, -, -, ⟨h0, h1⟩, -⟩ := idx t
  unfold iblk; rw [View.read_apply]
  show V m c main_v1 _ = _
  refine (congrArg (V m c main_v1) (?_ : _ = (ix2 k n : S512x2048.Idx))).trans (V_v1 m c _)
  funext x; apply Fin.ext
  match x with
  | ⟨0, _⟩ => show win0_5.index t (0 : Fin 2) * 512 + 1 * k.val = k.val; rw [h0]; omega
  | ⟨1, _⟩ => show win0_5.index t (1 : Fin 2) * 2048 + 1 * n.val = n.val; rw [h1]; omega

/-! ## The array -/

/-- The result of its six arguments. -/
def res (x : FVec Ideal S8192x2048 .f32) (g : FVec Ideal S2048 .f32) (w : FVec Ideal S2048x512 .f32) (K V : FVec Ideal S4x256x512 .f32)
    (wo : FVec Ideal S512x2048 .f32) : FVec Ideal S8192x2048 .f32 := fun i =>
  ent (fun k => x (ix2 (i 0) k)) (fun k => g (ix1 k)) (fun k c => w (ix2 k c)) (fun j c => K (ix3 (bat (i 0)) j c))
    (fun j c => V (ix3 (bat (i 0)) j c)) (fun c n => wo (ix2 c n)) (i 1)

/-- The result of the arguments a device's memory holds. -/
def G (c : Dev nD) : FVec Ideal S8192x2048 .f32 :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a point writes back is its block of the result. -/
theorem flushed_eq (c : Dev nD) (t : Fin cfg0.N) :
    (dats m 0 c).flushed 6 t = ((cfg0.win 6).blk t).view.read (Elt Ideal) (G m c) := by
  rw [Value.flushed6]
  obtain ⟨-, -, -, -, -, -, ⟨h0, h1⟩, -⟩ := idx t
  funext y
  obtain ⟨r, n, rfl⟩ : ∃ (r : Fin 512) (n : Fin 2048), y = ix2 r n := ⟨y 0, y 1, eq_ix2 y⟩
  show out0_6 _ _ _ _ _ _ (ix2 r n) = _
  rw [out_at, View.read_apply]
  refine Eq.trans ?_ (congrArg (G m c) (?_ : (ix2 (gr t r) n : S8192x2048.Idx) = _))
  · simp only [blk0, blk1, blk2, blk3 m c t r, blk4 m c t r, blk5]; rfl
  · funext x; apply Fin.ext
    match x with
    | ⟨0, _⟩ => show 512 * t.val + r.val = win0_6.index t (0 : Fin 2) * 512 + 1 * r.val; rw [h0]; omega
    | ⟨1, _⟩ => show n.val = win0_6.index t (1 : Fin 2) * 2048 + 1 * n.val; rw [h1]; omega

/-- An index of the array is in a point's block when each coordinate is in the block's range. -/
theorem mem_blk (t : Fin cfg0.N) (i : S8192x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v3).slice (win0_6.rect t)).set ↔ _
  rw [View.set_slice_whole, Rect.mem_set_unit]
  exact Iff.rfl

/-- The sixteen blocks fill the array. -/
theorem cover (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ : ∃ t : Fin cfg0.N, t.val = (i 0).val / 512 := ⟨⟨(i 0).val / 512, lt_of_lt_of_eq (by omega) N_0.symm⟩, rfl⟩
  obtain ⟨-, -, -, -, -, -, ⟨h0, h1⟩, hf⟩ := idx t
  refine ⟨t, hf, (mem_blk t i).mpr fun a => ?_⟩
  match a with
  | ⟨0, _⟩ =>
    show win0_6.index t (0 : Fin 2) * 512 ≤ (i 0).val ∧ (i 0).val < win0_6.index t (0 : Fin 2) * 512 + 512
    rw [h0]; omega
  | ⟨1, _⟩ =>
    show win0_6.index t (1 : Fin 2) * 2048 ≤ (i 1).val ∧ (i 1).val < win0_6.index t (1 : Fin 2) * 2048 + 2048
    rw [h1]; omega

/-- The array after the run. -/
theorem final (c : Dev nD) : (dats m 0 c).arrAt 6 cfg0.N = G m c :=
  (dats m 0 c).arrAt_eq_of_cover 6 (G m c) (fun t _ => flushed_eq m c t) cover

end Cert.Kernel4Ideal.Cross

namespace Cert.Reference4Ideal.Cross

open Idealize.ShloMosaic Idealize.SL.Sem Cert.Reference4Ideal Cert.Reference4Ideal.Gen
open Cert.Kernel2Ideal.Memory (nrm)
open Cert.Kernel4Ideal.Cross

/-! ## The reference's stages -/

/-- The input by batch, and its rows normalised. -/
def x3 (x : FVec Ideal S8192x2048 .f32) : FVec Ideal S4x2048x2048 .f32 := shapeCast _ x shapeCasts_S8192x2048_S4x2048x2048
def rows (x : FVec Ideal S4x2048x2048 .f32) (g : FVec Ideal S2048 .f32) : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))

/-- The queries by head, the keys or the values by head, the scaled logits, the largest of each query, the
    exponentials over it, the weights. -/
def qs (h : FVec Ideal S4x2048x2048 .f32) (w : FVec Ideal S2048x512 .f32) : FVec Ideal S4x2048x4x128 .f32 :=
  shapeCast _ (Host.dotGeneral (F := Ideal) dot_S4x2048x2048_S2048x512_S4x2048x512_2_0_01_1_n_n none h w) shapeCasts_S4x2048x512_S4x2048x4x128
def ks (K : FVec Ideal S4x256x512 .f32) : FVec Ideal S4x256x4x128 .f32 := shapeCast _ K shapeCasts_S4x256x512_S4x256x4x128
def lg (q : FVec Ideal S4x2048x4x128 .f32) (K : FVec Ideal S4x256x4x128 .f32) : FVec Ideal S4x4x2048x256 .f32 :=
  mulf (Host.dotGeneral (F := Ideal) dot_S4x2048x4x128_S4x256x4x128_S4x4x2048x256_3_3_1_1_02_02 none q K) (broadcastInDim S4x4x2048x256 ![] bcast_S_S4x4x2048x256 (constant S_ .f32 0x3DB504F3#32))
def mx (l : FVec Ideal S4x4x2048x256 .f32) : FVec Ideal S4x4x2048 .f32 :=
  Host.reduce FloatOps.maximumf l (constant S_ .f32 0xFF800000#32) reducesTo_S4x4x2048x256_S4x4x2048_d3 h_S_
def exm (l : FVec Ideal S4x4x2048x256 .f32) (M : FVec Ideal S4x4x2048 .f32) : FVec Ideal S4x4x2048x256 .f32 :=
  Host.exp (subf l (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))
def ex (l : FVec Ideal S4x4x2048x256 .f32) : FVec Ideal S4x4x2048x256 .f32 := exm l (mx l)
def pr (e : FVec Ideal S4x4x2048x256 .f32) : FVec Ideal S4x4x2048x256 .f32 :=
  Host.divf e (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd e (constant S_ .f32 0x00000000#32) reducesTo_S4x4x2048x256_S4x4x2048_d3 h_S_)))

/-- The heads' outputs side by side, and the whole. -/
def ov (V : FVec Ideal S4x256x4x128 .f32) (p : FVec Ideal S4x4x2048x256 .f32) : FVec Ideal S4x2048x512 .f32 :=
  shapeCast _ (transpose S4x2048x4x128 [0, 3, 1, 2] (Host.dotGeneral (F := Ideal) dot_S4x256x4x128_S4x4x2048x256_S4x4x128x2048_1_3_3_2_02_01 none V p) transposes_S4x4x128x2048_S4x2048x4x128_0_3_1_2) shapeCasts_S4x2048x4x128_S4x2048x512
def out (x : FVec Ideal S4x2048x2048 .f32) (o : FVec Ideal S4x2048x512 .f32) (wo : FVec Ideal S512x2048 .f32) : FVec Ideal S8192x2048 .f32 :=
  shapeCast _ (addf x (Host.dotGeneral (F := Ideal) dot_S4x2048x512_S512x2048_S4x2048x2048_2_0_01_1_n_n none o wo)) shapeCasts_S4x2048x2048_S8192x2048

theorem x3_at (x : FVec Ideal S8192x2048 .f32) (r : Fin 8192) (k : Fin 2048) : x3 x (ix3 (bat r) (pos r) k) = x (ix2 r k) := by
  have e : (⟨2048 * (bat r).val + (pos r).val, by have := (bat r).isLt; have := (pos r).isLt; omega⟩ : Fin 8192) = r :=
    Fin.ext (by show 2048 * (r.val / 2048) + r.val % 2048 = r.val; omega)
  pointwise [x3]
  exact congrArg (fun i => x (ix2 i k)) ((Fin.ext (by show (bat r).val * 2048 + (pos r).val = 2048 * (bat r).val + (pos r).val; omega)).trans e)

theorem rows_at (x : FVec Ideal S4x2048x2048 .f32) (g : FVec Ideal S2048 .f32) (p : Fin 4) (t k : Fin 2048) :
    rows x g (ix3 p t k) = nrm (fun j => x (ix3 p t j)) (fun j => g (ix1 j)) k := by
  unfold nrm
  pointwise [rows]

theorem qs_at (h : FVec Ideal S4x2048x2048 .f32) (w : FVec Ideal S2048x512 .f32) (p : Fin 4) (t : Fin 2048) (a : Fin 4) (k : Fin 128) :
    qs h w (ix4 p t a k) = ∑ j, h (ix3 p t j) * w (ix2 j (hc a k)) := by
  have e : (⟨a.val * 128 + k.val, by omega⟩ : Fin 512) = hc a k := Fin.ext (by show a.val * 128 + k.val = 128 * a.val + k.val; omega)
  pointwise [qs]
  rw [e]

theorem ks_at (K : FVec Ideal S4x256x512 .f32) (p : Fin 4) (j : Fin 256) (a : Fin 4) (k : Fin 128) :
    ks K (ix4 p j a k) = K (ix3 p j (hc a k)) := by
  pointwise [ks]
  exact congrArg (fun i => K (ix3 p j i)) (Fin.ext (by show a.val * 128 + k.val = 128 * a.val + k.val; omega))

theorem lg_at (q : FVec Ideal S4x2048x4x128 .f32) (K : FVec Ideal S4x256x4x128 .f32) (p a : Fin 4) (t : Fin 2048) (j : Fin 256) :
    lg q K (ix4 p a t j) = lgt (fun k => q (ix4 p t a k)) (fun j k => K (ix4 p j a k)) j := by
  unfold lgt
  pointwise [lg]

/-- A maximum over the last of four axes, of any sizes, at an index. -/
theorem max_at {n0 n1 n2 n3 : Nat} {u : Shape} (v : FVec Ideal ⟨4, ![n0, n1, n2, n3]⟩ .f32) (b : FVec Ideal u .f32)
    (h : (⟨4, ![n0, n1, n2, n3]⟩ : Shape).ReducesTo [3] ⟨3, ![n0, n1, n2]⟩) (hu : 0 < u.numel) (p : Fin n0) (a : Fin n1) (t : Fin n2) :
    Host.reduce FloatOps.maximumf v b h hu (ix3 p a t) = Finset.univ.fold max (b (Shape.Idx.first hu)) fun i : Fin n3 => v (ix4 p a t i) := by
  rw [Host.reduce_eq_fold]
  exact h.fold_fiber_r4_a3 (ix3 p a t) _ _ v

theorem max_fold {n : Nat} (b : EReal) (f : Fin n → EReal) : max b (Finset.univ.fold max b f) = Finset.univ.fold max b f :=
  max_eq_right ((Finset.le_fold_max _).mpr (Or.inl le_rfl))

theorem mx_at (l : FVec Ideal S4x4x2048x256 .f32) (p a : Fin 4) (t : Fin 2048) :
    mx l (ix3 p a t) = Finset.univ.fold max (Ideal.ofBits FTy.f32 0xFF800000#32) fun i : Fin 256 => l (ix4 p a t i) :=
  max_at l (constant S_ .f32 0xFF800000#32) reducesTo_S4x4x2048x256_S4x4x2048_d3 h_S_ p a t

theorem exm_at (l : FVec Ideal S4x4x2048x256 .f32) (M : FVec Ideal S4x4x2048 .f32) (p a : Fin 4) (t : Fin 2048) (j : Fin 256) :
    exm l M (ix4 p a t j) = Ideal.exp (l (ix4 p a t j) - max (Ideal.ofBits FTy.f32 0xFF800000#32) (M (ix3 p a t))) := by
  pointwise [exm]

theorem ex_at (l : FVec Ideal S4x4x2048x256 .f32) (p a : Fin 4) (t : Fin 2048) (j : Fin 256) :
    ex l (ix4 p a t j) = Ideal.exp (l (ix4 p a t j)
      - Finset.univ.fold max (Ideal.ofBits FTy.f32 0xFF800000#32) fun i : Fin 256 => l (ix4 p a t i)) := by
  rw [ex, exm_at, mx_at, max_fold]

theorem pr_at (e : FVec Ideal S4x4x2048x256 .f32) (p a : Fin 4) (t : Fin 2048) (j : Fin 256) :
    pr e (ix4 p a t j) = Ideal.div (e (ix4 p a t j)) (∑ i : Fin 256, e (ix4 p a t i)) := by
  pointwise [pr]

theorem ov_at (V : FVec Ideal S4x256x4x128 .f32) (w : FVec Ideal S4x4x2048x256 .f32) (p : Fin 4) (t : Fin 2048) (c : Fin 512) :
    ov V w (ix3 p t c) = ∑ j : Fin 256, w (ix4 p (hd c) t j) * V (ix4 p j (hd c) (dm c)) := by
  pointwise [ov]
  exact Finset.sum_congr rfl fun j _ => mul_comm _ _

theorem out_at (x : FVec Ideal S4x2048x2048 .f32) (o : FVec Ideal S4x2048x512 .f32) (wo : FVec Ideal S512x2048 .f32) (r : Fin 8192) (n : Fin 2048) :
    out x o wo (ix2 r n) = x (ix3 (bat r) (pos r) n) + ∑ c, o (ix3 (bat r) (pos r) c) * wo (ix2 c n) := by
  pointwise [out]
  rfl

theorem term_eq (x : FVec Ideal S8192x2048 .f32) (g : FVec Ideal S2048 .f32) (w : FVec Ideal S2048x512 .f32) (K V : FVec Ideal S4x256x512 .f32)
    (wo : FVec Ideal S512x2048 .f32) :
    out (x3 x) (ov (ks V) (pr (ex (lg (qs (rows (x3 x) g) w) (ks K))))) wo = res x g w K V wo := by
  funext y
  obtain ⟨r, n, rfl⟩ : ∃ (r : Fin 8192) (n : Fin 2048), y = ix2 r n := ⟨y 0, y 1, eq_ix2 y⟩
  show _ = ent (fun k => x (ix2 r k)) (fun k => g (ix1 k)) (fun k c => w (ix2 k c)) (fun j c => K (ix3 (bat r) j c))
    (fun j c => V (ix3 (bat r) j c)) (fun c n => wo (ix2 c n)) n
  unfold ent ctx att pw ew top qry
  simp only [out_at, ov_at, pr_at, ex_at, lg_at, qs_at, ks_at, rows_at, x3_at]

theorem res_eq (m : (ℓ : Loc nD τ sig) → Buf (Elt Ideal) ℓ) (c : Dev nD) :
    Value.res_main_v37 m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  rw [← term_eq]
  rfl

end Cert.Reference4Ideal.Cross
end
-- ==== Proof.Project.lean ====
/-
  One point of the prompt group's input projection, in the idealised program: what the body leaves in each window's buffer,
  given what it found there, by one run of the body.
-/
module

public import proofs.«01_k».proof.Proof.Gen.Kernel5Ideal.Frame
public import proofs.«01_k».proof.Proof.Gen.Kernel5Ideal.Skeleton
public import Idealize.ShloMosaic.Lib.Writes
public import Idealize.ShloMosaic.Lib.VecWindow
public import Idealize.ShloMosaic.Lib.Pipeline.ValueKit
public import Idealize.ShloMosaic.Lib.Pointwise

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligation)

variable {F : FTy → Type} [FloatOps F]

local notation "𝕄" => MT nD τ sig Unit (Elt F) ℕ (UR sig nD τ) ℕ

/-! ## What a guarded store leaves -/

/-- The first point of a block of rows: the rows are normalised there. -/
abbrev first0 (i : grid0.Coords) : Prop := (Scalar.cmpi .ne (Scalar.extui (Scalar.cmpi .eq (BitVec.ofNat 32 (i 1).val) 0#32)) 0#32) = 1#1

theorem hz2 : (![0, 0] : Fin 2 → Nat) = fun _ => 0 := by decide

/-- A buffer stored whole under a condition. -/
theorem read_whole {e : EltTy} {d : Fin 2 → Nat} (w : View sig .tc .vmem ⟨2, d⟩ e) (f : w.ty.Contents (Elt F)) (C : Prop) [Decidable C]
    (inb : ∀ a, (![0, 0] : Fin 2 → Nat) a + d a ≤ d a) (v v' : (⟨2, d⟩ : Shape).Idx → Elt F e) (hv : v = v') :
    w.read (Elt F) (if hc : C then w.writes (Elt F) f [⟨Rect.unit ![0, 0] d inb, v⟩] else f) = if C then v' else w.read (Elt F) f := by
  subst hv
  split
  · exact View.read_writes_full w f inb v []
  · rfl

/-- The rows of head `h` among the rows of all sixteen heads. -/
abbrev headRect (h : ℕ) (inb : ∀ a : Fin 2, S1024x64.size a = 0 ∨ (![h, 0] : Fin 2 → ℕ) a + (![16, 1] : Fin 2 → ℕ) a * (S1024x64.size a - 1) < S16384x64.size a)
    (pos : ∀ a : Fin 2, 0 < (![16, 1] : Fin 2 → ℕ) a) : Rect S16384x64 :=
  ⟨⟨![h, 0], S1024x64.size, ![16, 1], inb⟩, pos⟩

/-- The tile of eight heads, entry by entry in the layout of the heads' rows. -/
def byHead (v : Vec F S1024x512 .f32) (y : S16384x64.Idx) : F .f32 :=
  v (ix2 ⟨(y 0).val / 16, by have h : (y 0).val < 16384 := (y 0).isLt; omega⟩
    ⟨64 * ((y 0).val % 16 % 8) + (y 1).val, by have h : (y 1).val < 64 := (y 1).isLt; omega⟩)

theorem slice_byHead (v : Vec F S1024x512 .f32) (h : ℕ) (hh : h < 16) (o : ℕ) (ho : o = 64 * (h % 8)) (sl) (inb) (pos) (x : S1024x64.Idx) :
    extractStridedSlice S1024x64 ![0, o] v sl x = byHead v ((headRect h inb pos).emb x) := by
  unfold byHead
  have h0 : (x 0).val < 1024 := (x 0).isLt
  have h1 : (x 1).val < 64 := (x 1).isLt
  have e0 : ((headRect h inb pos).emb x 0).val = h + 16 * (x 0).val := rfl
  have e1 : ((headRect h inb pos).emb x 1).val = 0 + 1 * (x 1).val := rfl
  refine congrArg v (funext fun a => Fin.ext ?_)
  match a with
  | ⟨0, _⟩ => show 0 + (x 0).val = ((headRect h inb pos).emb x 0).val / 16; rw [e0]; omega
  | ⟨1, _⟩ =>
    show o + (x 1).val = 64 * (((headRect h inb pos).emb x 0).val % 16 % 8) + ((headRect h inb pos).emb x 1).val
    rw [e0, e1, ho]; omega

theorem mem_head (h : ℕ) (hh : h < 16) (inb) (pos) (y : S16384x64.Idx) :
    y ∈ (headRect h inb pos).set ↔ (y 0).val % 16 = h := by
  have h0 : (y 0).val < 16384 := (y 0).isLt
  have h1 : (y 1).val < 64 := (y 1).isLt
  rw [LoadRect.mem_set]
  refine ⟨fun H => ?_, fun H a => ?_⟩
  · obtain ⟨k, hk, e⟩ := H 0
    have e : (y 0).val = h + 16 * k := e
    omega
  · match a with
    | ⟨0, _⟩ => exact ⟨(y 0).val / 16, by show _ < 1024; omega, by show (y 0).val = h + 16 * ((y 0).val / 16); omega⟩
    | ⟨1, _⟩ => exact ⟨(y 1).val, h1, by show (y 1).val = 0 + 1 * (y 1).val; omega⟩

/-- Eight heads stored one after another: the rows of those heads hold the tile, the others what they held. -/
theorem read_half (w : View sig .tc .vmem S16384x64 .f32) (f : w.ty.Contents (Elt F)) (v : Vec F S1024x512 .f32)
    (L : List (View.Piece (Elt F) S16384x64 .f32)) (lo : ℕ)
    (hL : ∀ p ∈ L, ∃ (h : ℕ) (hh : h < 16) (inb : _) (pos : _) (z : S1024x64.Idx → Elt F .f32), p = ⟨headRect h inb pos, z⟩ ∧ (lo ≤ h ∧ h < lo + 8) ∧ ∀ x, z x = byHead v ((headRect h inb pos).emb x))
    (hc : ∀ h, lo ≤ h → h < lo + 8 → ∃ (inb : _) (pos : _) (z : S1024x64.Idx → Elt F .f32), (⟨headRect h inb pos, z⟩ : View.Piece (Elt F) S16384x64 .f32) ∈ L)
    (y : S16384x64.Idx) :
    w.read (Elt F) (w.writes (Elt F) f L) y = if lo ≤ (y 0).val % 16 ∧ (y 0).val % 16 < lo + 8 then byHead v y else w.read (Elt F) f y := by
  split
  · rename_i hy
    refine View.read_writes_apply_of_pieces w f (byHead v) L (fun p hp x => ?_) y ?_
    · obtain ⟨h, hh, inb, pos, z, rfl, -, e⟩ := hL p hp
      exact e x
    · obtain ⟨inb, pos, z, hz⟩ := hc _ hy.1 hy.2
      exact ⟨_, hz, (mem_head _ (by omega) inb pos y).mpr rfl⟩
  · rename_i hy
    refine View.read_writes_apply_of_forall_not_mem w f y L fun p hp hm => hy ?_
    obtain ⟨h, hh, inb, pos, z, rfl, hb, -⟩ := hL p hp
    rw [(mem_head h hh inb pos y).mp hm]
    exact hb

/-- What the heads' rows hold after a point that may store the first eight heads or the last eight. -/
def heads (a p q : Prop) [Decidable a] [Decidable p] [Decidable q] (v : Vec F S1024x512 .f32) (y : Vec F S16384x64 .f32) : Vec F S16384x64 .f32 :=
  fun i => if a ∧ q ∧ 8 ≤ (i 0).val % 16 then byHead v i else if a ∧ p ∧ (i 0).val % 16 < 8 then byHead v i else y i

/-- Two runs of eight guarded stores, the second under the second condition. -/
theorem read_heads (w : View sig .tc .vmem S16384x64 .f32) (f : w.ty.Contents (Elt F)) (v : Vec F S1024x512 .f32)
    (A P Q : Prop) [Decidable A] [Decidable P] [Decidable Q] (L₁ L₂ : List (View.Piece (Elt F) S16384x64 .f32))
    (h₁ : ∀ f y, w.read (Elt F) (w.writes (Elt F) f L₁) y = if 0 ≤ (y 0).val % 16 ∧ (y 0).val % 16 < 0 + 8 then byHead v y else w.read (Elt F) f y)
    (h₂ : ∀ f y, w.read (Elt F) (w.writes (Elt F) f L₂) y = if 8 ≤ (y 0).val % 16 ∧ (y 0).val % 16 < 8 + 8 then byHead v y else w.read (Elt F) f y) :
    w.read (Elt F) (if hc : A then (if hc : Q then w.writes (Elt F) (if hc : P then w.writes (Elt F) f L₁ else f) L₂
      else (if hc : P then w.writes (Elt F) f L₁ else f)) else f) = heads A P Q v (w.read (Elt F) f) := by
  funext y
  have h0 : (y 0).val % 16 < 16 := Nat.mod_lt _ (by decide)
  have e2 : (8 ≤ (y 0).val % 16 ∧ (y 0).val % 16 < 8 + 8) ↔ 8 ≤ (y 0).val % 16 := by omega
  have e1 : (0 ≤ (y 0).val % 16 ∧ (y 0).val % 16 < 0 + 8) ↔ (y 0).val % 16 < 8 := by omega
  unfold heads
  by_cases hA : A <;> by_cases hP : P <;> by_cases hQ : Q <;> simp only [hA, hP, hQ, dif_pos, dif_neg, not_false_eq_true, h₁, h₂, e1, e2, true_and, false_and, if_false, dite_true, dite_false]

/-- Eight heads stored one after another, the last first. -/
theorem read_eight (w : View sig .tc .vmem S16384x64 .f32) (f : w.ty.Contents (Elt F)) (v : Vec F S1024x512 .f32) (lo : ℕ) (hlo : lo + 7 < 16)
    {i0 i1 i2 i3 i4 i5 i6 i7} {p0 p1 p2 p3 p4 p5 p6 p7} {z0 z1 z2 z3 z4 z5 z6 z7 : S1024x64.Idx → Elt F .f32}
    (e0 : ∀ x, z0 x = byHead v ((headRect (lo + 0) i0 p0).emb x)) (e1 : ∀ x, z1 x = byHead v ((headRect (lo + 1) i1 p1).emb x))
    (e2 : ∀ x, z2 x = byHead v ((headRect (lo + 2) i2 p2).emb x)) (e3 : ∀ x, z3 x = byHead v ((headRect (lo + 3) i3 p3).emb x))
    (e4 : ∀ x, z4 x = byHead v ((headRect (lo + 4) i4 p4).emb x)) (e5 : ∀ x, z5 x = byHead v ((headRect (lo + 5) i5 p5).emb x))
    (e6 : ∀ x, z6 x = byHead v ((headRect (lo + 6) i6 p6).emb x)) (e7 : ∀ x, z7 x = byHead v ((headRect (lo + 7) i7 p7).emb x))
    (y : S16384x64.Idx) :
    w.read (Elt F) (w.writes (Elt F) f [⟨headRect (lo + 7) i7 p7, z7⟩, ⟨headRect (lo + 6) i6 p6, z6⟩, ⟨headRect (lo + 5) i5 p5, z5⟩,
      ⟨headRect (lo + 4) i4 p4, z4⟩, ⟨headRect (lo + 3) i3 p3, z3⟩, ⟨headRect (lo + 2) i2 p2, z2⟩, ⟨headRect (lo + 1) i1 p1, z1⟩,
      ⟨headRect (lo + 0) i0 p0, z0⟩]) y = if lo ≤ (y 0).val % 16 ∧ (y 0).val % 16 < lo + 8 then byHead v y else w.read (Elt F) f y := by
  refine read_half w f v _ lo (fun p hp => ?_) (fun h a b => ?_) y
  · simp only [List.mem_cons, List.not_mem_nil, or_false] at hp
    rcases hp with rfl | rfl | rfl | rfl | rfl | rfl | rfl | rfl
    · exact ⟨_, by omega, _, _, _, rfl, by omega, e7⟩
    · exact ⟨_, by omega, _, _, _, rfl, by omega, e6⟩
    · exact ⟨_, by omega, _, _, _, rfl, by omega, e5⟩
    · exact ⟨_, by omega, _, _, _, rfl, by omega, e4⟩
    · exact ⟨_, by omega, _, _, _, rfl, by omega, e3⟩
    · exact ⟨_, by omega, _, _, _, rfl, by omega, e2⟩
    · exact ⟨_, by omega, _, _, _, rfl, by omega, e1⟩
    · exact ⟨_, by omega, _, _, _, rfl, by omega, e0⟩
  · obtain rfl | rfl | rfl | rfl | rfl | rfl | rfl | rfl : h = lo + 0 ∨ h = lo + 1 ∨ h = lo + 2 ∨ h = lo + 3 ∨ h = lo + 4 ∨ h = lo + 5 ∨ h = lo + 6 ∨ h = lo + 7 := by omega
    · exact ⟨i0, p0, z0, .tail _ (.tail _ (.tail _ (.tail _ (.tail _ (.tail _ (.tail _ (.head _)))))))⟩
    · exact ⟨i1, p1, z1, by simp only [List.mem_cons, _root_.true_or, _root_.or_true]⟩
    · exact ⟨i2, p2, z2, by simp only [List.mem_cons, _root_.true_or, _root_.or_true]⟩
    · exact ⟨i3, p3, z3, by simp only [List.mem_cons, _root_.true_or, _root_.or_true]⟩
    · exact ⟨i4, p4, z4, by simp only [List.mem_cons, _root_.true_or, _root_.or_true]⟩
    · exact ⟨i5, p5, z5, by simp only [List.mem_cons, _root_.true_or, _root_.or_true]⟩
    · exact ⟨i6, p6, z6, by simp only [List.mem_cons, _root_.true_or, _root_.or_true]⟩
    · exact ⟨i7, p7, z7, by simp only [List.mem_cons, _root_.true_or, _root_.or_true]⟩

theorem trunc_congr {v v' : Vec F S1024x512 .f32} (h : v = v') : truncf .bf16 v = truncf .bf16 v' := by subst h; rfl

/-- A buffer read whole. -/
theorem read_all {e : EltTy} {d : Fin 2 → Nat} (w : Memref sig .tc .vmem ⟨2, d⟩ e) (hw : w.IsWhole) (x : Vec F ⟨2, d⟩ e)
    (inb : ∀ a, (![0, 0] : Fin 2 → Nat) a + d a ≤ d a) :
    View.readAt (Elt F) w.view (Rect.unit ![0, 0] d inb).toLoadRect (hw.unread x) = x := by
  rw [View.readAt_full, hw.read_unread]

set_option maxHeartbeats 3200000 in
/-- The body at the first point of a block of rows: it normalises the rows, keeps them, multiplies them by the weights' block, and
    stores the product where the point's conditions say. -/
theorem bodyRun_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S16384x64 .f32) (harg7 : arg7.IsWhole) (arg8 : Memref sig .tc .vmem S1024x512 .bf16) (harg8 : arg8.IsWhole) (arg9 : Memref sig .tc .vmem S16384x64 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (hc1 : first0 i)
    (x0 : Vec F S1024x2048 .f32) (x1 : Vec F S1x2048 .f32) (x2 : Vec F S512x2048 .bf16) (y3 : Vec F S1024x512 .f32) (y4 : Vec F S1024x512 .bf16) (y5 : Vec F S16384x64 .f32) (y6 : Vec F S1024x512 .bf16) (y7 : Vec F S16384x64 .f32) (y8 : Vec F S1024x512 .bf16) (y9 : Vec F S1024x512 .bf16) (y10 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare (if k0_cond2 i = 1#1 then k0_pay20 (k0_pay19 x0 x1) x2 else y3) ∗ owns (c : Thread nD τ) arg6 fullShare (if k0_cond3 i = 1#1 then truncf .bf16 (k0_pay20 (k0_pay19 x0 x1) x2) else y4) ∗ owns (c : Thread nD τ) arg7 fullShare (heads (k0_cond4 i = 1#1) (k0_cond5 i = 1#1) (k0_cond6 i = 1#1) (k0_pay20 (k0_pay19 x0 x1) x2) y5) ∗ owns (c : Thread nD τ) arg8 fullShare (if k0_cond7 i = 1#1 then truncf .bf16 (k0_pay20 (k0_pay19 x0 x1) x2) else y6) ∗ owns (c : Thread nD τ) arg9 fullShare (heads (k0_cond8 i = 1#1) (k0_cond9 i = 1#1) (k0_cond10 i = 1#1) (k0_pay20 (k0_pay19 x0 x1) x2) y7) ∗ owns (c : Thread nD τ) arg10 fullShare (if k0_cond11 i = 1#1 then truncf .bf16 (k0_pay20 (k0_pay19 x0 x1) x2) else y8) ∗ owns (c : Thread nD τ) arg11 fullShare (if k0_cond12 i = 1#1 then truncf .bf16 (k0_pay20 (k0_pay19 x0 x1) x2) else y9) ∗ owns (c : Thread nD τ) arg12 fullShare (if k0_cond13 i = 1#1 then k0_pay20 (k0_pay19 x0 x1) x2 else y10) ∗ owns (c : Thread nD τ) arg13 fullShare (k0_pay19 x0 x1)) -∗ K ⟨⟩))
      ⊢ wp frame (wpE (defs₀ (F := F)) Variants.none c none) E (cc0_norm_matmul_split i arg2 harg2 arg3 harg3 arg4 harg4 arg5 harg5 arg6 harg6 arg7 harg7 arg8 harg8 arg9 harg9 arg10 harg10 arg11 harg11 arg12 harg12 arg13 harg13) K := by
  simp only [cc0_norm_matmul_split_eq_skeleton]; unfold cc0_norm_matmul_split_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
  obtain rfl := harg2.eq_unread hf0; obtain rfl := harg3.eq_unread hf1; obtain rfl := harg4.eq_unread hf2
  sl_exec (disch := first | sl_exact hc1)
  sl_step
  iapply Hk
  have h0 := read_all (F := F) arg2 harg2 x0 inb_S1024x2048_S1024x2048_0_0
  have h1 := read_all (F := F) arg3 harg3 x1 inb_S1x2048_S1x2048_0_0
  have hw := read_all (F := F) arg4 harg4 x2 inb_S512x2048_S512x2048_0_0
  have hn := congrArg₂ (k0_pay19 (F := F)) h0 h1
  have hx := (View.readCov_full (Val := Elt F) arg13.view inb_S1024x2048_S1024x2048_0_0 inb_S1024x2048_S1024x2048_0_0
    (k0_pay19 (View.readAt (Elt F) arg2.view (Rect.unit ![0, 0] S1024x2048.size inb_S1024x2048_S1024x2048_0_0).toLoadRect (harg2.unread x0))
      (View.readAt (Elt F) arg3.view (Rect.unit ![0, 0] S1x2048.size inb_S1x2048_S1x2048_0_0).toLoadRect (harg3.unread x1))) []).trans hn
  have hq := congrArg₂ (k0_pay20 (F := F)) hx hw
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [← hf3]
    exact (read_whole arg5.view f3 _ _ _ _ hq)
  isplitl [H4]
  · iexists _; isplitr; swap; · iexact H4
    ipureintro
    rw [← hf4]
    exact (read_whole arg6.view f4 _ _ _ _ (trunc_congr hq))
  isplitl [H5]
  · iexists _; isplitr; swap; · iexact H5
    ipureintro
    rw [← hq, ← hf5]
    refine read_heads arg7.view f5 _ _ _ _ _ _ (fun f y => ?_) fun f y => ?_
    · exact read_eight _ f _ 0 (by decide) (fun x => slice_byHead _ 0 (by decide) 0 rfl (by decide) _ _ x) (fun x => slice_byHead _ 1 (by decide) 64 rfl (by decide) _ _ x) (fun x => slice_byHead _ 2 (by decide) 128 rfl (by decide) _ _ x) (fun x => slice_byHead _ 3 (by decide) 192 rfl (by decide) _ _ x) (fun x => slice_byHead _ 4 (by decide) 256 rfl (by decide) _ _ x) (fun x => slice_byHead _ 5 (by decide) 320 rfl (by decide) _ _ x) (fun x => slice_byHead _ 6 (by decide) 384 rfl (by decide) _ _ x) (fun x => slice_byHead _ 7 (by decide) 448 rfl (by decide) _ _ x) y
    · exact read_eight _ f _ 8 (by decide) (fun x => slice_byHead _ 8 (by decide) 0 rfl (by decide) _ _ x) (fun x => slice_byHead _ 9 (by decide) 64 rfl (by decide) _ _ x) (fun x => slice_byHead _ 10 (by decide) 128 rfl (by decide) _ _ x) (fun x => slice_byHead _ 11 (by decide) 192 rfl (by decide) _ _ x) (fun x => slice_byHead _ 12 (by decide) 256 rfl (by decide) _ _ x) (fun x => slice_byHead _ 13 (by decide) 320 rfl (by decide) _ _ x) (fun x => slice_byHead _ 14 (by decide) 384 rfl (by decide) _ _ x) (fun x => slice_byHead _ 15 (by decide) 448 rfl (by decide) _ _ x) y
  isplitl [H6]
  · iexists _; isplitr; swap; · iexact H6
    ipureintro
    rw [← hf6]
    exact (read_whole arg8.view f6 _ _ _ _ (trunc_congr hq))
  isplitl [H7]
  · iexists _; isplitr; swap; · iexact H7
    ipureintro
    rw [← hq, ← hf7]
    refine read_heads arg9.view f7 _ _ _ _ _ _ (fun f y => ?_) fun f y => ?_
    · exact read_eight _ f _ 0 (by decide) (fun x => slice_byHead _ 0 (by decide) 0 rfl (by decide) _ _ x) (fun x => slice_byHead _ 1 (by decide) 64 rfl (by decide) _ _ x) (fun x => slice_byHead _ 2 (by decide) 128 rfl (by decide) _ _ x) (fun x => slice_byHead _ 3 (by decide) 192 rfl (by decide) _ _ x) (fun x => slice_byHead _ 4 (by decide) 256 rfl (by decide) _ _ x) (fun x => slice_byHead _ 5 (by decide) 320 rfl (by decide) _ _ x) (fun x => slice_byHead _ 6 (by decide) 384 rfl (by decide) _ _ x) (fun x => slice_byHead _ 7 (by decide) 448 rfl (by decide) _ _ x) y
    · exact read_eight _ f _ 8 (by decide) (fun x => slice_byHead _ 8 (by decide) 0 rfl (by decide) _ _ x) (fun x => slice_byHead _ 9 (by decide) 64 rfl (by decide) _ _ x) (fun x => slice_byHead _ 10 (by decide) 128 rfl (by decide) _ _ x) (fun x => slice_byHead _ 11 (by decide) 192 rfl (by decide) _ _ x) (fun x => slice_byHead _ 12 (by decide) 256 rfl (by decide) _ _ x) (fun x => slice_byHead _ 13 (by decide) 320 rfl (by decide) _ _ x) (fun x => slice_byHead _ 14 (by decide) 384 rfl (by decide) _ _ x) (fun x => slice_byHead _ 15 (by decide) 448 rfl (by decide) _ _ x) y
  isplitl [H8]
  · iexists _; isplitr; swap; · iexact H8
    ipureintro
    rw [← hf8]
    exact (read_whole arg10.view f8 _ _ _ _ (trunc_congr hq))
  isplitl [H9]
  · iexists _; isplitr; swap; · iexact H9
    ipureintro
    rw [← hf9]
    exact (read_whole arg11.view f9 _ _ _ _ (trunc_congr hq))
  isplitl [H10]
  · iexists _; isplitr; swap; · iexact H10
    ipureintro
    rw [← hf10]
    exact (read_whole arg12.view f10 _ _ _ _ hq)
  iexists _; isplitr; swap; · iexact HS
  ipureintro
  exact (View.read_writes_full _ _ _ _ _).trans hn

set_option maxHeartbeats 3200000 in
/-- The body at a later point of a block of rows: the normalised rows are those kept; the rest as at the first point. -/
theorem bodyRun_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S1024x512 .f32) (harg5 : arg5.IsWhole) (arg6 : Memref sig .tc .vmem S1024x512 .bf16) (harg6 : arg6.IsWhole) (arg7 : Memref sig .tc .vmem S16384x64 .f32) (harg7 : arg7.IsWhole) (arg8 : Memref sig .tc .vmem S1024x512 .bf16) (harg8 : arg8.IsWhole) (arg9 : Memref sig .tc .vmem S16384x64 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x2048 .bf16) (harg13 : arg13.IsWhole) (hc1 : ¬first0 i)
    (x0 : Vec F S1024x2048 .f32) (x1 : Vec F S1x2048 .f32) (x2 : Vec F S512x2048 .bf16) (y3 : Vec F S1024x512 .f32) (y4 : Vec F S1024x512 .bf16) (y5 : Vec F S16384x64 .f32) (y6 : Vec F S1024x512 .bf16) (y7 : Vec F S16384x64 .f32) (y8 : Vec F S1024x512 .bf16) (y9 : Vec F S1024x512 .bf16) (y10 : Vec F S1024x512 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare xs
        ∗ (iprop(owns (c : Thread nD τ) arg2 fullShare x0 ∗ owns (c : Thread nD τ) arg3 fullShare x1 ∗ owns (c : Thread nD τ) arg4 fullShare x2 ∗ owns (c : Thread nD τ) arg5 fullShare (if k0_cond2 i = 1#1 then k0_pay20 xs x2 else y3) ∗ owns (c : Thread nD τ) arg6 fullShare (if k0_cond3 i = 1#1 then truncf .bf16 (k0_pay20 xs x2) else y4) ∗ owns (c : Thread nD τ) arg7 fullShare (heads (k0_cond4 i = 1#1) (k0_cond5 i = 1#1) (k0_cond6 i = 1#1) (k0_pay20 xs x2) y5) ∗ owns (c : Thread nD τ) arg8 fullShare (if k0_cond7 i = 1#1 then truncf .bf16 (k0_pay20 xs x2) else y6) ∗ owns (c : Thread nD τ) arg9 fullShare (heads (k0_cond8 i = 1#1) (k0_cond9 i = 1#1) (k0_cond10 i = 1#1) (k0_pay20 xs x2) y7) ∗ owns (c : Thread nD τ) arg10 fullShare (if k0_cond11 i = 1#1 then truncf .bf16 (k0_pay20 xs x2) else y8) ∗ owns (c : Thread nD τ) arg11 fullShare (if k0_cond12 i = 1#1 then truncf .bf16 (k0_pay20 xs x2) else y9) ∗ owns (c : Thread nD τ) arg12 fullShare (if k0_cond13 i = 1#1 then k0_pay20 xs x2 else y10) ∗ owns (c : Thread nD τ) arg13 fullShare xs) -∗ K ⟨⟩))
      ⊢ wp frame (wpE (defs₀ (F := F)) Variants.none c none) E (cc0_norm_matmul_split i arg2 harg2 arg3 harg3 arg4 harg4 arg5 harg5 arg6 harg6 arg7 harg7 arg8 harg8 arg9 harg9 arg10 harg10 arg11 harg11 arg12 harg12 arg13 harg13) K := by
  simp only [cc0_norm_matmul_split_eq_skeleton]; unfold cc0_norm_matmul_split_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
  obtain rfl := harg2.eq_unread hf0; obtain rfl := harg3.eq_unread hf1; obtain rfl := harg4.eq_unread hf2
  obtain rfl := harg13.eq_unread hfs
  sl_exec (disch := first | sl_exact hc1)
  sl_step
  iapply Hk
  have hx := read_all (F := F) arg13 harg13 xs inb_S1024x2048_S1024x2048_0_0
  have hw := read_all (F := F) arg4 harg4 x2 inb_S512x2048_S512x2048_0_0
  have hq := congrArg₂ (k0_pay20 (F := F)) hx hw
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [← hf3]
    exact (read_whole arg5.view f3 _ _ _ _ hq)
  isplitl [H4]
  · iexists _; isplitr; swap; · iexact H4
    ipureintro
    rw [← hf4]
    exact (read_whole arg6.view f4 _ _ _ _ (trunc_congr hq))
  isplitl [H5]
  · iexists _; isplitr; swap; · iexact H5
    ipureintro
    rw [← hq, ← hf5]
    refine read_heads arg7.view f5 _ _ _ _ _ _ (fun f y => ?_) fun f y => ?_
    · exact read_eight _ f _ 0 (by decide) (fun x => slice_byHead _ 0 (by decide) 0 rfl (by decide) _ _ x) (fun x => slice_byHead _ 1 (by decide) 64 rfl (by decide) _ _ x) (fun x => slice_byHead _ 2 (by decide) 128 rfl (by decide) _ _ x) (fun x => slice_byHead _ 3 (by decide) 192 rfl (by decide) _ _ x) (fun x => slice_byHead _ 4 (by decide) 256 rfl (by decide) _ _ x) (fun x => slice_byHead _ 5 (by decide) 320 rfl (by decide) _ _ x) (fun x => slice_byHead _ 6 (by decide) 384 rfl (by decide) _ _ x) (fun x => slice_byHead _ 7 (by decide) 448 rfl (by decide) _ _ x) y
    · exact read_eight _ f _ 8 (by decide) (fun x => slice_byHead _ 8 (by decide) 0 rfl (by decide) _ _ x) (fun x => slice_byHead _ 9 (by decide) 64 rfl (by decide) _ _ x) (fun x => slice_byHead _ 10 (by decide) 128 rfl (by decide) _ _ x) (fun x => slice_byHead _ 11 (by decide) 192 rfl (by decide) _ _ x) (fun x => slice_byHead _ 12 (by decide) 256 rfl (by decide) _ _ x) (fun x => slice_byHead _ 13 (by decide) 320 rfl (by decide) _ _ x) (fun x => slice_byHead _ 14 (by decide) 384 rfl (by decide) _ _ x) (fun x => slice_byHead _ 15 (by decide) 448 rfl (by decide) _ _ x) y
  isplitl [H6]
  · iexists _; isplitr; swap; · iexact H6
    ipureintro
    rw [← hf6]
    exact (read_whole arg8.view f6 _ _ _ _ (trunc_congr hq))
  isplitl [H7]
  · iexists _; isplitr; swap; · iexact H7
    ipureintro
    rw [← hq, ← hf7]
    refine read_heads arg9.view f7 _ _ _ _ _ _ (fun f y => ?_) fun f y => ?_
    · exact read_eight _ f _ 0 (by decide) (fun x => slice_byHead _ 0 (by decide) 0 rfl (by decide) _ _ x) (fun x => slice_byHead _ 1 (by decide) 64 rfl (by decide) _ _ x) (fun x => slice_byHead _ 2 (by decide) 128 rfl (by decide) _ _ x) (fun x => slice_byHead _ 3 (by decide) 192 rfl (by decide) _ _ x) (fun x => slice_byHead _ 4 (by decide) 256 rfl (by decide) _ _ x) (fun x => slice_byHead _ 5 (by decide) 320 rfl (by decide) _ _ x) (fun x => slice_byHead _ 6 (by decide) 384 rfl (by decide) _ _ x) (fun x => slice_byHead _ 7 (by decide) 448 rfl (by decide) _ _ x) y
    · exact read_eight _ f _ 8 (by decide) (fun x => slice_byHead _ 8 (by decide) 0 rfl (by decide) _ _ x) (fun x => slice_byHead _ 9 (by decide) 64 rfl (by decide) _ _ x) (fun x => slice_byHead _ 10 (by decide) 128 rfl (by decide) _ _ x) (fun x => slice_byHead _ 11 (by decide) 192 rfl (by decide) _ _ x) (fun x => slice_byHead _ 12 (by decide) 256 rfl (by decide) _ _ x) (fun x => slice_byHead _ 13 (by decide) 320 rfl (by decide) _ _ x) (fun x => slice_byHead _ 14 (by decide) 384 rfl (by decide) _ _ x) (fun x => slice_byHead _ 15 (by decide) 448 rfl (by decide) _ _ x) y
  isplitl [H8]
  · iexists _; isplitr; swap; · iexact H8
    ipureintro
    rw [← hf8]
    exact (read_whole arg10.view f8 _ _ _ _ (trunc_congr hq))
  isplitl [H9]
  · iexists _; isplitr; swap; · iexact H9
    ipureintro
    rw [← hf9]
    exact (read_whole arg11.view f9 _ _ _ _ (trunc_congr hq))
  isplitl [H10]
  · iexists _; isplitr; swap; · iexact H10
    ipureintro
    rw [← hf10]
    exact (read_whole arg12.view f10 _ _ _ _ hq)
  iexists _; isplitr; swap; · iexact HS
  ipureintro
  exact harg13.read_unread _

end Cert.Kernel5Ideal.Project

end
-- ==== Proof.ProjectFrame.lean ====
/-
  The prompt group's input projection, the idealised program: the proof data of its pipeline, stated as relations between what
  the body finds in a window's buffer and what it leaves there, the body at every point, and the run.
-/
module

public import proofs.«01_k».proof.Proof.Project

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

theorem hN0 : cfg0.N = 120 := N_0

/-- The first point of the block of rows that point `n` is in. -/
def base (n : ℕ) : Fin cfg0.N := ⟨15 * (n / 15) % 120, by rw [hN0]; exact Nat.mod_lt _ (by decide)⟩

theorem base_self (t : Fin cfg0.N) (h : t.val % 15 = 0) : base t.val = t :=
  Fin.ext (by have ht : t.val < 120 := lt_of_lt_of_eq t.isLt hN0; show 15 * (t.val / 15) % 120 = t.val; omega)

theorem base_succ (n : ℕ) (h : ¬(n + 1) % 15 = 0) : base (n + 1) = base n :=
  Fin.ext (by show 15 * ((n + 1) / 15) % 120 = 15 * (n / 15) % 120; omega)

/-- The normalised rows of the block that point `n` is in. -/
def rows (c : Dev nD) (n : ℕ) : Vec F S1024x2048 .bf16 := k0_pay19 (iblk m c 0 (base n)) (iblk m c 1 (base n))

/-- The product at point `t`. -/
def prod (c : Dev nD) (t : Fin cfg0.N) : Vec F S1024x512 .f32 := k0_pay20 (rows m c t.val) (iblk m c 2 t)

abbrev scM0_0 : Memref sig .tc .vmem S1024x2048 .bf16 := Memref.whole cc0_scratch0

/-- The region's invariant, the carried buffer spelled as the body is passed it. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA
  rw [scopedRest0_eq]
  simp only [scM0_0, owns_whole]
  try rfl

/-- Before a point: the carried buffer holds the normalised rows, but for the first point of a block of rows. -/
def PhiS (c : Dev nD) (n : ℕ) : sProp 𝕄 :=
  if n % 15 = 0 then Pipeline.ΦA spec0 c
  else iprop(iprop(owns (c : Thread nD τ) scM0_0 fullShare (rows m c n)) ∗ (∃ r, prngReg c r))

/-- What the body may leave in a window's buffer, by what it found there. -/
def aft (c : Dev nD) (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = if k0_cond2 (grid0.coords t) = 1#1 then prod m c t else Y
  | ⟨4, _⟩ => fun Y X => X = if k0_cond3 (grid0.coords t) = 1#1 then truncf .bf16 (prod m c t) else Y
  | ⟨5, _⟩ => fun Y X => X = heads (k0_cond4 (grid0.coords t) = 1#1) (k0_cond5 (grid0.coords t) = 1#1) (k0_cond6 (grid0.coords t) = 1#1) (prod m c t) Y
  | ⟨6, _⟩ => fun Y X => X = if k0_cond7 (grid0.coords t) = 1#1 then truncf .bf16 (prod m c t) else Y
  | ⟨7, _⟩ => fun Y X => X = heads (k0_cond8 (grid0.coords t) = 1#1) (k0_cond9 (grid0.coords t) = 1#1) (k0_cond10 (grid0.coords t) = 1#1) (prod m c t) Y
  | ⟨8, _⟩ => fun Y X => X = if k0_cond11 (grid0.coords t) = 1#1 then truncf .bf16 (prod m c t) else Y
  | ⟨9, _⟩ => fun Y X => X = if k0_cond12 (grid0.coords t) = 1#1 then truncf .bf16 (prod m c t) else Y
  | ⟨10, _⟩ => fun Y X => X = if k0_cond13 (grid0.coords t) = 1#1 then prod m c t else Y

/-- The proof data. -/
def rdats (c : Dev nD) : RDat τ (Elt F) Unit ℕ (UR sig nD τ) ℕ cfg0 c where
  A w := V m c (Pipeline.arrRef spec0 w)
  after w t := aft m c w t
  Φ t := PhiS m c t.val
  q _ := fullShare
  owed _ := 0

theorem A_eq (c : Dev nD) (w : Fin cfg0.W) : (rdats m c).A w = V m c (Pipeline.arrRef spec0 w) := by
  dsimp only [rdats]

/-- What an input's buffer holds at a point: its block there. -/
theorem finds0 (c : Dev nD) (t : Fin cfg0.N) (Y) (h : (rdats m c).Finds 0 t Y) : Y = iblk m c 0 t := by
  obtain ⟨d, rfl⟩ := (rdats m c).finds_in_eq_fetched 0 rfl (fun _ _ _ => rfl) (fun _ _ _ h => h) t Y h
  unfold RDat.fetched RDat.blockOf iblk; rw [A_eq]; try rfl
theorem finds1 (c : Dev nD) (t : Fin cfg0.N) (Y) (h : (rdats m c).Finds 1 t Y) : Y = iblk m c 1 t := by
  obtain ⟨d, rfl⟩ := (rdats m c).finds_in_eq_fetched 1 rfl (fun _ _ _ => rfl) (fun _ _ _ h => h) t Y h
  unfold RDat.fetched RDat.blockOf iblk; rw [A_eq]; try rfl
theorem finds2 (c : Dev nD) (t : Fin cfg0.N) (Y) (h : (rdats m c).Finds 2 t Y) : Y = iblk m c 2 t := by
  obtain ⟨d, rfl⟩ := (rdats m c).finds_in_eq_fetched 2 rfl (fun _ _ _ => rfl) (fun _ _ _ h => h) t Y h
  unfold RDat.fetched RDat.blockOf iblk; rw [A_eq]; try rfl

/-! ## The body at any point -/

theorem hfirst (t : Fin cfg0.N) : first0 (grid0.coords t) ↔ t.val % 15 = 0 := by
  have ht : t.val < 120 := lt_of_lt_of_eq t.isLt hN0
  have e1 : (grid0.coords t 1).val = t.val / 1 % 15 := Pipeline.Grid.coords_val t 1 (by decide) rfl
  simp only [first0, e1]
  word_cmp

theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point: the run of the body at the first point of a block of rows or at a later one. -/
theorem body_obligation (c : Dev nD) : (rdats (F := F) m c).BodyObligation (defs₀ (F := F)) Variants.none () Set.univ := by
  intro t Y hY
  rw [bigSep_W0, bigSep_W0, defs₀_row]
  unfold bodyAt0
  rw [show (rdats m c).owesAt () t.succ = (rdats m c).owesAt () t.castSucc from rfl,
    show (rdats m c).Φ t.castSucc = PhiS m c t.val from rfl, show (rdats m c).Φ t.succ = PhiS m c (t.val + 1) from rfl]
  have y0 := finds0 m c t _ (hY 0)
  have y1 := finds1 m c t _ (hY 1)
  have y2 := finds2 m c t _ (hY 2)
  by_cases h0 : t.val % 15 = 0
  · have hr : k0_pay19 (Y 0) (Y 1) = rows m c t.val := by rw [y0, y1]; unfold rows; rw [base_self t h0]
    have hp : k0_pay20 (k0_pay19 (Y 0) (Y 1)) (Y 2) = prod m c t := by unfold prod; rw [hr, y2]
    have hS : PhiS m c t.val = Pipeline.ΦA spec0 c := if_pos h0
    have hS' : PhiS m c (t.val + 1) = iprop(iprop(owns (c : Thread nD τ) scM0_0 fullShare (rows m c t.val)) ∗ (∃ r, prngReg c r)) := by
      unfold PhiS; rw [if_neg (by omega)]; unfold rows; rw [base_succ t.val (by omega)]
    rw [hS, hS', PhiA0_eq]
    iintro ⟨⟨HS, Hg⟩, Ho, H0, H1, H2, H3, H4, H5, H6, H7, H8, H9, H10⟩
    iapply (bodyRun_A c (grid0.coords t) _ _ _ _ _ _ _ _ _ _ _ _ _ _ _ _ _ _ _ _ _ _ _ _ ((hfirst t).mpr h0) (Y 0) (Y 1) (Y 2) (Y 3) (Y 4) (Y 5) (Y 6) (Y 7) (Y 8) (Y 9) (Y 10) Set.univ _)
    rw [hp, hr]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexists _; isplitr; swap; · iexact H0
                    ipureintro; exact rfl
    isplitl [H1]; · iexists _; isplitr; swap; · iexact H1
                    ipureintro; exact rfl
    isplitl [H2]; · iexists _; isplitr; swap; · iexact H2
                    ipureintro; exact rfl
    isplitl [H3]; · iexists _; isplitr; swap; · iexact H3
                    ipureintro; exact rfl
    isplitl [H4]; · iexists _; isplitr; swap; · iexact H4
                    ipureintro; exact rfl
    isplitl [H5]; · iexists _; isplitr; swap; · iexact H5
                    ipureintro; exact rfl
    isplitl [H6]; · iexists _; isplitr; swap; · iexact H6
                    ipureintro; exact rfl
    isplitl [H7]; · iexists _; isplitr; swap; · iexact H7
                    ipureintro; exact rfl
    isplitl [H8]; · iexists _; isplitr; swap; · iexact H8
                    ipureintro; exact rfl
    isplitl [H9]; · iexists _; isplitr; swap; · iexact H9
                    ipureintro; exact rfl
    iexists _; isplitr; swap; · iexact H10
    ipureintro; exact rfl
  · have hp : k0_pay20 (rows m c t.val) (Y 2) = prod m c t := by unfold prod; rw [y2]
    have hS : PhiS m c t.val = iprop(iprop(owns (c : Thread nD τ) scM0_0 fullShare (rows m c t.val)) ∗ (∃ r, prngReg c r)) := if_neg h0
    have hS' : iprop(iprop(owns (c : Thread nD τ) scM0_0 fullShare (rows m c t.val)) ∗ (∃ r, prngReg c r)) ⊢ PhiS m c (t.val + 1) := by
      by_cases h1 : (t.val + 1) % 15 = 0
      · rw [show PhiS m c (t.val + 1) = Pipeline.ΦA spec0 c from if_pos h1, PhiA0_eq]
        iintro ⟨HS, Hg⟩
        isplitl [HS]
        · iexists _; iexact HS
        iexact Hg
      · rw [show PhiS m c (t.val + 1) = _ from if_neg h1]
        unfold rows
        rw [base_succ t.val h1]
    rw [hS]
    iintro ⟨⟨HS, Hg⟩, Ho, H0, H1, H2, H3, H4, H5, H6, H7, H8, H9, H10⟩
    iapply (bodyRun_B c (grid0.coords t) _ _ _ _ _ _ _ _ _ _ _ _ _ _ _ _ _ _ _ _ _ _ _ _ (fun h => h0 ((hfirst t).mp h)) (Y 0) (Y 1) (Y 2) (Y 3) (Y 4) (Y 5) (Y 6) (Y 7) (Y 8) (Y 9) (Y 10) (rows m c t.val) Set.univ _)
    rw [hp]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · iapply hS'
      isplitl [HS]; · iexact HS
      iexact Hg
    isplitl [Ho]; · iexact Ho
    isplitl [H0]; · iexists _; isplitr; swap; · iexact H0
                    ipureintro; exact rfl
    isplitl [H1]; · iexists _; isplitr; swap; · iexact H1
                    ipureintro; exact rfl
    isplitl [H2]; · iexists _; isplitr; swap; · iexact H2
                    ipureintro; exact rfl
    isplitl [H3]; · iexists _; isplitr; swap; · iexact H3
                    ipureintro; exact rfl
    isplitl [H4]; · iexists _; isplitr; swap; · iexact H4
                    ipureintro; exact rfl
    isplitl [H5]; · iexists _; isplitr; swap; · iexact H5
                    ipureintro; exact rfl
    isplitl [H6]; · iexists _; isplitr; swap; · iexact H6
                    ipureintro; exact rfl
    isplitl [H7]; · iexists _; isplitr; swap; · iexact H7
                    ipureintro; exact rfl
    isplitl [H8]; · iexists _; isplitr; swap; · iexact H8
                    ipureintro; exact rfl
    isplitl [H9]; · iexists _; isplitr; swap; · iexact H9
                    ipureintro; exact rfl
    iexists _; isplitr; swap; · iexact H10
    ipureintro; exact rfl

/-! ## The run and the frame -/

theorem PhiS_edge (c : Dev nD) (n : ℕ) (h : n % 15 = 0) : PhiS m c n = Pipeline.ΦA spec0 c := if_pos h

theorem hin (c : Dev nD) : Pipeline.ΦA spec0 c ⊢ (rdats m c).Φ 0 := by
  show _ ⊢ PhiS m c 0
  rw [PhiS_edge m c 0 rfl]

theorem hout (c : Dev nD) : (rdats m c).Φ (Fin.last cfg0.N) ⊢ Pipeline.ΦA spec0 c := by
  show PhiS m c (Fin.last cfg0.N).val ⊢ _
  rw [PhiS_edge m c _ (by rw [Fin.val_last, hN0])]

set_option backward.isDefEq.respectTransparency.types false in
/-- The launch: every array of the pipeline ends at contents the relations allow, and every semaphore counter at zero. -/
theorem run_main_quiescent : θ_run defs (onTc (τ := τ) (main (F := F))) (s₀ m ρ)
    (fun r => (RDat.FramePost cfg0 (rdats m) (V m)) r ∧ r.2.sem = fun _ => 0) :=
  RDat.θ_run_frame_track (Q' := _) cfgs (0 : Fin 1) launch0 defs₀ Variants.none (rdats m) m ρ main
    (hbody := fun c => body_obligation m c) (hshare := fun c w => by unfold RDat.share; split <;> rfl)
    (howed := fun _ _ => rfl) (V := V m) (hmain := hmain m Variants.none) (hA := A_eq m) (hin := hin m) (hout := hout m)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main_quiescent m ρ)

end Cert.Kernel5Ideal.Project

end
-- ==== Proof.ProjectBits.lean ====
/-
  The prompt group's input projection, the program over machine words: it is the idealised program's own text, so its frame is that one.
-/
module

public import proofs.«01_k».proof.Proof.ProjectFrame
public import proofs.«01_k».proof.Proof.Gen.Kernel5.Frame

@[expose] public section

set_option maxRecDepth 100000

noncomputable section

namespace Cert.Kernel5.Project

open Cert.Kernel5
open Idealize.ShloMosaic Idealize.ShloMosaic.TcCoe
open Idealize.SL.Sem

variable {F : FTy → Type} [FloatOps F]

theorem body_table : Cert.Kernel5.defs₀ (F := F) = Cert.Kernel5Ideal.defs₀ (F := F) := by
  unfold Cert.Kernel5.defs₀ Cert.Kernel5Ideal.defs₀
  refine congrArg Defs.onTc ?_
  funext i a
  match i, a with
  | 0, (t, s) => rfl
  | ⟨_ + 1, h⟩, _ => exact absurd h (Nat.not_lt.2 (Nat.le_add_left _ _))

set_option maxHeartbeats 2000000 in
theorem table : Cert.Kernel5.defs (F := F) = Cert.Kernel5Ideal.defs (F := F) :=
  congrArg (Pipeline.defs (Cert.Kernel5Ideal.pcfgs (F := F))) body_table

set_option maxHeartbeats 2000000 in
theorem program : Cert.Kernel5.main (F := F) = Cert.Kernel5Ideal.main (F := F) := by rfl

set_option maxHeartbeats 2000000 in
/-- The frame: the argument arrays end unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [program, table]
  exact Cert.Kernel5Ideal.Project.frame (F := F) m ρ

end Cert.Kernel5.Project

end
-- ==== Proof.ProjectTerm.lean ====
/-
  The prompt group's input projection, entry by entry: the product of the normalised rows with the weights in the kernel's
  order, what the region reads, and the same entries in the reference's terms.
-/
module

public import proofs.«01_k».proof.Proof.Memory
public import proofs.«01_k».proof.Proof.Gen.Kernel5Ideal.Frame
public import proofs.«01_k».proof.Proof.Gen.Kernel5Ideal.Skeleton
public import Idealize.ShloMosaic.Lib.Pointwise

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Idealize.SL Idealize.SL.Sem
open Cert.Kernel2Ideal.Memory (nrm)

variable (m : (ℓ : Loc nD τ sig) → Buf (Elt Ideal) ℓ)

/-! ## The product -/

/-- Entry `k` of column `n` of the weights as launched. -/
def col (w : FVec Ideal S2048x7504 .f32) (n : ℕ) (k : Fin 2048) : EReal := w (ix2 k ⟨n % 7504, Nat.mod_lt _ (by decide)⟩)

/-- The weights in the kernel's order: the main part, the queries scaled, the keys, values and index queries, the tail, zeros. -/
def wAll (w : FVec Ideal S2048x7504 .f32) (n : ℕ) (k : Fin 2048) : EReal :=
  if n < 3072 then col w n k else if n < 4096 then col w (n + 256) k * Ideal.ofBits FTy.f32 0x3E000000#32
  else if n < 7168 then col w (n + 256) k else if n < 7424 then col w (n - 4096) k else if n < 7504 then col w n k
  else 0

theorem col_eq (w : FVec Ideal S2048x7504 .f32) (k : Fin 2048) (a b : ℕ) (h : a < 7504) (e : a = b) :
    w (ix2 k ⟨a, h⟩) = col w b k := by
  subst e; exact congrArg (fun j => w (ix2 k j)) (Fin.ext (Nat.mod_eq_of_lt h).symm)

/-- The weights in the kernel's order, as pieces put one after another. -/
theorem wAll_rows (w : FVec Ideal S2048x7504 .f32) (n : ℕ) (k : Fin 2048) (hn : n < 7680) :
    (if h : n < 3072 then w (ix2 k ⟨n, by omega⟩)
      else if h : n - 3072 < 1024 then w (ix2 k ⟨3328 + (n - 3072), by omega⟩) * Ideal.ofBits FTy.f32 0x3E000000#32
      else if h : n - 3072 - 1024 < 3072 then w (ix2 k ⟨4352 + (n - 3072 - 1024), by omega⟩)
      else if h : n - 3072 - 1024 - 3072 < 256 then w (ix2 k ⟨3072 + (n - 3072 - 1024 - 3072), by omega⟩)
      else if h : n - 3072 - 1024 - 3072 - 256 < 80 then w (ix2 k ⟨7424 + (n - 3072 - 1024 - 3072 - 256), by omega⟩)
      else 0) = wAll w n k := by
  unfold wAll
  by_cases h1 : n < 3072
  · rw [dif_pos h1, if_pos h1]; exact col_eq w k _ _ _ rfl
  rw [dif_neg h1, if_neg h1]
  by_cases h2 : n - 3072 < 1024
  · rw [dif_pos h2, if_pos (by omega), col_eq w k _ _ _ (show 3328 + (n - 3072) = n + 256 by omega)]
  rw [dif_neg h2, if_neg (by omega)]
  by_cases h3 : n - 3072 - 1024 < 3072
  · rw [dif_pos h3, if_pos (by omega), col_eq w k _ _ _ (show 4352 + (n - 3072 - 1024) = n + 256 by omega)]
  rw [dif_neg h3, if_neg (by omega)]
  by_cases h4 : n - 3072 - 1024 - 3072 < 256
  · rw [dif_pos h4, if_pos (by omega), col_eq w k _ _ _ (show 3072 + (n - 3072 - 1024 - 3072) = n - 4096 by omega)]
  rw [dif_neg h4, if_neg (by omega)]
  by_cases h5 : n - 3072 - 1024 - 3072 - 256 < 80
  · rw [dif_pos h5, if_pos (by omega), col_eq w k _ _ _ (show 7424 + (n - 3072 - 1024 - 3072 - 256) = n by omega)]
  rw [dif_neg h5, if_neg (by omega)]

/-- Row `r` of the prompts as launched. -/
def row (x : FVec Ideal S4x2048x2048 .f32) (r : ℕ) (k : Fin 2048) : EReal :=
  x (ix3 ⟨r / 2048 % 4, Nat.mod_lt _ (by decide)⟩ ⟨r % 2048, Nat.mod_lt _ (by decide)⟩ k)

/-- Entry `r`, `n` of the product of the normalised rows with the weights in the kernel's order. -/
def P (x : FVec Ideal S4x2048x2048 .f32) (g : FVec Ideal S2048 .f32) (w : FVec Ideal S2048x7504 .f32) (r n : ℕ) : EReal :=
  ∑ k : Fin 2048, nrm (row x r) (fun j => g (ix1 j)) k * wAll w n k

/-- Columns of the product from `512 * lo` on, as an array's contents. -/
def flatP (x : FVec Ideal S4x2048x2048 .f32) (g : FVec Ideal S2048 .f32) (w : FVec Ideal S2048x7504 .f32) (S : Shape) (h : 1 < S.rank) (lo : ℕ) :
    S.Idx → EReal := fun i => P x g w (i ⟨0, by omega⟩).val (512 * lo + (i ⟨1, h⟩).val)

/-- Sixteen heads of the product from `512 * lo` on, row after row of heads. -/
def headedP (x : FVec Ideal S4x2048x2048 .f32) (g : FVec Ideal S2048 .f32) (w : FVec Ideal S2048x7504 .f32) (lo : ℕ) :
    S131072x64.Idx → EReal := fun i => P x g w ((i 0).val / 16) (512 * lo + (64 * ((i 0).val % 16) + (i 1).val))

theorem pay19_at (x : Vec Ideal S1024x2048 .f32) (g : Vec Ideal S1x2048 .f32) (r : Fin 1024) (k : Fin 2048) :
    k0_pay19 x g (ix2 r k) = nrm (fun j => x (ix2 r j)) (fun j => g (ix2 0 j)) k := by
  unfold nrm
  pointwise [k0_pay19]

theorem pay20_at (z : Vec Ideal S1024x2048 .bf16) (w : Vec Ideal S512x2048 .bf16) (r : Fin 1024) (n : Fin 512) :
    k0_pay20 z w (ix2 r n) = ∑ k : Fin 2048, z (ix2 r k) * w (ix2 n k) := by
  pointwise [k0_pay20]

/-! ## The arrays the region reads -/

/-- The weights as the host leaves them: the columns as rows, the queries' scaled, in the kernel's order. -/
theorem V_v10_eq (c : Dev nD) (A : FVec Ideal S7504x2048 .f32) (hA : A = transpose S7504x2048 [1, 0] (m ((c : Thread nD τ).loc main_arg2)) transposes_S2048x7504_S7504x2048_1_0) :
    V m c main_v10 = (truncf .bf16 (concatenate S7680x2048 0
      [⟨S3072x2048, (extractStridedSlice S3072x2048 ![0, 0] A slices_S7504x2048_S3072x2048_0_0 : FVec Ideal S3072x2048 .f32)⟩,
        ⟨S1024x2048, (mulf (extractStridedSlice S1024x2048 ![3328, 0] A slices_S7504x2048_S1024x2048_3328_0)
          (broadcastInDim S1024x2048 ![] bcast_S_S1024x2048 (constant S_ FTy.f32 0x3E000000#32)) : FVec Ideal S1024x2048 .f32)⟩,
        ⟨S3072x2048, (extractStridedSlice S3072x2048 ![4352, 0] A slices_S7504x2048_S3072x2048_4352_0 : FVec Ideal S3072x2048 .f32)⟩,
        ⟨S256x2048, (extractStridedSlice S256x2048 ![3072, 0] A slices_S7504x2048_S256x2048_3072_0 : FVec Ideal S256x2048 .f32)⟩,
        ⟨S80x2048, (extractStridedSlice S80x2048 ![7424, 0] A slices_S7504x2048_S80x2048_7424_0 : FVec Ideal S80x2048 .f32)⟩,
        ⟨S176x2048, (broadcastInDim S176x2048 ![] bcast_S_S176x2048 (constant S_ FTy.f32 0x00000000#32) : FVec Ideal S176x2048 .f32)⟩]
        concatenates_S3072x2048_S1024x2048_S3072x2048_S256x2048_S80x2048_S176x2048_S7680x2048_d0) bitsLt_bf16_f32 : FVec Ideal S7680x2048 .bf16) := by
  subst hA
  unfold V hostOps0
  after_results_simp
  dsimp only [Matrix.cons_val]
  rfl

theorem V_v10 (c : Dev nD) (n : Fin 7680) (k : Fin 2048) : V m c main_v10 (ix2 n k) = wAll (m ((c : Thread nD τ).loc main_arg2)) n.val k := by
  rw [V_v10_eq m c _ rfl]
  pointwise []
  exact wAll_rows _ n.val k n.isLt

theorem V_v11 (c : Dev nD) (r : Fin 8192) (k : Fin 2048) : V m c main_v11 (ix2 r k) = row (m ((c : Thread nD τ).loc main_arg0)) r.val k := by
  unfold V hostOps0 row
  after_results
  pointwise []
  refine congrArg _ (funext fun a => Fin.ext ?_)
  match a with
  | ⟨0, _⟩ => show _ = r.val / 2048 % 4; exact (Nat.mod_eq_of_lt (by have := r.isLt; omega : r.val / 2048 < 4)).symm
  | ⟨1, _⟩ => rfl
  | ⟨2, _⟩ => rfl
theorem V_v12 (c : Dev nD) (k : Fin 2048) : V m c main_v12 (ix2 0 k) = m ((c : Thread nD τ).loc main_arg1) (ix1 k) := by
  unfold V hostOps0
  after_results
  pointwise []

/-! ## The blocks -/

theorem idx : ∀ t : Fin grid0.N, (win0_0.index t (0 : Fin 2) = t.val / 15 ∧ win0_0.index t (1 : Fin 2) = 0)
    ∧ (win0_1.index t (0 : Fin 2) = 0 ∧ win0_1.index t (1 : Fin 2) = 0)
    ∧ (win0_2.index t (0 : Fin 2) = t.val % 15 ∧ win0_2.index t (1 : Fin 2) = 0) := by decide +kernel

theorem blk0 (c : Dev nD) (t : Fin cfg0.N) (r : Fin 1024) (k : Fin 2048) :
    iblk m c 0 t (ix2 r k) = row (m ((c : Thread nD τ).loc main_arg0)) (1024 * (t.val / 15) + r.val) k := by
  obtain ⟨⟨h0, h1⟩, -⟩ := idx t
  have ht : t.val < 120 := lt_of_lt_of_eq t.isLt N_0
  unfold iblk; rw [View.read_apply]
  show V m c main_v11 _ = _
  refine (congrArg (V m c main_v11) (?_ : _ = (ix2 ⟨1024 * (t.val / 15) + r.val, by omega⟩ k : S8192x2048.Idx))).trans (V_v11 m c _ _)
  funext x; apply Fin.ext
  match x with
  | ⟨0, _⟩ => show win0_0.index t (0 : Fin 2) * 1024 + 1 * r.val = 1024 * (t.val / 15) + r.val; rw [h0]; omega
  | ⟨1, _⟩ => show win0_0.index t (1 : Fin 2) * 2048 + 1 * k.val = k.val; rw [h1]; omega

theorem blk1 (c : Dev nD) (t : Fin cfg0.N) (k : Fin 2048) :
    iblk m c 1 t (ix2 0 k) = m ((c : Thread nD τ).loc main_arg1) (ix1 k) := by
  obtain ⟨-, ⟨h0, h1⟩, -⟩ := idx t
  unfold iblk; rw [View.read_apply]
  show V m c main_v12 _ = _
  refine (congrArg (V m c main_v12) (?_ : _ = (ix2 0 k : S1x2048.Idx))).trans (V_v12 m c _)
  funext x; apply Fin.ext
  match x with
  | ⟨0, _⟩ => show win0_1.index t (0 : Fin 2) * 1 + 1 * 0 = 0; rw [h0]
  | ⟨1, _⟩ => show win0_1.index t (1 : Fin 2) * 2048 + 1 * k.val = k.val; rw [h1]; omega

theorem blk2 (c : Dev nD) (t : Fin cfg0.N) (n : Fin 512) (k : Fin 2048) :
    iblk m c 2 t (ix2 n k) = wAll (m ((c : Thread nD τ).loc main_arg2)) (512 * (t.val % 15) + n.val) k := by
  obtain ⟨-, -, h0, h1⟩ := idx t
  unfold iblk; rw [View.read_apply]
  show V m c main_v10 _ = _
  refine (congrArg (V m c main_v10) (?_ : _ = (ix2 ⟨512 * (t.val % 15) + n.val, by omega⟩ k : S7680x2048.Idx))).trans (V_v10 m c _ _)
  funext x; apply Fin.ext
  match x with
  | ⟨0, _⟩ => show win0_2.index t (0 : Fin 2) * 512 + 1 * n.val = 512 * (t.val % 15) + n.val; rw [h0]; omega
  | ⟨1, _⟩ => show win0_2.index t (1 : Fin 2) * 2048 + 1 * k.val = k.val; rw [h1]; omega

end Cert.Kernel5Ideal.Project

end
-- ==== Proof.ProjectValue.lean ====
/-
  The prompt group's input projection, the idealised program's results: what each output window's buffer holds when it is
  written back, and the arrays after the run.
-/
module

public import proofs.«01_k».proof.Proof.ProjectFrame
public import proofs.«01_k».proof.Proof.ProjectTerm
public import Idealize.ShloMosaic.Lib.Pipeline.ArrRel
public import Idealize.ShloMosaic.Lib.Pipeline.ValueKit.Geometry

@[expose] public section

set_option maxRecDepth 16384

noncomputable section

namespace Cert.Kernel5Ideal.Project

open Cert.Kernel5Ideal Cert.Kernel5Ideal.Gen
open Idealize.ShloMosaic Idealize.ShloMosaic.TcCoe Idealize.ShloMosaic.Tactic
open Idealize.SL Idealize.SL.Sem
open Idealize.ShloMosaic.Pipeline (Dat Cfg Window RDat)

variable (m : (ℓ : Loc nD τ sig) → Buf (Elt Ideal) ℓ) (ρ : Dev nD → PrngReg)

/-- The product of the arguments a device's memory holds. -/
def PP (c : Dev nD) (r n : ℕ) : EReal :=
  P (m ((c : Thread nD τ).loc main_arg0)) (m ((c : Thread nD τ).loc main_arg1)) (m ((c : Thread nD τ).loc main_arg2)) r n

/-- Columns of that product from `512 * lo` on, and sixteen heads of it. -/
def flat (c : Dev nD) (S : Shape) (h : 1 < S.rank) (lo : ℕ) : S.Idx → EReal :=
  flatP (m ((c : Thread nD τ).loc main_arg0)) (m ((c : Thread nD τ).loc main_arg1)) (m ((c : Thread nD τ).loc main_arg2)) S h lo
def headed (c : Dev nD) (lo : ℕ) : S131072x64.Idx → EReal :=
  headedP (m ((c : Thread nD τ).loc main_arg0)) (m ((c : Thread nD τ).loc main_arg1)) (m ((c : Thread nD τ).loc main_arg2)) lo

theorem prod_at (c : Dev nD) (t : Fin cfg0.N) (r : Fin 1024) (n : Fin 512) :
    prod m c t (ix2 r n) = PP m c (1024 * (t.val / 15) + r.val) (512 * (t.val % 15) + n.val) := by
  unfold prod
  rw [pay20_at]
  refine Finset.sum_congr rfl fun k _ => congr_arg₂ (· * ·) ?_ (blk2 m c t n k)
  unfold rows
  rw [pay19_at]
  simp only [blk0, blk1]
  have ht : t.val < 120 := lt_of_lt_of_eq t.isLt hN0
  rw [show (base t.val).val / 15 = t.val / 15 from by show 15 * (t.val / 15) % 120 / 15 = _; omega]

/-! ## The schedule -/

/-- The points of a block of rows at which a window is stored run from `lo` to below `hi`; after `hi` the buffer is not written
    back before the block of rows is done; and at a write-back, which block of the array it is. -/
def Sched (flush : Fin grid0.N → Bool) (i0 i1 : Fin grid0.N → ℕ) (cond : grid0.Coords → BitVec 1) (lo hi : ℕ) : Prop :=
  ∀ t : Fin grid0.N, (cond (grid0.coords t) = 1#1 ↔ lo ≤ t.val % 15 ∧ t.val % 15 < hi)
    ∧ (hi ≤ t.val % 15 → flush ⟨t.val - 1, Nat.lt_of_le_of_lt (Nat.sub_le _ _) t.isLt⟩ = false)
    ∧ (flush t = true → lo ≤ t.val % 15 ∧ i0 t = t.val / 15 ∧ i1 t + lo = min (t.val % 15) (hi - 1))

instance (flush : Fin grid0.N → Bool) (i0 i1 : Fin grid0.N → ℕ) (cond : grid0.Coords → BitVec 1) (lo hi : ℕ) :
    Decidable (Sched flush i0 i1 cond lo hi) := by unfold Sched; infer_instance

theorem sched3 : Sched win0_3.flush (fun t => win0_3.index t (0 : Fin 2)) (fun t => win0_3.index t (1 : Fin 2)) k0_cond2 0 6 := by decide +kernel
theorem sched4 : Sched win0_4.flush (fun t => win0_4.index t (0 : Fin 2)) (fun t => win0_4.index t (1 : Fin 2)) k0_cond3 6 8 := by decide +kernel
theorem sched6 : Sched win0_6.flush (fun t => win0_6.index t (0 : Fin 2)) (fun t => win0_6.index t (1 : Fin 2)) k0_cond7 8 10 := by decide +kernel
theorem sched8 : Sched win0_8.flush (fun t => win0_8.index t (0 : Fin 2)) (fun t => win0_8.index t (1 : Fin 2)) k0_cond11 10 12 := by decide +kernel
theorem sched9 : Sched win0_9.flush (fun t => win0_9.index t (0 : Fin 2)) (fun t => win0_9.index t (1 : Fin 2)) k0_cond12 12 14 := by decide +kernel
theorem sched10 : Sched win0_10.flush (fun t => win0_10.index t (0 : Fin 2)) (fun t => win0_10.index t (1 : Fin 2)) k0_cond13 14 15 := by decide +kernel

/-- The two windows of heads: two points of a block of rows each store one half, and the buffer is written back once, at the end. -/
def SchedHeads (flush : Fin grid0.N → Bool) (i0 i1 : Fin grid0.N → ℕ) (a p q : grid0.Coords → BitVec 1) (lo : ℕ) : Prop :=
  ∀ t : Fin grid0.N, (a (grid0.coords t) = 1#1 ∧ p (grid0.coords t) = 1#1 ↔ t.val % 15 = lo)
    ∧ (a (grid0.coords t) = 1#1 ∧ q (grid0.coords t) = 1#1 ↔ t.val % 15 = lo + 1)
    ∧ (flush t = true ↔ t.val % 15 = 14) ∧ (flush t = true → i0 t = t.val / 15 ∧ i1 t = 0)

instance (flush : Fin grid0.N → Bool) (i0 i1 : Fin grid0.N → ℕ) (a p q : grid0.Coords → BitVec 1) (lo : ℕ) :
    Decidable (SchedHeads flush i0 i1 a p q lo) := by unfold SchedHeads; infer_instance

theorem sched5 : SchedHeads win0_5.flush (fun t => win0_5.index t (0 : Fin 2)) (fun t => win0_5.index t (1 : Fin 2)) k0_cond4 k0_cond5 k0_cond6 8 := by decide +kernel
theorem sched7 : SchedHeads win0_7.flush (fun t => win0_7.index t (0 : Fin 2)) (fun t => win0_7.index t (1 : Fin 2)) k0_cond8 k0_cond9 k0_cond10 10 := by decide +kernel

/-! ## What a buffer holds when it is written back -/

/-- An entry that only the points from `lo` to below `hi` of a block of rows store: after a later point of the block it holds
    what the last of them stored. -/
theorem keep (c : Dev nD) (w : Fin cfg0.W) (hio : (cfg0.win w).isOut = true) (i : (cfg0.win w).block.Idx) (W : Fin cfg0.N → Elt Ideal (cfg0.win w).elt) (lo hi : ℕ) (hlo : lo < hi)
    (haft : ∀ t Y X, aft m c w t Y X → (lo ≤ t.val % 15 ∧ t.val % 15 < hi → X i = W t) ∧ (¬(lo ≤ t.val % 15 ∧ t.val % 15 < hi) → X i = Y i))
    (hfl : ∀ t : Fin cfg0.N, hi ≤ t.val % 15 → (cfg0.win w).flush ⟨t.val - 1, Nat.lt_of_le_of_lt (Nat.sub_le _ _) t.isLt⟩ = false) :
    ∀ (n : ℕ) (t : Fin cfg0.N), t.val = n → ∀ X, (rdats m c).Leaves w t X → lo ≤ n % 15 →
      ∃ s : Fin cfg0.N, X i = W s ∧ s.val / 15 = n / 15 ∧ s.val % 15 = min (n % 15) (hi - 1) := by
  intro n
  induction n with
  | zero =>
    rintro t ht X ⟨Y, -, hA⟩ h
    exact ⟨t, (haft t Y X hA).1 (by omega), by omega, by omega⟩
  | succ n ih =>
    rintro t ht X ⟨Y, hF, hA⟩ h
    by_cases hc : t.val % 15 < hi
    · exact ⟨t, (haft t Y X hA).1 (by omega), by omega, by omega⟩
    · have hX := (haft t Y X hA).2 (by omega)
      rcases ((rdats m c).finds_of_pos ((cfg0.win w).fetch_out hio _) (by omega) Y).mp hF with hf | hL
      · rw [hfl t (by omega)] at hf; cases hf
      · obtain ⟨s, hs, h1, h2⟩ := ih ⟨t.val - 1, Nat.lt_of_le_of_lt (Nat.sub_le _ _) t.isLt⟩ (by show t.val - 1 = n; omega) Y hL (by omega)
        exact ⟨s, hX.trans hs, by omega, by omega⟩

/-- A window that is stored whole, entry by entry, when it is written back. -/
theorem flat_at (c : Dev nD) (w : Fin cfg0.W) (hio : (cfg0.win w).isOut = true) (i : (cfg0.win w).block.Idx)
    (W : Fin cfg0.N → (cfg0.win w).block.Idx → Elt Ideal (cfg0.win w).elt) (cond : grid0.Coords → BitVec 1) (lo hi : ℕ) (hlo : lo < hi)
    (haft : ∀ t Y X, aft m c w t Y X → X = if cond (grid0.coords t) = 1#1 then W t else Y) (i0 i1 : Fin grid0.N → ℕ)
    (hs : Sched (cfg0.win w).flush i0 i1 cond lo hi) (t : Fin cfg0.N) (hf : (cfg0.win w).flush t = true) (X) (hX : (rdats m c).Leaves w t X) :
    ∃ s : Fin cfg0.N, X i = W s i ∧ s.val / 15 = i0 t ∧ s.val % 15 = lo + i1 t := by
  obtain ⟨s, h1, h2, h3⟩ := keep m c w hio i (fun t => W t i) lo hi hlo (fun t Y X h => by
      rw [haft t Y X h, ← (hs t).1]
      exact ⟨fun h => by rw [if_pos h], fun h => by rw [if_neg h]⟩)
    (fun t h => (hs t).2.1 h) t.val t rfl X hX ((hs t).2.2 hf).1
  obtain ⟨-, h4, h5⟩ := (hs t).2.2 hf
  exact ⟨s, h1, by omega, by omega⟩

/-- A window of heads, entry by entry, when it is written back: `u` is the head. -/
theorem heads_at (c : Dev nD) (w : Fin cfg0.W) (hio : (cfg0.win w).isOut = true) (i : (cfg0.win w).block.Idx) (u : ℕ) (hu : u < 16)
    (W : Fin cfg0.N → Elt Ideal (cfg0.win w).elt) (a p q : grid0.Coords → BitVec 1) (lo : ℕ) (hlo : lo < 13)
    (haft : ∀ t Y X, aft m c w t Y X → X i = if a (grid0.coords t) = 1#1 ∧ q (grid0.coords t) = 1#1 ∧ 8 ≤ u then W t
      else if a (grid0.coords t) = 1#1 ∧ p (grid0.coords t) = 1#1 ∧ u < 8 then W t else Y i) (i0 i1 : Fin grid0.N → ℕ)
    (hs : SchedHeads (cfg0.win w).flush i0 i1 a p q lo) (t : Fin cfg0.N) (hf : (cfg0.win w).flush t = true) (X) (hX : (rdats m c).Leaves w t X) :
    ∃ s : Fin cfg0.N, X i = W s ∧ s.val / 15 = i0 t ∧ s.val % 15 = lo + u / 8 := by
  have h14 := ((hs t).2.2.1).mp hf
  obtain ⟨s, h1, h2, h3⟩ := keep m c w hio i W (lo + u / 8) (lo + u / 8 + 1) (by omega) (fun t Y X h => by
      obtain ⟨hp, hq, -⟩ := hs t
      rw [haft t Y X h]
      by_cases h8 : 8 ≤ u
      · have e : (lo + u / 8 ≤ t.val % 15 ∧ t.val % 15 < lo + u / 8 + 1) ↔ a (grid0.coords t) = 1#1 ∧ q (grid0.coords t) = 1#1 ∧ 8 ≤ u := by
          rw [← and_assoc, hq]; omega
        rw [e]
        refine ⟨fun h => by rw [if_pos h], fun h => by rw [if_neg h, if_neg (fun h => absurd h.2.2 (by omega))]⟩
      · have e : (lo + u / 8 ≤ t.val % 15 ∧ t.val % 15 < lo + u / 8 + 1) ↔ a (grid0.coords t) = 1#1 ∧ p (grid0.coords t) = 1#1 ∧ u < 8 := by
          rw [← and_assoc, hp]; omega
        rw [e, if_neg (fun h => h8 h.2.2)]
        exact ⟨fun h => by rw [if_pos h], fun h => by rw [if_neg h]⟩)
    (fun t h => Bool.eq_false_iff.mpr fun hf => by
      have h := ((hs _).2.2.1).mp hf
      have h' : (t.val - 1) % 15 = 14 := h
      omega) t.val t rfl X hX (by omega)
  exact ⟨s, h1, h2.trans ((hs t).2.2.2 hf).1.symm, by omega⟩

theorem byHead_at (c : Dev nD) (t : Fin cfg0.N) (y : S16384x64.Idx) :
    byHead (prod m c t) y = PP m c (1024 * (t.val / 15) + (y 0).val / 16) (512 * (t.val % 15) + (64 * ((y 0).val % 16 % 8) + (y 1).val)) :=
  prod_at m c t _ _

/-! ## The arrays after the run -/

theorem flat_eq (c : Dev nD) (S : Shape) (h : 1 < S.rank) (lo : ℕ) (i : S.Idx) (s r n i0 i1 : ℕ) (h2 : s / 15 = i0) (h3 : s % 15 = lo + i1)
    (e0 : (i ⟨0, by omega⟩).val = i0 * 1024 + 1 * r) (e1 : (i ⟨1, h⟩).val = i1 * 512 + 1 * n) :
    PP m c (1024 * (s / 15) + r) (512 * (s % 15) + n) = flat m c S h lo i := by
  unfold flat flatP PP
  rw [e0, e1, h2, h3]
  exact congr_arg₂ (P _ _ _) (by omega) (by omega)

theorem headed_eq (c : Dev nD) (lo : ℕ) (i : S131072x64.Idx) (s r n i0 : ℕ) (h2 : s / 15 = i0) (h3 : s % 15 = lo + r % 16 / 8)
    (e0 : (i 0).val = i0 * 16384 + 1 * r) (e1 : (i 1).val = 0 * 64 + 1 * n) :
    PP m c (1024 * (s / 15) + r / 16) (512 * (s % 15) + (64 * (r % 16 % 8) + n)) = headed m c lo i := by
  unfold headed headedP PP
  rw [e0, e1, h2, h3]
  exact congr_arg₂ (P _ _ _) (by omega) (by omega)

section
variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdats m c).Leaves w u (after w u))
include hL

theorem arr3 : ((rdats m c).withAfter after).arrAt 3 cfg0.N = flat m c S8192x3072 (by decide) 0 := by
  refine ((rdats m c).withAfter after).arrAt_eq_of_covers 3 _ (by decide +kernel) fun t hf y => ?_
  obtain ⟨s, h1, h2, h3⟩ := flat_at m c 3 rfl y (fun t => prod m c t) k0_cond2 0 6 (by decide) (fun _ _ _ h => h) _ _ sched3 t hf _ (hL 3 t hf)
  exact (h1.trans (prod_at m c s (y 0) (y 1))).trans (flat_eq m c S8192x3072 _ _ _ s.val _ _ _ _ h2 h3 rfl rfl)

theorem arr4 : ((rdats m c).withAfter after).arrAt 4 cfg0.N = flat m c S8192x1024 (by decide) 6 := by
  refine ((rdats m c).withAfter after).arrAt_eq_of_covers 4 _ (by decide +kernel) fun t hf y => ?_
  obtain ⟨s, h1, h2, h3⟩ := flat_at m c 4 rfl y (fun t => prod m c t) k0_cond3 6 8 (by decide) (fun _ _ _ h => h) _ _ sched4 t hf _ (hL 4 t hf)
  exact (h1.trans (prod_at m c s (y 0) (y 1))).trans (flat_eq m c S8192x1024 _ _ _ s.val _ _ _ _ h2 h3 rfl rfl)

theorem arr6 : ((rdats m c).withAfter after).arrAt 6 cfg0.N = flat m c S8192x1024 (by decide) 8 := by
  refine ((rdats m c).withAfter after).arrAt_eq_of_covers 6 _ (by decide +kernel) fun t hf y => ?_
  obtain ⟨s, h1, h2, h3⟩ := flat_at m c 6 rfl y (fun t => prod m c t) k0_cond7 8 10 (by decide) (fun _ _ _ h => h) _ _ sched6 t hf _ (hL 6 t hf)
  exact (h1.trans (prod_at m c s (y 0) (y 1))).trans (flat_eq m c S8192x1024 _ _ _ s.val _ _ _ _ h2 h3 rfl rfl)

theorem arr8 : ((rdats m c).withAfter after).arrAt 8 cfg0.N = flat m c S8192x1024 (by decide) 10 := by
  refine ((rdats m c).withAfter after).arrAt_eq_of_covers 8 _ (by decide +kernel) fun t hf y => ?_
  obtain ⟨s, h1, h2, h3⟩ := flat_at m c 8 rfl y (fun t => prod m c t) k0_cond11 10 12 (by decide) (fun _ _ _ h => h) _ _ sched8 t hf _ (hL 8 t hf)
  exact (h1.trans (prod_at m c s (y 0) (y 1))).trans (flat_eq m c S8192x1024 _ _ _ s.val _ _ _ _ h2 h3 rfl rfl)

theorem arr9 : ((rdats m c).withAfter after).arrAt 9 cfg0.N = flat m c S8192x1024 (by decide) 12 := by
  refine ((rdats m c).withAfter after).arrAt_eq_of_covers 9 _ (by decide +kernel) fun t hf y => ?_
  obtain ⟨s, h1, h2, h3⟩ := flat_at m c 9 rfl y (fun t => prod m c t) k0_cond12 12 14 (by decide) (fun _ _ _ h => h) _ _ sched9 t hf _ (hL 9 t hf)
  exact (h1.trans (prod_at m c s (y 0) (y 1))).trans (flat_eq m c S8192x1024 _ _ _ s.val _ _ _ _ h2 h3 rfl rfl)

theorem arr10 : ((rdats m c).withAfter after).arrAt 10 cfg0.N = flat m c S8192x512 (by decide) 14 := by
  refine ((rdats m c).withAfter after).arrAt_eq_of_covers 10 _ (by decide +kernel) fun t hf y => ?_
  obtain ⟨s, h1, h2, h3⟩ := flat_at m c 10 rfl y (fun t => prod m c t) k0_cond13 14 15 (by decide) (fun _ _ _ h => h) _ _ sched10 t hf _ (hL 10 t hf)
  exact (h1.trans (prod_at m c s (y 0) (y 1))).trans (flat_eq m c S8192x512 _ _ _ s.val _ _ _ _ h2 h3 rfl rfl)

theorem arr5 : ((rdats m c).withAfter after).arrAt 5 cfg0.N = headed m c 8 := by
  refine ((rdats m c).withAfter after).arrAt_eq_of_covers 5 _ (by decide +kernel) fun t hf y => ?_
  obtain ⟨s, h1, h2, h3⟩ := heads_at m c 5 rfl y ((y 0).val % 16) (Nat.mod_lt _ (by decide)) (fun t => byHead (prod m c t) y) k0_cond4 k0_cond5 k0_cond6 8 (by decide)
    (fun t Y X h => congrFun h y) _ _ sched5 t hf _ (hL 5 t hf)
  refine (h1.trans (byHead_at m c s y)).trans (headed_eq m c _ _ s.val _ _ _ h2 h3 rfl ?_)
  exact congrArg (fun j => j * 64 + 1 * (y 1).val) ((sched5 t).2.2.2 hf).2

theorem arr7 : ((rdats m c).withAfter after).arrAt 7 cfg0.N = headed m c 10 := by
  refine ((rdats m c).withAfter after).arrAt_eq_of_covers 7 _ (by decide +kernel) fun t hf y => ?_
  obtain ⟨s, h1, h2, h3⟩ := heads_at m c 7 rfl y ((y 0).val % 16) (Nat.mod_lt _ (by decide)) (fun t => byHead (prod m c t) y) k0_cond8 k0_cond9 k0_cond10 10 (by decide)
    (fun t Y X h => congrFun h y) _ _ sched7 t hf _ (hL 7 t hf)
  refine (h1.trans (byHead_at m c s y)).trans (headed_eq m c _ _ s.val _ _ _ h2 h3 rfl ?_)
  exact congrArg (fun j => j * 64 + 1 * (y 1).val) ((sched7 t).2.2.2 hf).2

end

/-- The run, with the results: the columns of the product that each result takes. -/
theorem run : θ_run defs (onTc (τ := τ) (main (F := Ideal))) ⟨m, fun _ => 0, ρ⟩ (fun r => ∀ c : Dev nD,
      r.2.mem ((c.tc : Thread nD τ).loc main_v13_0) = flat m c S8192x3072 (by decide) 0
      ∧ r.2.mem ((c.tc : Thread nD τ).loc main_v13_1) = flat m c S8192x1024 (by decide) 6
      ∧ r.2.mem ((c.tc : Thread nD τ).loc main_v13_2) = headed m c 8
      ∧ r.2.mem ((c.tc : Thread nD τ).loc main_v13_3) = flat m c S8192x1024 (by decide) 8
      ∧ r.2.mem ((c.tc : Thread nD τ).loc main_v13_4) = headed m c 10
      ∧ r.2.mem ((c.tc : Thread nD τ).loc main_v13_5) = flat m c S8192x1024 (by decide) 10
      ∧ r.2.mem ((c.tc : Thread nD τ).loc main_v13_6) = flat m c S8192x1024 (by decide) 12
      ∧ r.2.mem ((c.tc : Thread nD τ).loc main_v13_7) = flat m c S8192x512 (by decide) 14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
      obtain ⟨after, hL, hA⟩ := RDat.FramePost.exists_exact h.1 c
      exact ⟨(hA 3).trans (arr3 m c after hL), (hA 4).trans (arr4 m c after hL), (hA 5).trans (arr5 m c after hL),
        (hA 6).trans (arr6 m c after hL), (hA 7).trans (arr7 m c after hL), (hA 8).trans (arr8 m c after hL),
        (hA 9).trans (arr9 m c after hL), (hA 10).trans (arr10 m c after hL),
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩)
    (run_main_quiescent m ρ)

end Cert.Kernel5Ideal.Project

end
-- ==== Proof.ProjectRef.lean ====
/-
  The prompt group's input projection, the reference: its results are the columns of the same product.
-/
module

public import proofs.«01_k».proof.Proof.ProjectTerm
public import proofs.«01_k».proof.Proof.Gen.Reference5Ideal.Run

@[expose] public section

set_option maxRecDepth 65536

noncomputable section

namespace Cert.Reference5Ideal.Project

open Idealize.ShloMosaic Idealize.ShloMosaic.Tactic Idealize.SL.Sem Cert.Reference5Ideal Cert.Reference5Ideal.Gen
open Cert.Kernel2Ideal.Memory (nrm)
open Cert.Kernel5Ideal.Project

/-- Entry `r`, `n` of the product of the normalised rows with the weights as launched. -/
def Q (x : FVec Ideal S4x2048x2048 .f32) (g : FVec Ideal S2048 .f32) (w : FVec Ideal S2048x7504 .f32) (r n : ℕ) : EReal :=
  ∑ k : Fin 2048, nrm (row x r) (fun j => g (ix1 j)) k * col w n k

theorem eighth : Ideal.ofBits FTy.f32 0x3E000000#32 = ((1 / 8 : ℝ) : EReal) := by
  simp [Ideal.ofBits, Ideal.ieee, -EReal.coe_mul]; norm_num

theorem sum_eighth {ι : Type} (s : Finset ι) (f : ι → EReal) :
    ∑ k ∈ s, f k * Ideal.ofBits FTy.f32 0x3E000000#32 = (∑ k ∈ s, f k) * Ideal.ofBits FTy.f32 0x3E000000#32 := by
  classical
  rw [eighth]
  have h0 : (0 : EReal) ≤ ((1 / 8 : ℝ) : EReal) := EReal.coe_nonneg.mpr (by norm_num)
  induction s using Finset.induction_on with
  | empty => simp
  | insert a s ha ih =>
    rw [Finset.sum_insert ha, Finset.sum_insert ha, ih, mul_comm (f a + _), EReal.left_distrib_of_nonneg_of_ne_top h0 (EReal.coe_ne_top _),
      mul_comm (f a), mul_comm (∑ k ∈ s, f k)]

variable (x : FVec Ideal S4x2048x2048 .f32) (g : FVec Ideal S2048 .f32) (w : FVec Ideal S2048x7504 .f32)

theorem P_lo (r r' n n' : ℕ) (er : r' = r) (h : n < 3072) (e : n' = n) : P x g w r n = Q x g w r' n' := by
  subst e er; exact Finset.sum_congr rfl fun k _ => by unfold wAll; rw [if_pos h]
theorem P_query (r r' n n' : ℕ) (er : r' = r) (h : 3072 ≤ n) (h' : n < 4096) (e : n' = n + 256) :
    P x g w r n = Q x g w r' n' * Ideal.ofBits FTy.f32 0x3E000000#32 := by
  subst e er; unfold Q; rw [← sum_eighth]
  exact Finset.sum_congr rfl fun k _ => by unfold wAll; rw [if_neg (by omega), if_pos h', mul_assoc]
theorem P_mid (r r' n n' : ℕ) (er : r' = r) (h : 4096 ≤ n) (h' : n < 7168) (e : n' = n + 256) : P x g w r n = Q x g w r' n' := by
  subst e er; exact Finset.sum_congr rfl fun k _ => by unfold wAll; rw [if_neg (by omega), if_neg (by omega), if_pos h']
theorem P_low (r r' n n' : ℕ) (er : r' = r) (h : 7168 ≤ n) (h' : n < 7424) (e : n' = n - 4096) : P x g w r n = Q x g w r' n' := by
  subst e er; exact Finset.sum_congr rfl fun k _ => by
    unfold wAll; rw [if_neg (by omega), if_neg (by omega), if_neg (by omega), if_pos h']
theorem P_tail (r r' n n' : ℕ) (er : r' = r) (h : 7424 ≤ n) (h' : n < 7504) (e : n' = n) : P x g w r n = Q x g w r' n' := by
  subst e er; exact Finset.sum_congr rfl fun k _ => by
    unfold wAll; rw [if_neg (by omega), if_neg (by omega), if_neg (by omega), if_neg (by omega), if_pos h']
theorem P_pad (r n : ℕ) (h : 7504 ≤ n) : P x g w r n = 0 :=
  Finset.sum_eq_zero fun k _ => by
    unfold wAll; rw [if_neg (by omega), if_neg (by omega), if_neg (by omega), if_neg (by omega), if_neg (by omega), mul_zero]

/-- The rows normalised, as the reference writes them, and their product with the weights. -/
def rowsR : FVec Ideal S8192x2048 .f32 :=
  mulf (mulf (shapeCast _ x shapeCasts_S4x2048x2048_S8192x2048) (broadcastInDim S8192x2048 ![0, 1] bcast_S8192x1_S8192x2048_0_1 (Host.rsqrt (addf (Host.divf (broadcastInDim S8192x1 ![0] bcast_S8192_S8192x1_0 (Host.reduceAdd (mulf (shapeCast _ x shapeCasts_S4x2048x2048_S8192x2048) (shapeCast _ x shapeCasts_S4x2048x2048_S8192x2048)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
def dotR : FVec Ideal S8192x7504 .f32 := Host.dotGeneral dot_S8192x2048_S2048x7504_S8192x7504_1_0_0_1_n_n none (rowsR x g) w

theorem rowsR_at (r : Fin 8192) (k : Fin 2048) : rowsR x g (ix2 r k) = nrm (row x r.val) (fun j => g (ix1 j)) k := by
  have e : ∀ k, row x r.val k = x (ix3 ⟨r.val / 2048, by omega⟩ ⟨r.val % 2048, by omega⟩ k) := fun k => by
    unfold row; exact congrArg (fun a => x (ix3 a _ k)) (Fin.ext (Nat.mod_eq_of_lt (by omega)))
  rw [show row x r.val = _ from funext e]
  unfold nrm
  pointwise [rowsR]

theorem dotR_at (i : S8192x7504.Idx) : dotR x g w i = Q x g w (i 0).val (i 1).val := by
  obtain ⟨r, n, rfl⟩ : ∃ (r : Fin 8192) (n : Fin 7504), i = ix2 r n := ⟨i 0, i 1, eq_ix2 i⟩
  show _ = Q x g w r.val n.val
  unfold Q
  pointwise [dotR, rowsR_at]
  refine Finset.sum_congr rfl fun k _ => congrArg _ ?_
  exact col_eq w k _ _ _ rfl

theorem main_eq : extractStridedSlice S8192x3072 ![0, 0] (dotR x g w) slices_S8192x7504_S8192x3072_0_0 = flatP x g w S8192x3072 (by decide) 0 := by
  funext i
  have h1 : (i 1).val < 3072 := (i 1).isLt
  show dotR x g w _ = P x g w (i 0).val (512 * 0 + (i 1).val)
  rw [dotR_at]
  exact (P_lo x g w _ _ _ _ (by show 0 + (i 0).val = _; omega) (by omega) (by show 0 + (i 1).val = _; omega)).symm

theorem keys_eq : extractStridedSlice S8192x1024 ![0, 4352] (dotR x g w) slices_S8192x7504_S8192x1024_0_4352 = flatP x g w S8192x1024 (by decide) 8 := by
  funext i
  have h1 : (i 1).val < 1024 := (i 1).isLt
  show dotR x g w _ = P x g w (i 0).val (512 * 8 + (i 1).val)
  rw [dotR_at]
  exact (P_mid x g w _ _ _ _ (by show 0 + (i 0).val = _; omega) (by omega) (by omega) (by show 4352 + (i 1).val = _; omega)).symm

theorem values_eq : extractStridedSlice S8192x1024 ![0, 5376] (dotR x g w) slices_S8192x7504_S8192x1024_0_5376 = flatP x g w S8192x1024 (by decide) 10 := by
  funext i
  have h1 : (i 1).val < 1024 := (i 1).isLt
  show dotR x g w _ = P x g w (i 0).val (512 * 10 + (i 1).val)
  rw [dotR_at]
  exact (P_mid x g w _ _ _ _ (by show 0 + (i 0).val = _; omega) (by omega) (by omega) (by show 5376 + (i 1).val = _; omega)).symm

theorem index_eq : extractStridedSlice S8192x1024 ![0, 6400] (dotR x g w) slices_S8192x7504_S8192x1024_0_6400 = flatP x g w S8192x1024 (by decide) 12 := by
  funext i
  have h1 : (i 1).val < 1024 := (i 1).isLt
  show dotR x g w _ = P x g w (i 0).val (512 * 12 + (i 1).val)
  rw [dotR_at]
  exact (P_mid x g w _ _ _ _ (by show 0 + (i 0).val = _; omega) (by omega) (by omega) (by show 6400 + (i 1).val = _; omega)).symm

theorem queries_eq : mulf (extractStridedSlice S8192x1024 ![0, 3328] (dotR x g w) slices_S8192x7504_S8192x1024_0_3328)
    (broadcastInDim S8192x1024 ![] bcast_S_S8192x1024 (constant S_ .f32 0x3E000000#32)) = flatP x g w S8192x1024 (by decide) 6 := by
  funext i
  have h1 : (i 1).val < 1024 := (i 1).isLt
  show dotR x g w _ * Ideal.ofBits FTy.f32 0x3E000000#32 = P x g w (i 0).val (512 * 6 + (i 1).val)
  rw [dotR_at]
  exact (P_query x g w _ _ _ _ (by show 0 + (i 0).val = _; omega) (by omega) (by omega) (by show 3328 + (i 1).val = _; omega)).symm

/-- The keys and the values by head: a row of sixteen heads, row after row. -/
theorem heads_eq (f : FVec Ideal S8192x1024 .f32) (lo : ℕ) (hf : f = flatP x g w S8192x1024 (by decide) lo) :
    shapeCast S131072x64 f shapeCasts_S8192x1024_S131072x64 = headedP x g w lo := by
  subst hf
  funext i
  obtain ⟨r, n, rfl⟩ : ∃ (r : Fin 131072) (n : Fin 64), i = ix2 r n := ⟨i 0, i 1, eq_ix2 i⟩
  pointwise []
  unfold flatP headedP
  exact congr_arg₂ (P x g w) rfl (by show 512 * lo + (r.val % 16 * 64 + n.val) = 512 * lo + (64 * (r.val % 16) + n.val); omega)

theorem tail_eq : concatenate S8192x512 1 [⟨S8192x256, (extractStridedSlice S8192x256 ![0, 3072] (dotR x g w) slices_S8192x7504_S8192x256_0_3072 : FVec Ideal S8192x256 .f32)⟩,
    ⟨S8192x80, (extractStridedSlice S8192x80 ![0, 7424] (dotR x g w) slices_S8192x7504_S8192x80_0_7424 : FVec Ideal S8192x80 .f32)⟩,
    ⟨S8192x176, (broadcastInDim S8192x176 ![] bcast_S_S8192x176 (constant S_ .f32 0x00000000#32) : FVec Ideal S8192x176 .f32)⟩]
    concatenates_S8192x256_S8192x80_S8192x176_S8192x512_d1 = flatP x g w S8192x512 (by decide) 14 := by
  funext i
  obtain ⟨r, n, rfl⟩ : ∃ (r : Fin 8192) (n : Fin 512), i = ix2 r n := ⟨i 0, i 1, eq_ix2 i⟩
  show _ = P x g w r.val (512 * 14 + n.val)
  pointwise [dotR_at]
  by_cases h1 : n.val < 256
  · rw [dif_pos h1]
    exact (P_low x g w _ _ _ _ rfl (by omega) (by omega) (by omega)).symm
  rw [dif_neg h1]
  by_cases h2 : n.val - 256 < 80
  · rw [dif_pos h2]
    exact (P_tail x g w _ _ _ _ rfl (by omega) (by omega) (by omega)).symm
  rw [dif_neg h2]
  exact (P_pad x g w _ _ (by omega)).symm

end Cert.Reference5Ideal.Project

end
-- ==== Proof.lean ====
/-
  The proof of every claim of the statement: the frames from the generated runs, the value claim of the recurrence from the
  closed forms of the kernel's results (Chain) and of the reference's (Ref), which are the same two arrays of real numbers,
  and the value claims of the other four calls from Memory, Residual, Cross and Project.
-/
module

public import proofs.«01_k».proof.Proof.Gen.Kernel5.Skeleton
public import proofs.«01_k».proof.Proof.Gen.Kernel5Ideal.Skeleton
public import proofs.«01_k».proof.Proof.Gen.Kernel5Ideal
public import proofs.«01_k».proof.Proof.Gen.Kernel5
public import proofs.«01_k».proof.Proof.Gen.Kernel5Ideal.Launch
public import proofs.«01_k».proof.Proof.Gen.Kernel5.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Reference5Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Chain
public import proofs.«01_k».proof.Proof.Ref
public import proofs.«01_k».proof.Proof.Pre
public import proofs.«01_k».proof.Proof.Memory
public import proofs.«01_k».proof.Proof.Residual
public import proofs.«01_k».proof.Proof.Cross
public import proofs.«01_k».proof.Proof.ProjectBits
public import proofs.«01_k».proof.Proof.ProjectValue
public import proofs.«01_k».proof.Proof.ProjectRef
public import Idealize.ShloMosaic.Lib.Quiescent
public import Idealize.ShloMosaic.Adequacy
public import Idealize.ShloMosaic.Init

@[expose] public section

noncomputable section

namespace Cert.Proof

open Idealize.ShloMosaic Idealize.SL.Sem

/-- The precondition, read argument by argument. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Chain.Reals m c := by
  obtain ⟨r0, r1, r2, r3, r4, r5, r6, r7, r8, r9⟩ := Cert.Finite.isReal_of_fn _ _ _ _ _ _ _ _ _ _ (congrFun (h c) (Shape.Idx.first Cert.Pre_finite.Facts.h_S_))
  exact ⟨r0, r1, r2, r3, r4, r5, r6, r7, r8, r9⟩

/-- The reference runs, leaves its arguments as they were and ends quiescent. -/
theorem reference_frame : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Trips.run_trips (F := Ideal) m ρ)

/-- Over the extended reals, on finite inputs, the kernel and the reference end with the same two results. -/
theorem same_results : Cert.algebraic_KernelIdeal_ReferenceIdeal_pre_finite := by
  intro m ρ m' ρ' hpre hagree
  refine ⟨fun c => Cert.Whole.outAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Whole.stAll (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run _ _ _).mono (fun r h c => ?_) (Cert.KernelIdeal.Value.run (F := Ideal) m ρ)
    exact ⟨(h c).1.trans (Cert.KernelIdeal.Chain.G11_eq m c (reals m hpre c)),
      (h c).2.1.trans (Cert.KernelIdeal.Chain.G12_eq m c (reals m hpre c)), (h c).2.2⟩
  · refine (θ_run _ _ _).mono (fun r h c => ?_) (Cert.ReferenceIdeal.Trips.run_trips (F := Ideal) m' ρ')
    obtain ⟨e0, e1, e2, e3, e4, e5, e6, e7, e8, e9⟩ := hagree c
    have R := reals m hpre c
    refine ⟨(h c).1.trans ?_, (h c).2.1.trans ?_, (h c).2.2⟩
    · rw [Cert.ReferenceIdeal.Loop.iter_eq, e0, e1, e2, e3, e4, e5, e6, e7, e8, e9]
      exact Cert.ReferenceIdeal.Loop.v49_eq _ _ _ _ _ _ _ _ _ _ R.r0 R.r1 R.r2 R.r3 R.r4 R.r5 R.r6 R.r7 R.r8 R.r9
    · rw [Cert.ReferenceIdeal.Loop.iter_eq, e0, e1, e2, e3, e4, e5]
      exact Cert.ReferenceIdeal.Loop.v60_eq _ _ _ _ _ _ R.r1 R.r2 R.r3 R.r4 R.r5

/-- The reference of program 2 runs, leaves its arguments as they were and ends quiescent. -/
theorem reference2_frame : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference of program 3 runs, leaves its arguments as they were and ends quiescent. -/
theorem reference3_frame : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference of program 4 runs, leaves its arguments as they were and ends quiescent. -/
theorem reference4_frame : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Over the extended reals the memory's projections are the reference's. -/
theorem same_results2 : Cert.algebraic_Kernel2Ideal_Reference2Ideal := by
  intro m ρ m' ρ' _ hagree
  refine ⟨fun c => Cert.Kernel2Ideal.Memory.G m c, ?_, ?_⟩
  · exact (θ_run _ _ _).mono (fun r h c => ⟨(h c).1.trans (Cert.Kernel2Ideal.Memory.final m c), (h c).2⟩)
      (Cert.Kernel2Ideal.Value.run_blocks (F := Ideal) m ρ)
  · refine (θ_run _ _ _).mono (fun r h c => ?_) (Cert.Reference2Ideal.Value.run (F := Ideal) m' ρ')
    obtain ⟨e0, e1, e2, e3⟩ := hagree c
    refine ⟨(h c).1.trans ?_, (h c).2⟩
    rw [e0, e1, e2, e3]
    exact Cert.Reference2Ideal.Memory.term_eq _ _ _ _

/-- Over the extended reals the output projection is the reference's. -/
theorem same_results3 : Cert.algebraic_Kernel3Ideal_Reference3Ideal := by
  intro m ρ m' ρ' _ hagree
  refine ⟨fun c => Cert.Kernel3Ideal.Residual.G m c, ?_, ?_⟩
  · exact (θ_run _ _ _).mono (fun r h c => ⟨(h c).1.trans (Cert.Kernel3Ideal.Residual.final m c), (h c).2⟩)
      (Cert.Kernel3Ideal.Value.run_blocks (F := Ideal) m ρ)
  · refine (θ_run _ _ _).mono (fun r h c => ?_) (Cert.Reference3Ideal.Value.run (F := Ideal) m' ρ')
    obtain ⟨e0, e1, e2, e3⟩ := hagree c
    refine ⟨(h c).1.trans ?_, (h c).2⟩
    rw [e0, e1, e2, e3]
    exact Cert.Reference3Ideal.Residual.term_eq _ _ _ _

/-- Over the extended reals the cross attention is the reference's. -/
theorem same_results4 : Cert.algebraic_Kernel4Ideal_Reference4Ideal := by
  intro m ρ m' ρ' _ hagree
  refine ⟨fun c => Cert.Kernel4Ideal.Cross.G m c, ?_, ?_⟩
  · exact (θ_run _ _ _).mono (fun r h c => ⟨(h c).1.trans (Cert.Kernel4Ideal.Cross.final m c), (h c).2⟩)
      (Cert.Kernel4Ideal.Value.run_blocks (F := Ideal) m ρ)
  · refine (θ_run _ _ _).mono (fun r h c => ?_) (Cert.Reference4Ideal.Value.run (F := Ideal) m' ρ')
    obtain ⟨e0, e1, e2, e3, e4, e5⟩ := hagree c
    refine ⟨(h c).1.trans ?_, (h c).2⟩
    rw [Cert.Reference4Ideal.Cross.res_eq, e0, e1, e2, e3, e4, e5]
    rfl

/-- The reference of program 5 runs, leaves its arguments as they were and ends quiescent. -/
theorem reference5_frame : Cert.quiescent_Reference5Ideal := fun m ρ _ =>
  (θ_run Cert.Reference5Ideal.defs _ _).mono (fun r h => ⟨fun c => (h c).2.2.2.2.2.2.2.2, Idealize.ShloMosaic.sem_eq_zero_of_no_sems (by decide) r.2⟩)
    (Cert.Reference5Ideal.Value.run (F := Ideal) m ρ)

open Cert.Kernel5Ideal.Project in
open Cert.Reference5Ideal.Project in
/-- Over the extended reals the prompt group's input projection is the reference's, all eight results. -/
theorem same_results5 : Cert.algebraic_Kernel5Ideal_Reference5Ideal := by
  intro m ρ m' ρ' _ hagree
  refine ⟨fun c => flat m c Cert.Kernel5Ideal.S8192x3072 (by decide) 0, fun c => flat m c Cert.Kernel5Ideal.S8192x1024 (by decide) 6,
    fun c => headed m c 8, fun c => flat m c Cert.Kernel5Ideal.S8192x1024 (by decide) 8, fun c => headed m c 10,
    fun c => flat m c Cert.Kernel5Ideal.S8192x1024 (by decide) 10, fun c => flat m c Cert.Kernel5Ideal.S8192x1024 (by decide) 12,
    fun c => flat m c Cert.Kernel5Ideal.S8192x512 (by decide) 14, Cert.Kernel5Ideal.Project.run m ρ, ?_⟩
  refine (θ_run _ _ _).mono (fun r h c => ?_) (Cert.Reference5Ideal.Value.run (F := Ideal) m' ρ')
  obtain ⟨e0, e1, e2⟩ := hagree c
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩ <;> rw [e0, e1, e2]
  · exact main_eq _ _ _
  · exact queries_eq _ _ _
  · exact heads_eq _ _ _ _ _ (keys_eq _ _ _)
  · exact keys_eq _ _ _
  · exact heads_eq _ _ _ _ _ (values_eq _ _ _)
  · exact values_eq _ _ _
  · exact index_eq _ _ _
  · exact tail_eq _ _ _

/-- Everything the statement claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Project.frame m ρ,
  fun m ρ _ => Cert.Kernel5Ideal.Project.frame m ρ,
  reference5_frame,
  trivial,
  same_results,
  trivial,
  same_results2,
  trivial,
  same_results3,
  trivial,
  same_results4,
  trivial,
  same_results5⟩

end Cert.Proof

end
